-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Cattn (m : (ℓ : Loc Cert.Cattn.nD Cert.Cattn.τ Cert.Cattn.sig) → Buf (Elt Bits) ℓ) : Prop :=
  True

def Pre_CattnIdeal (m : (ℓ : Loc Cert.CattnIdeal.nD Cert.CattnIdeal.τ Cert.CattnIdeal.sig) → Buf (Elt Ideal) ℓ) : Prop :=
  True

def Pre_CattnIdeal_finite_cattn [hPre_finite_cattn : Cert.Pre_finite_cattn.Facts] (m : (ℓ : Loc Cert.CattnIdeal.nD Cert.CattnIdeal.τ Cert.CattnIdeal.sig) → Buf (Elt Ideal) ℓ) : Prop :=
  ∀ c : Dev Cert.CattnIdeal.nD,
    (Cert.Pre_finite_cattn.fn (F := Ideal) (m ((c.tc : Thread Cert.CattnIdeal.nD Cert.CattnIdeal.τ).loc Cert.CattnIdeal.main_arg0)) (m ((c.tc : Thread Cert.CattnIdeal.nD Cert.CattnIdeal.τ).loc Cert.CattnIdeal.main_arg1)) (m ((c.tc : Thread Cert.CattnIdeal.nD Cert.CattnIdeal.τ).loc Cert.CattnIdeal.main_arg2)) (m ((c.tc : Thread Cert.CattnIdeal.nD Cert.CattnIdeal.τ).loc Cert.CattnIdeal.main_arg3))) = (fun _ => 1#1)

def Pre_CattnRefIdeal (m : (ℓ : Loc Cert.CattnRefIdeal.nD Cert.CattnRefIdeal.τ Cert.CattnRefIdeal.sig) → Buf (Elt Ideal) ℓ) : Prop :=
  True

def Pre_CattnRefIdeal_finite_cattn [hPre_finite_cattn : Cert.Pre_finite_cattn.Facts] (m : (ℓ : Loc Cert.CattnRefIdeal.nD Cert.CattnRefIdeal.τ Cert.CattnRefIdeal.sig) → Buf (Elt Ideal) ℓ) : Prop :=
  ∀ c : Dev Cert.CattnRefIdeal.nD,
    (Cert.Pre_finite_cattn.fn (F := Ideal) (m ((c.tc : Thread Cert.CattnRefIdeal.nD Cert.CattnRefIdeal.τ).loc Cert.CattnRefIdeal.main_arg0)) (m ((c.tc : Thread Cert.CattnRefIdeal.nD Cert.CattnRefIdeal.τ).loc Cert.CattnRefIdeal.main_arg1)) (m ((c.tc : Thread Cert.CattnRefIdeal.nD Cert.CattnRefIdeal.τ).loc Cert.CattnRefIdeal.main_arg2)) (m ((c.tc : Thread Cert.CattnRefIdeal.nD Cert.CattnRefIdeal.τ).loc Cert.CattnRefIdeal.main_arg3))) = (fun _ => 1#1)

def Pre_Fine (m : (ℓ : Loc Cert.Fine.nD Cert.Fine.τ Cert.Fine.sig) → Buf (Elt Bits) ℓ) : Prop :=
  True

def Pre_FineIdeal (m : (ℓ : Loc Cert.FineIdeal.nD Cert.FineIdeal.τ Cert.FineIdeal.sig) → Buf (Elt Ideal) ℓ) : Prop :=
  True

def Pre_FineIdeal_finite_fine [hPre_finite_fine : Cert.Pre_finite_fine.Facts] (m : (ℓ : Loc Cert.FineIdeal.nD Cert.FineIdeal.τ Cert.FineIdeal.sig) → Buf (Elt Ideal) ℓ) : Prop :=
  ∀ c : Dev Cert.FineIdeal.nD,
    (Cert.Pre_finite_fine.fn (F := Ideal) (m ((c.tc : Thread Cert.FineIdeal.nD Cert.FineIdeal.τ).loc Cert.FineIdeal.main_arg0)) (m ((c.tc : Thread Cert.FineIdeal.nD Cert.FineIdeal.τ).loc Cert.FineIdeal.main_arg1)) (m ((c.tc : Thread Cert.FineIdeal.nD Cert.FineIdeal.τ).loc Cert.FineIdeal.main_arg2)) (m ((c.tc : Thread Cert.FineIdeal.nD Cert.FineIdeal.τ).loc Cert.FineIdeal.main_arg3))) = (fun _ => 1#1)

def Pre_FineRefIdeal (m : (ℓ : Loc Cert.FineRefIdeal.nD Cert.FineRefIdeal.τ Cert.FineRefIdeal.sig) → Buf (Elt Ideal) ℓ) : Prop :=
  True

def Pre_FineRefIdeal_finite_fine [hPre_finite_fine : Cert.Pre_finite_fine.Facts] (m : (ℓ : Loc Cert.FineRefIdeal.nD Cert.FineRefIdeal.τ Cert.FineRefIdeal.sig) → Buf (Elt Ideal) ℓ) : Prop :=
  ∀ c : Dev Cert.FineRefIdeal.nD,
    (Cert.Pre_finite_fine.fn (F := Ideal) (m ((c.tc : Thread Cert.FineRefIdeal.nD Cert.FineRefIdeal.τ).loc Cert.FineRefIdeal.main_arg0)) (m ((c.tc : Thread Cert.FineRefIdeal.nD Cert.FineRefIdeal.τ).loc Cert.FineRefIdeal.main_arg1)) (m ((c.tc : Thread Cert.FineRefIdeal.nD Cert.FineRefIdeal.τ).loc Cert.FineRefIdeal.main_arg2)) (m ((c.tc : Thread Cert.FineRefIdeal.nD Cert.FineRefIdeal.τ).loc Cert.FineRefIdeal.main_arg3))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7))
      ∧ r.2.sem = fun _ => 0)

def quiescent_Cattn [hCattn : Cert.Cattn.Facts] : Prop :=
  ∀ (m : (ℓ : Loc Cert.Cattn.nD Cert.Cattn.τ Cert.Cattn.sig) → Buf (Elt Bits) ℓ) (g : Dev Cert.Cattn.nD → PrngReg), Pre_Cattn m →
    θ_run (Cert.Cattn.defs (F := Bits)) (onTc (τ := Cert.Cattn.τ) (Cert.Cattn.main (F := Bits))) ⟨m, fun _ => 0, g⟩ (fun r => (∀ c : Dev Cert.Cattn.nD,
      r.2.mem ((c.tc : Thread Cert.Cattn.nD Cert.Cattn.τ).loc Cert.Cattn.main_arg0) = m ((c.tc : Thread Cert.Cattn.nD Cert.Cattn.τ).loc Cert.Cattn.main_arg0)
      ∧ r.2.mem ((c.tc : Thread Cert.Cattn.nD Cert.Cattn.τ).loc Cert.Cattn.main_arg1) = m ((c.tc : Thread Cert.Cattn.nD Cert.Cattn.τ).loc Cert.Cattn.main_arg1)
      ∧ r.2.mem ((c.tc : Thread Cert.Cattn.nD Cert.Cattn.τ).loc Cert.Cattn.main_arg2) = m ((c.tc : Thread Cert.Cattn.nD Cert.Cattn.τ).loc Cert.Cattn.main_arg2)
      ∧ r.2.mem ((c.tc : Thread Cert.Cattn.nD Cert.Cattn.τ).loc Cert.Cattn.main_arg3) = m ((c.tc : Thread Cert.Cattn.nD Cert.Cattn.τ).loc Cert.Cattn.main_arg3))
      ∧ r.2.sem = fun _ => 0)

def quiescent_CattnIdeal [hCattnIdeal : Cert.CattnIdeal.Facts] : Prop :=
  ∀ (m : (ℓ : Loc Cert.CattnIdeal.nD Cert.CattnIdeal.τ Cert.CattnIdeal.sig) → Buf (Elt Ideal) ℓ) (g : Dev Cert.CattnIdeal.nD → PrngReg), Pre_CattnIdeal m →
    θ_run (Cert.CattnIdeal.defs (F := Ideal)) (onTc (τ := Cert.CattnIdeal.τ) (Cert.CattnIdeal.main (F := Ideal))) ⟨m, fun _ => 0, g⟩ (fun r => (∀ c : Dev Cert.CattnIdeal.nD,
      r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
      ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1)
      ∧ r.2.mem ((c.tc : Thread Cert.CattnIdeal.nD Cert.CattnIdeal.τ).loc Cert.CattnIdeal.main_arg2) = m ((c.tc : Thread Cert.CattnIdeal.nD Cert.CattnIdeal.τ).loc Cert.CattnIdeal.main_arg2)
      ∧ r.2.mem ((c.tc : Thread Cert.CattnIdeal.nD Cert.CattnIdeal.τ).loc Cert.CattnIdeal.main_arg3) = m ((c.tc : Thread Cert.CattnIdeal.nD Cert.CattnIdeal.τ).loc Cert.CattnIdeal.main_arg3))
      ∧ r.2.sem = fun _ => 0)

def quiescent_CattnIdeal_pre_finite_cattn [hCattnIdeal : Cert.CattnIdeal.Facts] [hPre_finite_cattn : Cert.Pre_finite_cattn.Facts] : Prop :=
  ∀ (m : (ℓ : Loc Cert.CattnIdeal.nD Cert.CattnIdeal.τ Cert.CattnIdeal.sig) → Buf (Elt Ideal) ℓ) (g : Dev Cert.CattnIdeal.nD → PrngReg), Pre_CattnIdeal_finite_cattn m →
    θ_run (Cert.CattnIdeal.defs (F := Ideal)) (onTc (τ := Cert.CattnIdeal.τ) (Cert.CattnIdeal.main (F := Ideal))) ⟨m, fun _ => 0, g⟩ (fun r => (∀ c : Dev Cert.CattnIdeal.nD,
      r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
      ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1)
      ∧ r.2.mem ((c.tc : Thread Cert.CattnIdeal.nD Cert.CattnIdeal.τ).loc Cert.CattnIdeal.main_arg2) = m ((c.tc : Thread Cert.CattnIdeal.nD Cert.CattnIdeal.τ).loc Cert.CattnIdeal.main_arg2)
      ∧ r.2.mem ((c.tc : Thread Cert.CattnIdeal.nD Cert.CattnIdeal.τ).loc Cert.CattnIdeal.main_arg3) = m ((c.tc : Thread Cert.CattnIdeal.nD Cert.CattnIdeal.τ).loc Cert.CattnIdeal.main_arg3))
      ∧ r.2.sem = fun _ => 0)

def quiescent_CattnRefIdeal [hCattnRefIdeal : Cert.CattnRefIdeal.Facts] : Prop :=
  ∀ (m : (ℓ : Loc Cert.CattnRefIdeal.nD Cert.CattnRefIdeal.τ Cert.CattnRefIdeal.sig) → Buf (Elt Ideal) ℓ) (g : Dev Cert.CattnRefIdeal.nD → PrngReg), Pre_CattnRefIdeal m →
    θ_run (Cert.CattnRefIdeal.defs (F := Ideal)) (onTc (τ := Cert.CattnRefIdeal.τ) (Cert.CattnRefIdeal.main (F := Ideal))) ⟨m, fun _ => 0, g⟩ (fun r => (∀ c : Dev Cert.CattnRefIdeal.nD,
      r.2.mem ((c.tc : Thread Cert.CattnRefIdeal.nD Cert.CattnRefIdeal.τ).loc Cert.CattnRefIdeal.main_arg0) = m ((c.tc : Thread Cert.CattnRefIdeal.nD Cert.CattnRefIdeal.τ).loc Cert.CattnRefIdeal.main_arg0)
      ∧ r.2.mem ((c.tc : Thread Cert.CattnRefIdeal.nD Cert.CattnRefIdeal.τ).loc Cert.CattnRefIdeal.main_arg1) = m ((c.tc : Thread Cert.CattnRefIdeal.nD Cert.CattnRefIdeal.τ).loc Cert.CattnRefIdeal.main_arg1)
      ∧ r.2.mem ((c.tc : Thread Cert.CattnRefIdeal.nD Cert.CattnRefIdeal.τ).loc Cert.CattnRefIdeal.main_arg2) = m ((c.tc : Thread Cert.CattnRefIdeal.nD Cert.CattnRefIdeal.τ).loc Cert.CattnRefIdeal.main_arg2)
      ∧ r.2.mem ((c.tc : Thread Cert.CattnRefIdeal.nD Cert.CattnRefIdeal.τ).loc Cert.CattnRefIdeal.main_arg3) = m ((c.tc : Thread Cert.CattnRefIdeal.nD Cert.CattnRefIdeal.τ).loc Cert.CattnRefIdeal.main_arg3))
      ∧ r.2.sem = fun _ => 0)

def quiescent_CattnRefIdeal_pre_finite_cattn [hCattnRefIdeal : Cert.CattnRefIdeal.Facts] [hPre_finite_cattn : Cert.Pre_finite_cattn.Facts] : Prop :=
  ∀ (m : (ℓ : Loc Cert.CattnRefIdeal.nD Cert.CattnRefIdeal.τ Cert.CattnRefIdeal.sig) → Buf (Elt Ideal) ℓ) (g : Dev Cert.CattnRefIdeal.nD → PrngReg), Pre_CattnRefIdeal_finite_cattn m →
    θ_run (Cert.CattnRefIdeal.defs (F := Ideal)) (onTc (τ := Cert.CattnRefIdeal.τ) (Cert.CattnRefIdeal.main (F := Ideal))) ⟨m, fun _ => 0, g⟩ (fun r => (∀ c : Dev Cert.CattnRefIdeal.nD,
      r.2.mem ((c.tc : Thread Cert.CattnRefIdeal.nD Cert.CattnRefIdeal.τ).loc Cert.CattnRefIdeal.main_arg0) = m ((c.tc : Thread Cert.CattnRefIdeal.nD Cert.CattnRefIdeal.τ).loc Cert.CattnRefIdeal.main_arg0)
      ∧ r.2.mem ((c.tc : Thread Cert.CattnRefIdeal.nD Cert.CattnRefIdeal.τ).loc Cert.CattnRefIdeal.main_arg1) = m ((c.tc : Thread Cert.CattnRefIdeal.nD Cert.CattnRefIdeal.τ).loc Cert.CattnRefIdeal.main_arg1)
      ∧ r.2.mem ((c.tc : Thread Cert.CattnRefIdeal.nD Cert.CattnRefIdeal.τ).loc Cert.CattnRefIdeal.main_arg2) = m ((c.tc : Thread Cert.CattnRefIdeal.nD Cert.CattnRefIdeal.τ).loc Cert.CattnRefIdeal.main_arg2)
      ∧ r.2.mem ((c.tc : Thread Cert.CattnRefIdeal.nD Cert.CattnRefIdeal.τ).loc Cert.CattnRefIdeal.main_arg3) = m ((c.tc : Thread Cert.CattnRefIdeal.nD Cert.CattnRefIdeal.τ).loc Cert.CattnRefIdeal.main_arg3))
      ∧ r.2.sem = fun _ => 0)

def quiescent_Fine [hFine : Cert.Fine.Facts] : Prop :=
  ∀ (m : (ℓ : Loc Cert.Fine.nD Cert.Fine.τ Cert.Fine.sig) → Buf (Elt Bits) ℓ) (g : Dev Cert.Fine.nD → PrngReg), Pre_Fine m →
    θ_run (Cert.Fine.defs (F := Bits)) (onTc (τ := Cert.Fine.τ) (Cert.Fine.main (F := Bits))) ⟨m, fun _ => 0, g⟩ (fun r => (∀ c : Dev Cert.Fine.nD,
      r.2.mem ((c.tc : Thread Cert.Fine.nD Cert.Fine.τ).loc Cert.Fine.main_arg0) = m ((c.tc : Thread Cert.Fine.nD Cert.Fine.τ).loc Cert.Fine.main_arg0)
      ∧ r.2.mem ((c.tc : Thread Cert.Fine.nD Cert.Fine.τ).loc Cert.Fine.main_arg1) = m ((c.tc : Thread Cert.Fine.nD Cert.Fine.τ).loc Cert.Fine.main_arg1)
      ∧ r.2.mem ((c.tc : Thread Cert.Fine.nD Cert.Fine.τ).loc Cert.Fine.main_arg2) = m ((c.tc : Thread Cert.Fine.nD Cert.Fine.τ).loc Cert.Fine.main_arg2)
      ∧ r.2.mem ((c.tc : Thread Cert.Fine.nD Cert.Fine.τ).loc Cert.Fine.main_arg3) = m ((c.tc : Thread Cert.Fine.nD Cert.Fine.τ).loc Cert.Fine.main_arg3))
      ∧ r.2.sem = fun _ => 0)

def quiescent_FineIdeal [hFineIdeal : Cert.FineIdeal.Facts] : Prop :=
  ∀ (m : (ℓ : Loc Cert.FineIdeal.nD Cert.FineIdeal.τ Cert.FineIdeal.sig) → Buf (Elt Ideal) ℓ) (g : Dev Cert.FineIdeal.nD → PrngReg), Pre_FineIdeal m →
    θ_run (Cert.FineIdeal.defs (F := Ideal)) (onTc (τ := Cert.FineIdeal.τ) (Cert.FineIdeal.main (F := Ideal))) ⟨m, fun _ => 0, g⟩ (fun r => (∀ c : Dev Cert.FineIdeal.nD,
      r.2.mem ((c.tc : Thread Cert.FineIdeal.nD Cert.FineIdeal.τ).loc Cert.FineIdeal.main_arg0) = m ((c.tc : Thread Cert.FineIdeal.nD Cert.FineIdeal.τ).loc Cert.FineIdeal.main_arg0)
      ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
      ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
      ∧ r.2.mem ((c.tc : Thread Cert.FineIdeal.nD Cert.FineIdeal.τ).loc Cert.FineIdeal.main_arg3) = m ((c.tc : Thread Cert.FineIdeal.nD Cert.FineIdeal.τ).loc Cert.FineIdeal.main_arg3))
      ∧ r.2.sem = fun _ => 0)

def quiescent_FineIdeal_pre_finite_fine [hFineIdeal : Cert.FineIdeal.Facts] [hPre_finite_fine : Cert.Pre_finite_fine.Facts] : Prop :=
  ∀ (m : (ℓ : Loc Cert.FineIdeal.nD Cert.FineIdeal.τ Cert.FineIdeal.sig) → Buf (Elt Ideal) ℓ) (g : Dev Cert.FineIdeal.nD → PrngReg), Pre_FineIdeal_finite_fine m →
    θ_run (Cert.FineIdeal.defs (F := Ideal)) (onTc (τ := Cert.FineIdeal.τ) (Cert.FineIdeal.main (F := Ideal))) ⟨m, fun _ => 0, g⟩ (fun r => (∀ c : Dev Cert.FineIdeal.nD,
      r.2.mem ((c.tc : Thread Cert.FineIdeal.nD Cert.FineIdeal.τ).loc Cert.FineIdeal.main_arg0) = m ((c.tc : Thread Cert.FineIdeal.nD Cert.FineIdeal.τ).loc Cert.FineIdeal.main_arg0)
      ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
      ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
      ∧ r.2.mem ((c.tc : Thread Cert.FineIdeal.nD Cert.FineIdeal.τ).loc Cert.FineIdeal.main_arg3) = m ((c.tc : Thread Cert.FineIdeal.nD Cert.FineIdeal.τ).loc Cert.FineIdeal.main_arg3))
      ∧ r.2.sem = fun _ => 0)

def quiescent_FineRefIdeal [hFineRefIdeal : Cert.FineRefIdeal.Facts] : Prop :=
  ∀ (m : (ℓ : Loc Cert.FineRefIdeal.nD Cert.FineRefIdeal.τ Cert.FineRefIdeal.sig) → Buf (Elt Ideal) ℓ) (g : Dev Cert.FineRefIdeal.nD → PrngReg), Pre_FineRefIdeal m →
    θ_run (Cert.FineRefIdeal.defs (F := Ideal)) (onTc (τ := Cert.FineRefIdeal.τ) (Cert.FineRefIdeal.main (F := Ideal))) ⟨m, fun _ => 0, g⟩ (fun r => (∀ c : Dev Cert.FineRefIdeal.nD,
      r.2.mem ((c.tc : Thread Cert.FineRefIdeal.nD Cert.FineRefIdeal.τ).loc Cert.FineRefIdeal.main_arg0) = m ((c.tc : Thread Cert.FineRefIdeal.nD Cert.FineRefIdeal.τ).loc Cert.FineRefIdeal.main_arg0)
      ∧ r.2.mem ((c.tc : Thread Cert.FineRefIdeal.nD Cert.FineRefIdeal.τ).loc Cert.FineRefIdeal.main_arg1) = m ((c.tc : Thread Cert.FineRefIdeal.nD Cert.FineRefIdeal.τ).loc Cert.FineRefIdeal.main_arg1)
      ∧ r.2.mem ((c.tc : Thread Cert.FineRefIdeal.nD Cert.FineRefIdeal.τ).loc Cert.FineRefIdeal.main_arg2) = m ((c.tc : Thread Cert.FineRefIdeal.nD Cert.FineRefIdeal.τ).loc Cert.FineRefIdeal.main_arg2)
      ∧ r.2.mem ((c.tc : Thread Cert.FineRefIdeal.nD Cert.FineRefIdeal.τ).loc Cert.FineRefIdeal.main_arg3) = m ((c.tc : Thread Cert.FineRefIdeal.nD Cert.FineRefIdeal.τ).loc Cert.FineRefIdeal.main_arg3))
      ∧ r.2.sem = fun _ => 0)

def quiescent_FineRefIdeal_pre_finite_fine [hFineRefIdeal : Cert.FineRefIdeal.Facts] [hPre_finite_fine : Cert.Pre_finite_fine.Facts] : Prop :=
  ∀ (m : (ℓ : Loc Cert.FineRefIdeal.nD Cert.FineRefIdeal.τ Cert.FineRefIdeal.sig) → Buf (Elt Ideal) ℓ) (g : Dev Cert.FineRefIdeal.nD → PrngReg), Pre_FineRefIdeal_finite_fine m →
    θ_run (Cert.FineRefIdeal.defs (F := Ideal)) (onTc (τ := Cert.FineRefIdeal.τ) (Cert.FineRefIdeal.main (F := Ideal))) ⟨m, fun _ => 0, g⟩ (fun r => (∀ c : Dev Cert.FineRefIdeal.nD,
      r.2.mem ((c.tc : Thread Cert.FineRefIdeal.nD Cert.FineRefIdeal.τ).loc Cert.FineRefIdeal.main_arg0) = m ((c.tc : Thread Cert.FineRefIdeal.nD Cert.FineRefIdeal.τ).loc Cert.FineRefIdeal.main_arg0)
      ∧ r.2.mem ((c.tc : Thread Cert.FineRefIdeal.nD Cert.FineRefIdeal.τ).loc Cert.FineRefIdeal.main_arg1) = m ((c.tc : Thread Cert.FineRefIdeal.nD Cert.FineRefIdeal.τ).loc Cert.FineRefIdeal.main_arg1)
      ∧ r.2.mem ((c.tc : Thread Cert.FineRefIdeal.nD Cert.FineRefIdeal.τ).loc Cert.FineRefIdeal.main_arg2) = m ((c.tc : Thread Cert.FineRefIdeal.nD Cert.FineRefIdeal.τ).loc Cert.FineRefIdeal.main_arg2)
      ∧ r.2.mem ((c.tc : Thread Cert.FineRefIdeal.nD Cert.FineRefIdeal.τ).loc Cert.FineRefIdeal.main_arg3) = m ((c.tc : Thread Cert.FineRefIdeal.nD Cert.FineRefIdeal.τ).loc Cert.FineRefIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v31_0)) (v1 : (c : Dev Cert.QkvIdeal.nD) → Buf (Elt Ideal) ((c.tc : Thread Cert.QkvIdeal.nD Cert.QkvIdeal.τ).loc Cert.QkvIdeal.main_v31_1)) (v2 : (c : Dev Cert.QkvIdeal.nD) → Buf (Elt Ideal) ((c.tc : Thread Cert.QkvIdeal.nD Cert.QkvIdeal.τ).loc Cert.QkvIdeal.main_v31_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v31_0) = v0 c
          ∧ r.2.mem ((c.tc : Thread Cert.QkvIdeal.nD Cert.QkvIdeal.τ).loc Cert.QkvIdeal.main_v31_1) = v1 c
          ∧ r.2.mem ((c.tc : Thread Cert.QkvIdeal.nD Cert.QkvIdeal.τ).loc Cert.QkvIdeal.main_v31_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v92) = v0 c
          ∧ r.2.mem ((c.tc : Thread Cert.QkvRefIdeal.nD Cert.QkvRefIdeal.τ).loc Cert.QkvRefIdeal.main_v93) = v1 c
          ∧ r.2.mem ((c.tc : Thread Cert.QkvRefIdeal.nD Cert.QkvRefIdeal.τ).loc Cert.QkvRefIdeal.main_v94) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Compress_CompressIdeal : Prop :=
  True

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v4_0)) (v1 : (c : Dev Cert.CompressIdeal.nD) → Buf (Elt Ideal) ((c.tc : Thread Cert.CompressIdeal.nD Cert.CompressIdeal.τ).loc Cert.CompressIdeal.main_v4_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v4_0) = v0 c
          ∧ r.2.mem ((c.tc : Thread Cert.CompressIdeal.nD Cert.CompressIdeal.τ).loc Cert.CompressIdeal.main_v4_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v26) = v0 c
          ∧ r.2.mem ((c.tc : Thread Cert.CompressRefIdeal.nD Cert.CompressRefIdeal.τ).loc Cert.CompressRefIdeal.main_v27) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7))

def preserves_Cattn_CattnIdeal : Prop :=
  True

def algebraic_CattnIdeal_CattnRefIdeal_pre_finite_cattn [hCattnIdeal : Cert.CattnIdeal.Facts] [hCattnRefIdeal : Cert.CattnRefIdeal.Facts] [hPre_finite_cattn : Cert.Pre_finite_cattn.Facts] : Prop :=
  ∀ (m : (ℓ : Loc Cert.CattnIdeal.nD Cert.CattnIdeal.τ Cert.CattnIdeal.sig) → Buf (Elt Ideal) ℓ) (g : Dev Cert.CattnIdeal.nD → PrngReg)
    (m' : (ℓ : Loc Cert.CattnRefIdeal.nD Cert.CattnRefIdeal.τ Cert.CattnRefIdeal.sig) → Buf (Elt Ideal) ℓ) (g' : Dev Cert.CattnRefIdeal.nD → PrngReg), Pre_CattnIdeal_finite_cattn m →
    (∀ c : Dev Cert.CattnIdeal.nD,
      m' ((c.tc : Thread Cert.CattnRefIdeal.nD Cert.CattnRefIdeal.τ).loc Cert.CattnRefIdeal.main_arg0) = m ((c.tc : Thread Cert.CattnIdeal.nD Cert.CattnIdeal.τ).loc Cert.CattnIdeal.main_arg0)
      ∧ m' ((c.tc : Thread Cert.CattnRefIdeal.nD Cert.CattnRefIdeal.τ).loc Cert.CattnRefIdeal.main_arg1) = m ((c.tc : Thread Cert.CattnIdeal.nD Cert.CattnIdeal.τ).loc Cert.CattnIdeal.main_arg1)
      ∧ m' ((c.tc : Thread Cert.CattnRefIdeal.nD Cert.CattnRefIdeal.τ).loc Cert.CattnRefIdeal.main_arg2) = m ((c.tc : Thread Cert.CattnIdeal.nD Cert.CattnIdeal.τ).loc Cert.CattnIdeal.main_arg2)
      ∧ m' ((c.tc : Thread Cert.CattnRefIdeal.nD Cert.CattnRefIdeal.τ).loc Cert.CattnRefIdeal.main_arg3) = m ((c.tc : Thread Cert.CattnIdeal.nD Cert.CattnIdeal.τ).loc Cert.CattnIdeal.main_arg3)) →
    ∃ (v0 : (c : Dev Cert.CattnIdeal.nD) → Buf (Elt Ideal) ((c.tc : Thread Cert.CattnIdeal.nD Cert.CattnIdeal.τ).loc Cert.CattnIdeal.main_v4_0)) (v1 : (c : Dev Cert.CattnIdeal.nD) → Buf (Elt Ideal) ((c.tc : Thread Cert.CattnIdeal.nD Cert.CattnIdeal.τ).loc Cert.CattnIdeal.main_v4_1)),
      θ_run (Cert.CattnIdeal.defs (F := Ideal)) (onTc (τ := Cert.CattnIdeal.τ) (Cert.CattnIdeal.main (F := Ideal))) ⟨m, fun _ => 0, g⟩ (fun r => ∀ c : Dev Cert.CattnIdeal.nD,
          r.2.mem ((c.tc : Thread Cert.CattnIdeal.nD Cert.CattnIdeal.τ).loc Cert.CattnIdeal.main_v4_0) = v0 c
          ∧ r.2.mem ((c.tc : Thread Cert.CattnIdeal.nD Cert.CattnIdeal.τ).loc Cert.CattnIdeal.main_v4_1) = v1 c
          ∧ r.2.mem ((c.tc : Thread Cert.CattnIdeal.nD Cert.CattnIdeal.τ).loc Cert.CattnIdeal.main_arg0) = m ((c.tc : Thread Cert.CattnIdeal.nD Cert.CattnIdeal.τ).loc Cert.CattnIdeal.main_arg0)
          ∧ r.2.mem ((c.tc : Thread Cert.CattnIdeal.nD Cert.CattnIdeal.τ).loc Cert.CattnIdeal.main_arg1) = m ((c.tc : Thread Cert.CattnIdeal.nD Cert.CattnIdeal.τ).loc Cert.CattnIdeal.main_arg1)
          ∧ r.2.mem ((c.tc : Thread Cert.CattnIdeal.nD Cert.CattnIdeal.τ).loc Cert.CattnIdeal.main_arg2) = m ((c.tc : Thread Cert.CattnIdeal.nD Cert.CattnIdeal.τ).loc Cert.CattnIdeal.main_arg2)
          ∧ r.2.mem ((c.tc : Thread Cert.CattnIdeal.nD Cert.CattnIdeal.τ).loc Cert.CattnIdeal.main_arg3) = m ((c.tc : Thread Cert.CattnIdeal.nD Cert.CattnIdeal.τ).loc Cert.CattnIdeal.main_arg3))
      ∧ θ_run (Cert.CattnRefIdeal.defs (F := Ideal)) (onTc (τ := Cert.CattnRefIdeal.τ) (Cert.CattnRefIdeal.main (F := Ideal))) ⟨m', fun _ => 0, g'⟩ (fun r => ∀ c : Dev Cert.CattnRefIdeal.nD,
          r.2.mem ((c.tc : Thread Cert.CattnRefIdeal.nD Cert.CattnRefIdeal.τ).loc Cert.CattnRefIdeal.main_v49) = v0 c
          ∧ r.2.mem ((c.tc : Thread Cert.CattnRefIdeal.nD Cert.CattnRefIdeal.τ).loc Cert.CattnRefIdeal.main_v50) = v1 c
          ∧ r.2.mem ((c.tc : Thread Cert.CattnRefIdeal.nD Cert.CattnRefIdeal.τ).loc Cert.CattnRefIdeal.main_arg0) = m' ((c.tc : Thread Cert.CattnRefIdeal.nD Cert.CattnRefIdeal.τ).loc Cert.CattnRefIdeal.main_arg0)
          ∧ r.2.mem ((c.tc : Thread Cert.CattnRefIdeal.nD Cert.CattnRefIdeal.τ).loc Cert.CattnRefIdeal.main_arg1) = m' ((c.tc : Thread Cert.CattnRefIdeal.nD Cert.CattnRefIdeal.τ).loc Cert.CattnRefIdeal.main_arg1)
          ∧ r.2.mem ((c.tc : Thread Cert.CattnRefIdeal.nD Cert.CattnRefIdeal.τ).loc Cert.CattnRefIdeal.main_arg2) = m' ((c.tc : Thread Cert.CattnRefIdeal.nD Cert.CattnRefIdeal.τ).loc Cert.CattnRefIdeal.main_arg2)
          ∧ r.2.mem ((c.tc : Thread Cert.CattnRefIdeal.nD Cert.CattnRefIdeal.τ).loc Cert.CattnRefIdeal.main_arg3) = m' ((c.tc : Thread Cert.CattnRefIdeal.nD Cert.CattnRefIdeal.τ).loc Cert.CattnRefIdeal.main_arg3))

def preserves_Fine_FineIdeal : Prop :=
  True

def algebraic_FineIdeal_FineRefIdeal_pre_finite_fine [hFineIdeal : Cert.FineIdeal.Facts] [hFineRefIdeal : Cert.FineRefIdeal.Facts] [hPre_finite_fine : Cert.Pre_finite_fine.Facts] : Prop :=
  ∀ (m : (ℓ : Loc Cert.FineIdeal.nD Cert.FineIdeal.τ Cert.FineIdeal.sig) → Buf (Elt Ideal) ℓ) (g : Dev Cert.FineIdeal.nD → PrngReg)
    (m' : (ℓ : Loc Cert.FineRefIdeal.nD Cert.FineRefIdeal.τ Cert.FineRefIdeal.sig) → Buf (Elt Ideal) ℓ) (g' : Dev Cert.FineRefIdeal.nD → PrngReg), Pre_FineIdeal_finite_fine m →
    (∀ c : Dev Cert.FineIdeal.nD,
      m' ((c.tc : Thread Cert.FineRefIdeal.nD Cert.FineRefIdeal.τ).loc Cert.FineRefIdeal.main_arg0) = m ((c.tc : Thread Cert.FineIdeal.nD Cert.FineIdeal.τ).loc Cert.FineIdeal.main_arg0)
      ∧ m' ((c.tc : Thread Cert.FineRefIdeal.nD Cert.FineRefIdeal.τ).loc Cert.FineRefIdeal.main_arg1) = m ((c.tc : Thread Cert.FineIdeal.nD Cert.FineIdeal.τ).loc Cert.FineIdeal.main_arg1)
      ∧ m' ((c.tc : Thread Cert.FineRefIdeal.nD Cert.FineRefIdeal.τ).loc Cert.FineRefIdeal.main_arg2) = m ((c.tc : Thread Cert.FineIdeal.nD Cert.FineIdeal.τ).loc Cert.FineIdeal.main_arg2)
      ∧ m' ((c.tc : Thread Cert.FineRefIdeal.nD Cert.FineRefIdeal.τ).loc Cert.FineRefIdeal.main_arg3) = m ((c.tc : Thread Cert.FineIdeal.nD Cert.FineIdeal.τ).loc Cert.FineIdeal.main_arg3)) →
    ∃ (v0 : (c : Dev Cert.FineIdeal.nD) → Buf (Elt Ideal) ((c.tc : Thread Cert.FineIdeal.nD Cert.FineIdeal.τ).loc Cert.FineIdeal.main_v0_0)) (v1 : (c : Dev Cert.FineIdeal.nD) → Buf (Elt Ideal) ((c.tc : Thread Cert.FineIdeal.nD Cert.FineIdeal.τ).loc Cert.FineIdeal.main_v0_1)),
      θ_run (Cert.FineIdeal.defs (F := Ideal)) (onTc (τ := Cert.FineIdeal.τ) (Cert.FineIdeal.main (F := Ideal))) ⟨m, fun _ => 0, g⟩ (fun r => ∀ c : Dev Cert.FineIdeal.nD,
          r.2.mem ((c.tc : Thread Cert.FineIdeal.nD Cert.FineIdeal.τ).loc Cert.FineIdeal.main_v0_0) = v0 c
          ∧ r.2.mem ((c.tc : Thread Cert.FineIdeal.nD Cert.FineIdeal.τ).loc Cert.FineIdeal.main_v0_1) = v1 c
          ∧ r.2.mem ((c.tc : Thread Cert.FineIdeal.nD Cert.FineIdeal.τ).loc Cert.FineIdeal.main_arg0) = m ((c.tc : Thread Cert.FineIdeal.nD Cert.FineIdeal.τ).loc Cert.FineIdeal.main_arg0)
          ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
          ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
          ∧ r.2.mem ((c.tc : Thread Cert.FineIdeal.nD Cert.FineIdeal.τ).loc Cert.FineIdeal.main_arg3) = m ((c.tc : Thread Cert.FineIdeal.nD Cert.FineIdeal.τ).loc Cert.FineIdeal.main_arg3))
      ∧ θ_run (Cert.FineRefIdeal.defs (F := Ideal)) (onTc (τ := Cert.FineRefIdeal.τ) (Cert.FineRefIdeal.main (F := Ideal))) ⟨m', fun _ => 0, g'⟩ (fun r => ∀ c : Dev Cert.FineRefIdeal.nD,
          r.2.mem ((c.tc : Thread Cert.FineRefIdeal.nD Cert.FineRefIdeal.τ).loc Cert.FineRefIdeal.main_v81) = v0 c
          ∧ r.2.mem ((c.tc : Thread Cert.FineRefIdeal.nD Cert.FineRefIdeal.τ).loc Cert.FineRefIdeal.main_v82) = v1 c
          ∧ r.2.mem ((c.tc : Thread Cert.FineRefIdeal.nD Cert.FineRefIdeal.τ).loc Cert.FineRefIdeal.main_arg0) = m' ((c.tc : Thread Cert.FineRefIdeal.nD Cert.FineRefIdeal.τ).loc Cert.FineRefIdeal.main_arg0)
          ∧ r.2.mem ((c.tc : Thread Cert.FineRefIdeal.nD Cert.FineRefIdeal.τ).loc Cert.FineRefIdeal.main_arg1) = m' ((c.tc : Thread Cert.FineRefIdeal.nD Cert.FineRefIdeal.τ).loc Cert.FineRefIdeal.main_arg1)
          ∧ r.2.mem ((c.tc : Thread Cert.FineRefIdeal.nD Cert.FineRefIdeal.τ).loc Cert.FineRefIdeal.main_arg2) = m' ((c.tc : Thread Cert.FineRefIdeal.nD Cert.FineRefIdeal.τ).loc Cert.FineRefIdeal.main_arg2)
          ∧ r.2.mem ((c.tc : Thread Cert.FineRefIdeal.nD Cert.FineRefIdeal.τ).loc Cert.FineRefIdeal.main_arg3) = m' ((c.tc : Thread Cert.FineRefIdeal.nD Cert.FineRefIdeal.τ).loc Cert.FineRefIdeal.main_arg3))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v11)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v11) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v31) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def Claim : Prop :=
  ∃ (hQkv : Cert.Qkv.Facts) (hQkvIdeal : Cert.QkvIdeal.Facts) (hQkvRefIdeal : Cert.QkvRefIdeal.Facts) (hCompress : Cert.Compress.Facts) (hCompressIdeal : Cert.CompressIdeal.Facts) (hCompressRefIdeal : Cert.CompressRefIdeal.Facts) (hCattn : Cert.Cattn.Facts) (hCattnIdeal : Cert.CattnIdeal.Facts) (hCattnRefIdeal : Cert.CattnRefIdeal.Facts) (hFine : Cert.Fine.Facts) (hFineIdeal : Cert.FineIdeal.Facts) (hFineRefIdeal : Cert.FineRefIdeal.Facts) (hCombine : Cert.Combine.Facts) (hCombineIdeal : Cert.CombineIdeal.Facts) (hCombineRefIdeal : Cert.CombineRefIdeal.Facts) (hPre_finite_cattn : Cert.Pre_finite_cattn.Facts) (hPre_finite_fine : Cert.Pre_finite_fine.Facts),
    quiescent_Qkv (hQkv := hQkv)
    ∧ quiescent_QkvIdeal (hQkvIdeal := hQkvIdeal)
    ∧ quiescent_QkvRefIdeal (hQkvRefIdeal := hQkvRefIdeal)
    ∧ quiescent_Compress (hCompress := hCompress)
    ∧ quiescent_CompressIdeal (hCompressIdeal := hCompressIdeal)
    ∧ quiescent_CompressRefIdeal (hCompressRefIdeal := hCompressRefIdeal)
    ∧ quiescent_Cattn (hCattn := hCattn)
    ∧ quiescent_CattnIdeal (hCattnIdeal := hCattnIdeal)
    ∧ quiescent_CattnIdeal_pre_finite_cattn (hCattnIdeal := hCattnIdeal) (hPre_finite_cattn := hPre_finite_cattn)
    ∧ quiescent_CattnRefIdeal (hCattnRefIdeal := hCattnRefIdeal)
    ∧ quiescent_CattnRefIdeal_pre_finite_cattn (hCattnRefIdeal := hCattnRefIdeal) (hPre_finite_cattn := hPre_finite_cattn)
    ∧ quiescent_Fine (hFine := hFine)
    ∧ quiescent_FineIdeal (hFineIdeal := hFineIdeal)
    ∧ quiescent_FineIdeal_pre_finite_fine (hFineIdeal := hFineIdeal) (hPre_finite_fine := hPre_finite_fine)
    ∧ quiescent_FineRefIdeal (hFineRefIdeal := hFineRefIdeal)
    ∧ quiescent_FineRefIdeal_pre_finite_fine (hFineRefIdeal := hFineRefIdeal) (hPre_finite_fine := hPre_finite_fine)
    ∧ quiescent_Combine (hCombine := hCombine)
    ∧ quiescent_CombineIdeal (hCombineIdeal := hCombineIdeal)
    ∧ quiescent_CombineRefIdeal (hCombineRefIdeal := hCombineRefIdeal)
    ∧ preserves_Qkv_QkvIdeal
    ∧ algebraic_QkvIdeal_QkvRefIdeal (hQkvIdeal := hQkvIdeal) (hQkvRefIdeal := hQkvRefIdeal)
    ∧ preserves_Compress_CompressIdeal
    ∧ algebraic_CompressIdeal_CompressRefIdeal (hCompressIdeal := hCompressIdeal) (hCompressRefIdeal := hCompressRefIdeal)
    ∧ preserves_Cattn_CattnIdeal
    ∧ algebraic_CattnIdeal_CattnRefIdeal_pre_finite_cattn (hCattnIdeal := hCattnIdeal) (hCattnRefIdeal := hCattnRefIdeal) (hPre_finite_cattn := hPre_finite_cattn)
    ∧ preserves_Fine_FineIdeal
    ∧ algebraic_FineIdeal_FineRefIdeal_pre_finite_fine (hFineIdeal := hFineIdeal) (hFineRefIdeal := hFineRefIdeal) (hPre_finite_fine := hPre_finite_fine)
    ∧ preserves_Combine_CombineIdeal
    ∧ algebraic_CombineIdeal_CombineRefIdeal (hCombineIdeal := hCombineIdeal) (hCombineRefIdeal := hCombineRefIdeal)
-- ==== Pre_finite_cattn.lean ====
abbrev S12x2048x64 : Shape := ⟨3, ![12, 2048, 64]⟩
abbrev S12x512x64 : Shape := ⟨3, ![12, 512, 64]⟩
abbrev S2x12x1x64 : Shape := ⟨4, ![2, 12, 1, 64]⟩
abbrev S_ : Shape := ⟨0, ![]⟩
abbrev S1x12x1x64 : Shape := ⟨4, ![1, 12, 1, 64]⟩
abbrev S12x1x64 : Shape := ⟨3, ![12, 1, 64]⟩

class Facts : Prop where
  bcast_S_S12x2048x64 : S_.BroadcastsInDim S12x2048x64 (![] : Fin 0 → Fin S12x2048x64.rank)
  reducesTo_S12x2048x64_S_d0_1_2 : S12x2048x64.ReducesTo [0, 1, 2] S_
  h_S_ : 0 < S_.numel
  bcast_S_S12x512x64 : S_.BroadcastsInDim S12x512x64 (![] : Fin 0 → Fin S12x512x64.rank)
  reducesTo_S12x512x64_S_d0_1_2 : S12x512x64.ReducesTo [0, 1, 2] S_
  slices_S2x12x1x64_S1x12x1x64_0_0_0_0 : S2x12x1x64.Slices ![0, 0, 0, 0] S1x12x1x64
  shapeCasts_S1x12x1x64_S12x1x64 : S1x12x1x64.ShapeCasts S12x1x64
  bcast_S_S12x1x64 : S_.BroadcastsInDim S12x1x64 (![] : Fin 0 → Fin S12x1x64.rank)
  reducesTo_S12x1x64_S_d0_1_2 : S12x1x64.ReducesTo [0, 1, 2] S_

variable [Facts]

def fn {F : FTy → Type} [FloatOps F] (main_arg0 : FVec F S12x2048x64 .f32) (main_arg1 : FVec F S12x512x64 .f32) (main_arg2 : FVec F S12x512x64 .f32) (main_arg3 : FVec F S2x12x1x64 .f32) : IVec S_ 1 :=
  let main_v0 : FVec F S12x2048x64 .f32 := Host.absf main_arg0
  let main_cst : FVec F S_ .f32 := constant S_ .f32 0x7F800000#32
  let main_v1 : FVec F S12x2048x64 .f32 := broadcastInDim S12x2048x64 ![] bcast_S_S12x2048x64 main_cst
  let main_v2 : IVec S12x2048x64 1 := cmpf .olt main_v0 main_v1
  let main_c : IVec S_ 1 := constantI S_ 1 1#1
  let main_v3 : IVec S_ 1 := (fun x v => Host.reduce IntOp.andi x v reducesTo_S12x2048x64_S_d0_1_2 h_S_) main_v2 main_c
  let main_v4 : FVec F S12x512x64 .f32 := Host.absf main_arg1
  let main_cst_0 : FVec F S_ .f32 := constant S_ .f32 0x7F800000#32
  let main_v5 : FVec F S12x512x64 .f32 := broadcastInDim S12x512x64 ![] bcast_S_S12x512x64 main_cst_0
  let main_v6 : IVec S12x512x64 1 := cmpf .olt main_v4 main_v5
  let main_c_1 : IVec S_ 1 := constantI S_ 1 1#1
  let main_v7 : IVec S_ 1 := (fun x v => Host.reduce IntOp.andi x v reducesTo_S12x512x64_S_d0_1_2 h_S_) main_v6 main_c_1
  let main_v8 : IVec S_ 1 := andi main_v3 main_v7
  let main_v9 : FVec F S1x12x1x64 .f32 := (extractStridedSlice S1x12x1x64 ![0, 0, 0, 0] · slices_S2x12x1x64_S1x12x1x64_0_0_0_0) main_arg3
  let main_v10 : FVec F S12x1x64 .f32 := shapeCast S12x1x64 main_v9 shapeCasts_S1x12x1x64_S12x1x64
  let main_v11 : FVec F S12x1x64 .f32 := Host.absf main_v10
  let main_cst_2 : FVec F S_ .f32 := constant S_ .f32 0x7F800000#32
  let main_v12 : FVec F S12x1x64 .f32 := broadcastInDim S12x1x64 ![] bcast_S_S12x1x64 main_cst_2
  let main_v13 : IVec S12x1x64 1 := cmpf .olt main_v11 main_v12
  let main_c_3 : IVec S_ 1 := constantI S_ 1 1#1
  let main_v14 : IVec S_ 1 := (fun x v => Host.reduce IntOp.andi x v reducesTo_S12x1x64_S_d0_1_2 h_S_) main_v13 main_c_3
  let main_v15 : IVec S_ 1 := andi main_v8 main_v14
  main_v15
-- ==== Pre_finite_fine.lean ====
abbrev S2048x512 : Shape := ⟨2, ![2048, 512]⟩
abbrev S12x2048x64 : Shape := ⟨3, ![12, 2048, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S12x2048x64 : S_.BroadcastsInDim S12x2048x64 (![] : Fin 0 → Fin S12x2048x64.rank)
  reducesTo_S12x2048x64_S_d0_1_2 : S12x2048x64.ReducesTo [0, 1, 2] S_

variable [Facts]

def fn_part1 {F : FTy → Type} [FloatOps F] (main_v11 : IVec S_ 1) (main_v15 : IVec S_ 1) : IVec S_ 1 :=
  let main_v16 : IVec S_ 1 := andi main_v11 main_v15
  main_v16

def fn {F : FTy → Type} [FloatOps F] (main_arg0 : FVec F S2048x512 .f32) (main_arg1 : FVec F S12x2048x64 .f32) (main_arg2 : FVec F S12x2048x64 .f32) (main_arg3 : FVec F S12x2048x64 .f32) : IVec S_ 1 :=
  let main_cst : FVec F S_ .f32 := constant S_ .f32 0x00000000#32
  let main_v0 : FVec F S2048x512 .f32 := broadcastInDim S2048x512 ![] bcast_S_S2048x512 main_cst
  let main_v1 : IVec S2048x512 1 := cmpf .oge main_arg0 main_v0
  let main_c : IVec S_ 1 := constantI S_ 1 1#1
  let main_v2 : IVec S_ 1 := (fun x v => Host.reduce IntOp.andi x v reducesTo_S2048x512_S_d0_1 h_S_) main_v1 main_c
  let main_cst_0 : FVec F S_ .f32 := constant S_ .f32 0x7F800000#32
  let main_v3 : FVec F S2048x512 .f32 := broadcastInDim S2048x512 ![] bcast_S_S2048x512 main_cst_0
  let main_v4 : IVec S2048x512 1 := cmpf .olt main_arg0 main_v3
  let main_c_1 : IVec S_ 1 := constantI S_ 1 1#1
  let main_v5 : IVec S_ 1 := (fun x v => Host.reduce IntOp.andi x v reducesTo_S2048x512_S_d0_1 h_S_) main_v4 main_c_1
  let main_v6 : IVec S_ 1 := andi main_v2 main_v5
  let main_v7 : FVec F S12x2048x64 .f32 := Host.absf main_arg1
  let main_cst_2 : FVec F S_ .f32 := constant S_ .f32 0x7F800000#32
  let main_v8 : FVec F S12x2048x64 .f32 := broadcastInDim S12x2048x64 ![] bcast_S_S12x2048x64 main_cst_2
  let main_v9 : IVec S12x2048x64 1 := cmpf .olt main_v7 main_v8
  let main_c_3 : IVec S_ 1 := constantI S_ 1 1#1
  let main_v10 : IVec S_ 1 := (fun x v => Host.reduce IntOp.andi x v reducesTo_S12x2048x64_S_d0_1_2 h_S_) main_v9 main_c_3
  let main_v11 : IVec S_ 1 := andi main_v6 main_v10
  let main_v12 : FVec F S12x2048x64 .f32 := Host.absf main_arg2
  let main_cst_4 : FVec F S_ .f32 := constant S_ .f32 0x7F800000#32
  let main_v13 : FVec F S12x2048x64 .f32 := broadcastInDim S12x2048x64 ![] bcast_S_S12x2048x64 main_cst_4
  let main_v14 : IVec S12x2048x64 1 := cmpf .olt main_v12 main_v13
  let main_c_5 : IVec S_ 1 := constantI S_ 1 1#1
  let main_v15 : IVec S_ 1 := (fun x v => Host.reduce IntOp.andi x v reducesTo_S12x2048x64_S_d0_1_2 h_S_) main_v14 main_c_5
  fn_part1 (F := F) main_v11 main_v15
-- ==== Qkv.lean ====
abbrev S1x2048x768 : Shape := ⟨3, ![1, 2048, 768]⟩
abbrev S3x768x768 : Shape := ⟨3, ![3, 768, 768]⟩
abbrev S2048x768 : Shape := ⟨2, ![2048, 768]⟩
abbrev S2304x768 : Shape := ⟨2, ![2304, 768]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x12x64 : Shape := ⟨4, ![1, 2048, 12, 64]⟩
abbrev S12x2048x64 : Shape := ⟨3, ![12, 2048, 64]⟩
abbrev S256x768 : Shape := ⟨2, ![256, 768]⟩
abbrev S12x256x64 : Shape := ⟨3, ![12, 256, 64]⟩
abbrev S256x2304 : Shape := ⟨2, ![256, 2304]⟩
abbrev S256x64 : Shape := ⟨2, ![256, 64]⟩
abbrev S1x256x64 : Shape := ⟨3, ![1, 256, 64]⟩

abbrev nBuf : Space → Nat
  | .hbm => 41
  | .vmem => 13
  | .smem => 0
  | _ => 0

abbrev bufTy : (tb : Table) → Fin (tcTables nBuf tb) → BufTy
  | .hbm, ⟨0, _⟩ => ⟨S1x2048x768, .f32⟩
  | .hbm, ⟨1, _⟩ => ⟨S3x768x768, .f32⟩
  | .hbm, ⟨2, _⟩ => ⟨S2048x768, .f32⟩
  | .hbm, ⟨3, _⟩ => ⟨S2304x768, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32x2, .f32⟩
  | .hbm, ⟨28, _⟩ => ⟨S2048x64, .f32⟩
  | .hbm, ⟨29, _⟩ => ⟨S2048x32, .f32⟩
  | .hbm, ⟨30, _⟩ => ⟨S2048x32x2, .f32⟩
  | .hbm, ⟨31, _⟩ => ⟨S2048x64, .f32⟩
  | .hbm, ⟨32, _⟩ => ⟨S1x2048x1x64, .f32⟩
  | .hbm, ⟨33, _⟩ => ⟨S1x2048x12x64, .f32⟩
  | .hbm, ⟨34, _⟩ => ⟨S2048x768, .f32⟩
  | .hbm, ⟨35, _⟩ => ⟨S1x2048x1x64, .f32⟩
  | .hbm, ⟨36, _⟩ => ⟨S1x2048x12x64, .f32⟩
  | .hbm, ⟨37, _⟩ => ⟨S2048x768, .f32⟩
  | .hbm, ⟨38, _⟩ => ⟨S12x2048x64, .f32⟩
  | .hbm, ⟨39, _⟩ => ⟨S12x2048x64, .f32⟩
  | .hbm, ⟨40, _⟩ => ⟨S12x2048x64, .f32⟩
  | .local _ .vmem, ⟨0, _⟩ => ⟨S256x768, .f32⟩
  | .local _ .vmem, ⟨1, _⟩ => ⟨S256x768, .f32⟩
  | .local _ .vmem, ⟨2, _⟩ => ⟨S2304x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S12x256x64, .f32⟩
  | .local _ .vmem, ⟨8, _⟩ => ⟨S12x256x64, .f32⟩
  | .local _ .vmem, ⟨9, _⟩ => ⟨S12x256x64, .f32⟩
  | .local _ .vmem, ⟨10, _⟩ => ⟨S12x256x64, .f32⟩
  | .local _ .vmem, ⟨11, _⟩ => ⟨S12x256x64, .f32⟩
  | .local _ .vmem, ⟨12, _⟩ => ⟨S12x256x64, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev main_v31_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvRefIdeal.lean ====
abbrev S1x2048x768 : Shape := ⟨3, ![1, 2048, 768]⟩
abbrev S3x768x768 : Shape := ⟨3, ![3, 768, 768]⟩
abbrev S3x768x1x2048 : Shape := ⟨4, ![3, 768, 1, 2048]⟩
abbrev S3x1x2048x768 : Shape := ⟨4, ![3, 1, 2048, 768]⟩
abbrev S1x1x2048x768 : Shape := ⟨4, ![1, 1, 2048, 768]⟩
abbrev S1x2048x12x64 : Shape := ⟨4, ![1, 2048, 12, 64]⟩
abbrev S1x12x2048x64 : Shape := ⟨4, ![1, 12, 2048, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x12x2048x32 : Shape := ⟨4, ![1, 12, 2048, 32]⟩
abbrev S1x1x2048x32 : Shape := ⟨4, ![1, 1, 2048, 32]⟩
abbrev S1x12x2048x32x1 : Shape := ⟨5, ![1, 12, 2048, 32, 1]⟩
abbrev S1x12x2048x32x2 : Shape := ⟨5, ![1, 12, 2048, 32, 2]⟩
abbrev S12x2048x64 : Shape := ⟨3, ![12, 2048, 64]⟩

abbrev nBuf : Space → Nat
  | .hbm => 107
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S3x768x768, .f32⟩
  | .hbm, ⟨2, _⟩ => ⟨S3x768x1x2048, .f32⟩
  | .hbm, ⟨3, _⟩ => ⟨S3x1x2048x768, .f32⟩
  | .hbm, ⟨4, _⟩ => ⟨S1x1x2048x768, .f32⟩
  | .hbm, ⟨5, _⟩ => ⟨S1x2048x768, .f32⟩
  | .hbm, ⟨6, _⟩ => ⟨S1x1x2048x768, .f32⟩
  | .hbm, ⟨7, _⟩ => ⟨S1x2048x768, .f32⟩
  | .hbm, ⟨8, _⟩ => ⟨S1x1x2048x768, .f32⟩
  | .hbm, ⟨9, _⟩ => ⟨S1x2048x768, .f32⟩
  | .hbm, ⟨10, _⟩ => ⟨S1x2048x12x64, .f32⟩
  | .hbm, ⟨11, _⟩ => ⟨S1x12x2048x64, .f32⟩
  | .hbm, ⟨12, _⟩ => ⟨S1x2048x12x64, .f32⟩
  | .hbm, ⟨13, _⟩ => ⟨S1x12x2048x64, .f32⟩
  | .hbm, ⟨14, _⟩ => ⟨S1x2048x12x64, .f32⟩
  | .hbm, ⟨15, _⟩ => ⟨S1x12x2048x64, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S2048, .f32⟩
  | .hbm, ⟨33, _⟩ => ⟨S2048x1, .f32⟩
  | .hbm, ⟨34, _⟩ => ⟨S1x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S1x12x2048x32, .f32⟩
  | .hbm, ⟨41, _⟩ => ⟨S1x12x2048x32, .f32⟩
  | .hbm, ⟨42, _⟩ => ⟨S1x1x2048x32, .f32⟩
  | .hbm, ⟨43, _⟩ => ⟨S1x12x2048x32, .f32⟩
  | .hbm, ⟨44, _⟩ => ⟨S1x12x2048x32, .f32⟩
  | .hbm, ⟨45, _⟩ => ⟨S1x1x2048x32, .f32⟩
  | .hbm, ⟨46, _⟩ => ⟨S1x12x2048x32, .f32⟩
  | .hbm, ⟨47, _⟩ => ⟨S1x12x2048x32, .f32⟩
  | .hbm, ⟨48, _⟩ => ⟨S1x12x2048x32, .f32⟩
  | .hbm, ⟨49, _⟩ => ⟨S1x1x2048x32, .f32⟩
  | .hbm, ⟨50, _⟩ => ⟨S1x12x2048x32, .f32⟩
  | .hbm, ⟨51, _⟩ => ⟨S1x12x2048x32, .f32⟩
  | .hbm, ⟨52, _⟩ => ⟨S1x1x2048x32, .f32⟩
  | .hbm, ⟨53, _⟩ => ⟨S1x12x2048x32, .f32⟩
  | .hbm, ⟨54, _⟩ => ⟨S1x12x2048x32, .f32⟩
  | .hbm, ⟨55, _⟩ => ⟨S1x12x2048x32, .f32⟩
  | .hbm, ⟨56, _⟩ => ⟨S1x12x2048x32x1, .f32⟩
  | .hbm, ⟨57, _⟩ => ⟨S1x12x2048x32x1, .f32⟩
  | .hbm, ⟨58, _⟩ => ⟨S1x12x2048x32x2, .f32⟩
  | .hbm, ⟨59, _⟩ => ⟨S1x12x2048x64, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S2048, .f32⟩
  | .hbm, ⟨77, _⟩ => ⟨S2048x1, .f32⟩
  | .hbm, ⟨78, _⟩ => ⟨S1x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x32, .f32⟩
  | .hbm, ⟨83, _⟩ => ⟨S2048x32, .f32⟩
  | .hbm, ⟨84, _⟩ => ⟨S1x12x2048x32, .f32⟩
  | .hbm, ⟨85, _⟩ => ⟨S1x12x2048x32, .f32⟩
  | .hbm, ⟨86, _⟩ => ⟨S1x1x2048x32, .f32⟩
  | .hbm, ⟨87, _⟩ => ⟨S1x12x2048x32, .f32⟩
  | .hbm, ⟨88, _⟩ => ⟨S1x12x2048x32, .f32⟩
  | .hbm, ⟨89, _⟩ => ⟨S1x1x2048x32, .f32⟩
  | .hbm, ⟨90, _⟩ => ⟨S1x12x2048x32, .f32⟩
  | .hbm, ⟨91, _⟩ => ⟨S1x12x2048x32, .f32⟩
  | .hbm, ⟨92, _⟩ => ⟨S1x12x2048x32, .f32⟩
  | .hbm, ⟨93, _⟩ => ⟨S1x1x2048x32, .f32⟩
  | .hbm, ⟨94, _⟩ => ⟨S1x12x2048x32, .f32⟩
  | .hbm, ⟨95, _⟩ => ⟨S1x12x2048x32, .f32⟩
  | .hbm, ⟨96, _⟩ => ⟨S1x1x2048x32, .f32⟩
  | .hbm, ⟨97, _⟩ => ⟨S1x12x2048x32, .f32⟩
  | .hbm, ⟨98, _⟩ => ⟨S1x12x2048x32, .f32⟩
  | .hbm, ⟨99, _⟩ => ⟨S1x12x2048x32, .f32⟩
  | .hbm, ⟨100, _⟩ => ⟨S1x12x2048x32x1, .f32⟩
  | .hbm, ⟨101, _⟩ => ⟨S1x12x2048x32x1, .f32⟩
  | .hbm, ⟨102, _⟩ => ⟨S1x12x2048x32x2, .f32⟩
  | .hbm, ⟨103, _⟩ => ⟨S1x12x2048x64, .f32⟩
  | .hbm, ⟨104, _⟩ => ⟨S12x2048x64, .f32⟩
  | .hbm, ⟨105, _⟩ => ⟨S12x2048x64, .f32⟩
  | .hbm, ⟨106, _⟩ => ⟨S12x2048x64, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_4 : Ref sig .tc := ⟨.hbm, 61, rfl⟩
abbrev main_v54 : Ref sig .tc := ⟨.hbm, 62, rfl⟩
abbrev main_v55 : Ref sig .tc := ⟨.hbm, 63, rfl⟩
abbrev main_cst_5 : Ref sig .tc := ⟨.hbm, 64, rfl⟩
abbrev main_v56 : Ref sig .tc := ⟨.hbm, 65, rfl⟩
abbrev main_v57 : Ref sig .tc := ⟨.hbm, 66, rfl⟩
abbrev main_cst_6 : Ref sig .tc := ⟨.hbm, 67, rfl⟩
abbrev main_v58 : Ref sig .tc := ⟨.hbm, 68, rfl⟩
abbrev main_v59 : Ref sig .tc := ⟨.hbm, 69, rfl⟩
abbrev main_cst_7 : Ref sig .tc := ⟨.hbm, 70, rfl⟩
abbrev main_v60 : Ref sig .tc := ⟨.hbm, 71, rfl⟩
abbrev main_v61 : Ref sig .tc := ⟨.hbm, 72, rfl⟩
abbrev main_cst_8 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩

abbrev nD : Nat := 1
abbrev τ : Topo := Topo.v7x

variable {F : FTy → Type} [FloatOps F]
-- ==== Compress.lean ====
abbrev S12x2048x64 : Shape := ⟨3, ![12, 2048, 64]⟩
abbrev S1024x256 : Shape := ⟨2, ![1024, 256]⟩
abbrev S64x1024 : Shape := ⟨2, ![64, 1024]⟩
abbrev S12x4x64 : Shape := ⟨3, ![12, 4, 64]⟩
abbrev S12x512x256 : Shape := ⟨3, ![12, 512, 256]⟩
abbrev S12x1x256 : Shape := ⟨3, ![12, 1, 256]⟩
abbrev S12x512x64 : Shape := ⟨3, ![12, 512, 64]⟩
abbrev S1x512x256 : Shape := ⟨3, ![1, 512, 256]⟩
abbrev S1x1x256 : Shape := ⟨3, ![1, 1, 256]⟩
abbrev S1x512x64 : Shape := ⟨3, ![1, 512, 64]⟩
abbrev S512x256 : Shape := ⟨2, ![512, 256]⟩
abbrev S1x256 : Shape := ⟨2, ![1, 256]⟩
abbrev S512x1024 : Shape := ⟨2, ![512, 1024]⟩
abbrev S512x64 : Shape := ⟨2, ![512, 64]⟩

abbrev nBuf : Space → Nat
  | .hbm => 14
  | .vmem => 16
  | .smem => 0
  | _ => 0

abbrev bufTy : (tb : Table) → Fin (tcTables nBuf tb) → BufTy
  | .hbm, ⟨0, _⟩ => ⟨S12x2048x64, .f32⟩
  | .hbm, ⟨1, _⟩ => ⟨S12x2048x64, .f32⟩
  | .hbm, ⟨2, _⟩ => ⟨S1024x256, .f32⟩
  | .hbm, ⟨3, _⟩ => ⟨S64x1024, .f32⟩
  | .hbm, ⟨4, _⟩ => ⟨S1024x256, .f32⟩
  | .hbm, ⟨5, _⟩ => ⟨S64x1024, .f32⟩
  | .hbm, ⟨6, _⟩ => ⟨S12x4x64, .f32⟩
  | .hbm, ⟨7, _⟩ => ⟨S12x4x64, .f32⟩
  | .hbm, ⟨8, _⟩ => ⟨S12x512x256, .f32⟩
  | .hbm, ⟨9, _⟩ => ⟨S12x512x256, .f32⟩
  | .hbm, ⟨10, _⟩ => ⟨S12x1x256, .f32⟩
  | .hbm, ⟨11, _⟩ => ⟨S12x1x256, .f32⟩
  | .hbm, ⟨12, _⟩ => ⟨S12x512x64, .f32⟩
  | .hbm, ⟨13, _⟩ => ⟨S12x512x64, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S64x1024, .f32⟩
  | .local _ .vmem, ⟨10, _⟩ => ⟨S1024x256, .f32⟩
  | .local _ .vmem, ⟨11, _⟩ => ⟨S64x1024, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CompressRefIdeal.lean ====
abbrev S12x2048x64 : Shape := ⟨3, ![12, 2048, 64]⟩
abbrev S1024x256 : Shape := ⟨2, ![1024, 256]⟩
abbrev S64x1024 : Shape := ⟨2, ![64, 1024]⟩
abbrev S12x4x64 : Shape := ⟨3, ![12, 4, 64]⟩
abbrev S1x12x2048x64 : Shape := ⟨4, ![1, 12, 2048, 64]⟩
abbrev S1x12x1x4x1x64 : Shape := ⟨6, ![1, 12, 1, 4, 1, 64]⟩
abbrev S1x12x512x4x1x64 : Shape := ⟨6, ![1, 12, 512, 4, 1, 64]⟩
abbrev S1x12x512x256 : Shape := ⟨4, ![1, 12, 512, 256]⟩
abbrev S256x1024 : Shape := ⟨2, ![256, 1024]⟩
abbrev S1x12x512x1024 : Shape := ⟨4, ![1, 12, 512, 1024]⟩
abbrev S_ : Shape := ⟨0, ![]⟩
abbrev S1024x64 : Shape := ⟨2, ![1024, 64]⟩
abbrev S1x12x512x64 : Shape := ⟨4, ![1, 12, 512, 64]⟩
abbrev S12x512x64 : Shape := ⟨3, ![12, 512, 64]⟩

abbrev nBuf : Space → Nat
  | .hbm => 40
  | .vmem => 0
  | .smem => 0
  | _ => 0

abbrev bufTy : (tb : Table) → Fin (tcTables nBuf tb) → BufTy
  | .hbm, ⟨0, _⟩ => ⟨S12x2048x64, .f32⟩
  | .hbm, ⟨1, _⟩ => ⟨S12x2048x64, .f32⟩
  | .hbm, ⟨2, _⟩ => ⟨S1024x256, .f32⟩
  | .hbm, ⟨3, _⟩ => ⟨S64x1024, .f32⟩
  | .hbm, ⟨4, _⟩ => ⟨S1024x256, .f32⟩
  | .hbm, ⟨5, _⟩ => ⟨S64x1024, .f32⟩
  | .hbm, ⟨6, _⟩ => ⟨S12x4x64, .f32⟩
  | .hbm, ⟨7, _⟩ => ⟨S12x4x64, .f32⟩
  | .hbm, ⟨8, _⟩ => ⟨S1x12x2048x64, .f32⟩
  | .hbm, ⟨9, _⟩ => ⟨S1x12x2048x64, .f32⟩
  | .hbm, ⟨10, _⟩ => ⟨S1x12x1x4x1x64, .f32⟩
  | .hbm, ⟨11, _⟩ => ⟨S1x12x512x4x1x64, .f32⟩
  | .hbm, ⟨12, _⟩ => ⟨S12x2048x64, .f32⟩
  | .hbm, ⟨13, _⟩ => ⟨S1x12x1x4x1x64, .f32⟩
  | .hbm, ⟨14, _⟩ => ⟨S1x12x512x4x1x64, .f32⟩
  | .hbm, ⟨15, _⟩ => ⟨S12x2048x64, .f32⟩
  | .hbm, ⟨16, _⟩ => ⟨S1x12x2048x64, .f32⟩
  | .hbm, ⟨17, _⟩ => ⟨S1x12x2048x64, .f32⟩
  | .hbm, ⟨18, _⟩ => ⟨S1x12x512x256, .f32⟩
  | .hbm, ⟨19, _⟩ => ⟨S1x12x2048x64, .f32⟩
  | .hbm, ⟨20, _⟩ => ⟨S1x12x2048x64, .f32⟩
  | .hbm, ⟨21, _⟩ => ⟨S1x12x512x256, .f32⟩
  | .hbm, ⟨22, _⟩ => ⟨S256x1024, .f32⟩
  | .hbm, ⟨23, _⟩ => ⟨S1x12x512x1024, .f32⟩
  | .hbm, ⟨24, _⟩ => ⟨S_, .f32⟩
  | .hbm, ⟨25, _⟩ => ⟨S1x12x512x1024, .f32⟩
  | .hbm, ⟨26, _⟩ => ⟨S1x12x512x1024, .f32⟩
  | .hbm, ⟨27, _⟩ => ⟨S1x12x512x1024, .f32⟩
  | .hbm, ⟨28, _⟩ => ⟨S1024x64, .f32⟩
  | .hbm, ⟨29, _⟩ => ⟨S1x12x512x64, .f32⟩
  | .hbm, ⟨30, _⟩ => ⟨S256x1024, .f32⟩
  | .hbm, ⟨31, _⟩ => ⟨S1x12x512x1024, .f32⟩
  | .hbm, ⟨32, _⟩ => ⟨S_, .f32⟩
  | .hbm, ⟨33, _⟩ => ⟨S1x12x512x1024, .f32⟩
  | .hbm, ⟨34, _⟩ => ⟨S1x12x512x1024, .f32⟩
  | .hbm, ⟨35, _⟩ => ⟨S1x12x512x1024, .f32⟩
  | .hbm, ⟨36, _⟩ => ⟨S1024x64, .f32⟩
  | .hbm, ⟨37, _⟩ => ⟨S1x12x512x64, .f32⟩
  | .hbm, ⟨38, _⟩ => ⟨S12x512x64, .f32⟩
  | .hbm, ⟨39, _⟩ => ⟨S12x512x64, .f32⟩
  | _, _ => ⟨S12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_cst : Ref sig .tc := ⟨.hbm, 32, rfl⟩
abbrev main_call1_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Cattn.lean ====
abbrev S12x2048x64 : Shape := ⟨3, ![12, 2048, 64]⟩
abbrev S12x512x64 : Shape := ⟨3, ![12, 512, 64]⟩
abbrev S2x12x1x64 : Shape := ⟨4, ![2, 12, 1, 64]⟩
abbrev S1x12x1x64 : Shape := ⟨4, ![1, 12, 1, 64]⟩
abbrev S12x1x64 : Shape := ⟨3, ![12, 1, 64]⟩
abbrev S2048x512 : Shape := ⟨2, ![2048, 512]⟩
abbrev S1x256x64 : Shape := ⟨3, ![1, 256, 64]⟩
abbrev S1x512x64 : Shape := ⟨3, ![1, 512, 64]⟩
abbrev S1x1x64 : Shape := ⟨3, ![1, 1, 64]⟩
abbrev S8x256x512 : Shape := ⟨3, ![8, 256, 512]⟩
abbrev S256x512 : Shape := ⟨2, ![256, 512]⟩
abbrev S1x256x512 : Shape := ⟨3, ![1, 256, 512]⟩
abbrev S256x64 : Shape := ⟨2, ![256, 64]⟩
abbrev S512x64 : Shape := ⟨2, ![512, 64]⟩
abbrev S1x64 : Shape := ⟨2, ![1, 64]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S12x2048x64, .f32⟩
  | .hbm, ⟨1, _⟩ => ⟨S12x512x64, .f32⟩
  | .hbm, ⟨2, _⟩ => ⟨S12x512x64, .f32⟩
  | .hbm, ⟨3, _⟩ => ⟨S2x12x1x64, .f32⟩
  | .hbm, ⟨4, _⟩ => ⟨S1x12x1x64, .f32⟩
  | .hbm, ⟨5, _⟩ => ⟨S12x1x64, .f32⟩
  | .hbm, ⟨6, _⟩ => ⟨S1x12x1x64, .f32⟩
  | .hbm, ⟨7, _⟩ => ⟨S12x1x64, .f32⟩
  | .hbm, ⟨8, _⟩ => ⟨S12x2048x64, .f32⟩
  | .hbm, ⟨9, _⟩ => ⟨S2048x512, .f32⟩
  | .local _ .vmem, ⟨0, _⟩ => ⟨S1x256x64, .f32⟩
  | .local _ .vmem, ⟨1, _⟩ => ⟨S1x256x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x256x64, .f32⟩
  | .local _ .vmem, ⟨11, _⟩ => ⟨S1x256x64, .f32⟩
  | .local _ .vmem, ⟨12, _⟩ => ⟨S2048x512, .f32⟩
  | .local _ .vmem, ⟨13, _⟩ => ⟨S8x256x512, .f32⟩
  | .local _ .vmem, ⟨14, _⟩ => ⟨S8x256x512, .f32⟩
  | _, _ => ⟨S12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![12, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v80 : Index := Scalar.indexCast arg1
  let c0_33 : Index := 0#32
  let c0_34 : Index := 0#32
  ![v80.toNat, 0, 0]
def k0_off2 (i : grid0.Coords) : Fin 3 → Nat :=
  let arg1 : BitVec 32 := BitVec.ofNat 32 (i 1).val
  let v25 : Index := Scalar.indexCast arg1
  let c0_12 : Index := 0#32
  let c0_13 : Index := 0#32
  ![v25.toNat, 0, 0]
def k0_cond2 (i : grid0.Coords) : BitVec 1 :=
  let arg0 : BitVec 32 := BitVec.ofNat 32 (i 0).val
  let c0_i32_25 : BitVec 32 := 0#32
  let v54 : BitVec 1 := Scalar.cmpi .eq arg0 c0_i32_25
  let v55 : BitVec 32 := Scalar.extui v54
  let c0_i32_26 : BitVec 32 := 0#32
  let v56 : BitVec 1 := Scalar.cmpi .ne v55 c0_i32_26
  v56

def k0_off3 (i : grid0.Coords) : Fin 3 → Nat :=
  let arg1 : BitVec 32 := BitVec.ofNat 32 (i 1).val
  let v65 : Index := Scalar.indexCast arg1
  let c0_30 : Index := 0#32
  let c0_31 : Index := 0#32
  ![v65.toNat, 0, 0]
def k0_cond3 (i : grid0.Coords) : BitVec 1 :=
  let arg0 : BitVec 32 := BitVec.ofNat 32 (i 0).val
  let c0_i32_27 : BitVec 32 := 0#32
  let v57 : BitVec 1 := Scalar.cmpi .sgt arg0 c0_i32_27
  let v58 : BitVec 32 := Scalar.extui v57
  let c0_i32_28 : BitVec 32 := 0#32
  let v59 : BitVec 1 := Scalar.cmpi .ne v58 c0_i32_28
  v59

def k0_off4 (i : grid0.Coords) : Fin 3 → Nat :=
  let arg1 : BitVec 32 := BitVec.ofNat 32 (i 1).val
  let v65 : Index := Scalar.indexCast arg1
  let c0_30 : Index := 0#32
  let c0_31 : Index := 0#32
  ![v65.toNat, 0, 0]
def k0_cond4 (i : grid0.Coords) : BitVec 1 :=
  let arg0 : BitVec 32 := BitVec.ofNat 32 (i 0).val
  let c11_i32 : BitVec 32 := 11#32
  let v60 : BitVec 1 := Scalar.cmpi .eq arg0 c11_i32
  let arg1 : BitVec 32 := BitVec.ofNat 32 (i 1).val
  let c7_i32 : BitVec 32 := 7#32
  let v61 : BitVec 1 := Scalar.cmpi .eq arg1 c7_i32
  let v62 : BitVec 1 := Scalar.andi v60 v61
  let v63 : BitVec 32 := Scalar.extui v62
  let c0_i32_29 : BitVec 32 := 0#32
  let v64 : BitVec 1 := Scalar.cmpi .ne v63 c0_i32_29
  v64

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== CattnRefIdeal.lean ====
abbrev S12x2048x64 : Shape := ⟨3, ![12, 2048, 64]⟩
abbrev S12x512x64 : Shape := ⟨3, ![12, 512, 64]⟩
abbrev S2x12x1x64 : Shape := ⟨4, ![2, 12, 1, 64]⟩
abbrev S1x12x2048x64 : Shape := ⟨4, ![1, 12, 2048, 64]⟩
abbrev S1x12x512x64 : Shape := ⟨4, ![1, 12, 512, 64]⟩
abbrev S1x12x1x64 : Shape := ⟨4, ![1, 12, 1, 64]⟩
abbrev S12x1x64 : Shape := ⟨3, ![12, 1, 64]⟩
abbrev S1x12x513x64 : Shape := ⟨4, ![1, 12, 513, 64]⟩
abbrev S2048 : Shape := ⟨1, ![2048]⟩
abbrev S512 : Shape := ⟨1, ![512]⟩
abbrev S_ : Shape := ⟨0, ![]⟩
abbrev S1 : Shape := ⟨1, ![1]⟩
abbrev S513 : Shape := ⟨1, ![513]⟩
abbrev S1x513 : Shape := ⟨2, ![1, 513]⟩
abbrev S2048x1 : Shape := ⟨2, ![2048, 1]⟩
abbrev S2048x513 : Shape := ⟨2, ![2048, 513]⟩
abbrev S1x12x2048x513 : Shape := ⟨4, ![1, 12, 2048, 513]⟩
abbrev S1x1x2048x513 : Shape := ⟨4, ![1, 1, 2048, 513]⟩
abbrev S1x12x2048 : Shape := ⟨3, ![1, 12, 2048]⟩
abbrev S1x12x2048x1 : Shape := ⟨4, ![1, 12, 2048, 1]⟩
abbrev S1x12x2048x512 : Shape := ⟨4, ![1, 12, 2048, 512]⟩
abbrev S1x2048x512 : Shape := ⟨3, ![1, 2048, 512]⟩
abbrev S2048x512 : Shape := ⟨2, ![2048, 512]⟩

abbrev nBuf : Space → Nat
  | .hbm => 70
  | .vmem => 0
  | .smem => 0
  | _ => 0

abbrev bufTy : (tb : Table) → Fin (tcTables nBuf tb) → BufTy
  | .hbm, ⟨0, _⟩ => ⟨S12x2048x64, .f32⟩
  | .hbm, ⟨1, _⟩ => ⟨S12x512x64, .f32⟩
  | .hbm, ⟨2, _⟩ => ⟨S12x512x64, .f32⟩
  | .hbm, ⟨3, _⟩ => ⟨S2x12x1x64, .f32⟩
  | .hbm, ⟨4, _⟩ => ⟨S1x12x2048x64, .f32⟩
  | .hbm, ⟨5, _⟩ => ⟨S1x12x512x64, .f32⟩
  | .hbm, ⟨6, _⟩ => ⟨S1x12x512x64, .f32⟩
  | .hbm, ⟨7, _⟩ => ⟨S1x12x1x64, .f32⟩
  | .hbm, ⟨8, _⟩ => ⟨S12x1x64, .f32⟩
  | .hbm, ⟨9, _⟩ => ⟨S1x12x1x64, .f32⟩
  | .hbm, ⟨10, _⟩ => ⟨S1x12x1x64, .f32⟩
  | .hbm, ⟨11, _⟩ => ⟨S12x1x64, .f32⟩
  | .hbm, ⟨12, _⟩ => ⟨S1x12x1x64, .f32⟩
  | .hbm, ⟨13, _⟩ => ⟨S1x12x513x64, .f32⟩
  | .hbm, ⟨14, _⟩ => ⟨S1x12x513x64, .f32⟩
  | .hbm, ⟨15, _⟩ => ⟨S2048, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S1, .i32⟩
  | .hbm, ⟨28, _⟩ => ⟨S513, .i32⟩
  | .hbm, ⟨29, _⟩ => ⟨S1x513, .i32⟩
  | .hbm, ⟨30, _⟩ => ⟨S2048x1, .i32⟩
  | .hbm, ⟨31, _⟩ => ⟨S2048x513, .i32⟩
  | .hbm, ⟨32, _⟩ => ⟨S2048x513, .i32⟩
  | .hbm, ⟨33, _⟩ => ⟨S2048x513, .i1⟩
  | .hbm, ⟨34, _⟩ => ⟨S1x12x2048x513, .f32⟩
  | .hbm, ⟨35, _⟩ => ⟨S_, .f32⟩
  | .hbm, ⟨36, _⟩ => ⟨S1x12x2048x513, .f32⟩
  | .hbm, ⟨37, _⟩ => ⟨S1x12x2048x513, .f32⟩
  | .hbm, ⟨38, _⟩ => ⟨S1x1x2048x513, .i1⟩
  | .hbm, ⟨39, _⟩ => ⟨S_, .f32⟩
  | .hbm, ⟨40, _⟩ => ⟨S_, .f32⟩
  | .hbm, ⟨41, _⟩ => ⟨S1x12x2048x513, .i1⟩
  | .hbm, ⟨42, _⟩ => ⟨S1x12x2048x513, .f32⟩
  | .hbm, ⟨43, _⟩ => ⟨S1x12x2048x513, .f32⟩
  | .hbm, ⟨44, _⟩ => ⟨S_, .f32⟩
  | .hbm, ⟨45, _⟩ => ⟨S1x12x2048, .f32⟩
  | .hbm, ⟨46, _⟩ => ⟨S_, .f32⟩
  | .hbm, ⟨47, _⟩ => ⟨S1x12x2048, .f32⟩
  | .hbm, ⟨48, _⟩ => ⟨S1x12x2048, .f32⟩
  | .hbm, ⟨49, _⟩ => ⟨S1x12x2048x1, .f32⟩
  | .hbm, ⟨50, _⟩ => ⟨S1x12x2048x513, .f32⟩
  | .hbm, ⟨51, _⟩ => ⟨S1x12x2048x513, .f32⟩
  | .hbm, ⟨52, _⟩ => ⟨S1x12x2048x513, .f32⟩
  | .hbm, ⟨53, _⟩ => ⟨S_, .f32⟩
  | .hbm, ⟨54, _⟩ => ⟨S1x12x2048, .f32⟩
  | .hbm, ⟨55, _⟩ => ⟨S1x12x2048x1, .f32⟩
  | .hbm, ⟨56, _⟩ => ⟨S1x12x2048x513, .f32⟩
  | .hbm, ⟨57, _⟩ => ⟨S1x12x2048x513, .f32⟩
  | .hbm, ⟨58, _⟩ => ⟨S1x12x2048x64, .f32⟩
  | .hbm, ⟨59, _⟩ => ⟨S1x12x2048x512, .f32⟩
  | .hbm, ⟨60, _⟩ => ⟨S_, .f32⟩
  | .hbm, ⟨61, _⟩ => ⟨S1x2048x512, .f32⟩
  | .hbm, ⟨62, _⟩ => ⟨S_, .f32⟩
  | .hbm, ⟨63, _⟩ => ⟨S1x2048x512, .f32⟩
  | .hbm, ⟨64, _⟩ => ⟨S1x2048x512, .f32⟩
  | .hbm, ⟨65, _⟩ => ⟨S_, .f32⟩
  | .hbm, ⟨66, _⟩ => ⟨S1x2048x512, .f32⟩
  | .hbm, ⟨67, _⟩ => ⟨S1x2048x512, .f32⟩
  | .hbm, ⟨68, _⟩ => ⟨S12x2048x64, .f32⟩
  | .hbm, ⟨69, _⟩ => ⟨S2048x512, .f32⟩
  | _, _ => ⟨S12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Fine.lean ====
abbrev S2048x512 : Shape := ⟨2, ![2048, 512]⟩
abbrev S12x2048x64 : Shape := ⟨3, ![12, 2048, 64]⟩
abbrev S256x512 : Shape := ⟨2, ![256, 512]⟩
abbrev S1x256x64 : Shape := ⟨3, ![1, 256, 64]⟩
abbrev S1x2048x64 : Shape := ⟨3, ![1, 2048, 64]⟩
abbrev S8x256x2048 : Shape := ⟨3, ![8, 256, 2048]⟩
abbrev S2x256x384 : Shape := ⟨3, ![2, 256, 384]⟩
abbrev S256x384 : Shape := ⟨2, ![256, 384]⟩
abbrev S1x256x384 : Shape := ⟨3, ![1, 256, 384]⟩
abbrev S256 : Shape := ⟨1, ![256]⟩
abbrev S256x1 : Shape := ⟨2, ![256, 1]⟩
abbrev S256x2048 : Shape := ⟨2, ![256, 2048]⟩
abbrev S1x256x2048 : Shape := ⟨3, ![1, 256, 2048]⟩
abbrev S256x64 : Shape := ⟨2, ![256, 64]⟩
abbrev S1x512x64 : Shape := ⟨3, ![1, 512, 64]⟩
abbrev S512x64 : Shape := ⟨2, ![512, 64]⟩
abbrev S1x256x512 : Shape := ⟨3, ![1, 256, 512]⟩
abbrev S1x1024x64 : Shape := ⟨3, ![1, 1024, 64]⟩
abbrev S1024x64 : Shape := ⟨2, ![1024, 64]⟩
abbrev S256x1024 : Shape := ⟨2, ![256, 1024]⟩
abbrev S1x256x1024 : Shape := ⟨3, ![1, 256, 1024]⟩
abbrev S1x1536x64 : Shape := ⟨3, ![1, 1536, 64]⟩
abbrev S1536x64 : Shape := ⟨2, ![1536, 64]⟩
abbrev S256x1536 : Shape := ⟨2, ![256, 1536]⟩
abbrev S1x256x1536 : Shape := ⟨3, ![1, 256, 1536]⟩
abbrev S2048x64 : Shape := ⟨2, ![2048, 64]⟩
abbrev S1x384x64 : Shape := ⟨3, ![1, 384, 64]⟩
abbrev S384x64 : Shape := ⟨2, ![384, 64]⟩

abbrev nBuf : Space → Nat
  | .hbm => 6
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S12x2048x64, .f32⟩
  | .hbm, ⟨2, _⟩ => ⟨S12x2048x64, .f32⟩
  | .hbm, ⟨3, _⟩ => ⟨S12x2048x64, .f32⟩
  | .hbm, ⟨4, _⟩ => ⟨S12x2048x64, .f32⟩
  | .hbm, ⟨5, _⟩ => ⟨S12x2048x64, .f32⟩
  | .local _ .vmem, ⟨0, _⟩ => ⟨S256x512, .f32⟩
  | .local _ .vmem, ⟨1, _⟩ => ⟨S256x512, .f32⟩
  | .local _ .vmem, ⟨2, _⟩ => ⟨S1x256x64, .f32⟩
  | .local _ .vmem, ⟨3, _⟩ => ⟨S1x256x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S1x256x64, .f32⟩
  | .local _ .vmem, ⟨9, _⟩ => ⟨S1x256x64, .f32⟩
  | .local _ .vmem, ⟨10, _⟩ => ⟨S1x256x64, .f32⟩
  | .local _ .vmem, ⟨11, _⟩ => ⟨S1x256x64, .f32⟩
  | .local _ .vmem, ⟨12, _⟩ => ⟨S8x256x2048, .f32⟩
  | .local _ .vmem, ⟨13, _⟩ => ⟨S2x256x384, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v237 : Index := Scalar.indexCast arg1
  let c0_85 : Index := 0#32
  let c0_86 : Index := 0#32
  ![v237.toNat, 0, 0]
def k0_cond3 (i : grid0.Coords) : BitVec 1 :=
  let arg1 : BitVec 32 := BitVec.ofNat 32 (i 1).val
  let c0_i32_6 : BitVec 32 := 0#32
  let v11 : BitVec 1 := Scalar.cmpi .sgt arg1 c0_i32_6
  let v12 : BitVec 32 := Scalar.extui v11
  let c0_i32_7 : BitVec 32 := 0#32
  let v13 : BitVec 1 := Scalar.cmpi .slt arg1 c0_i32_7
  let v14 : BitVec 32 := Scalar.extui v13
  let v15 : BitVec 32 := Scalar.subi v12 v14
  let c2_i32 : BitVec 32 := 2#32
  let c0_i32_8 : BitVec 32 := 0#32
  let v16 : BitVec 1 := Scalar.cmpi .sgt c2_i32 c0_i32_8
  let v17 : BitVec 32 := Scalar.extui v16
  let c0_i32_9 : BitVec 32 := 0#32
  let v18 : BitVec 1 := Scalar.cmpi .slt c2_i32 c0_i32_9
  let v19 : BitVec 32 := Scalar.extui v18
  let v20 : BitVec 32 := Scalar.subi v17 v19
  let v21 : BitVec 1 := Scalar.cmpi .ne v15 v20
  let v22 : BitVec 32 := Scalar.remsi arg1 c2_i32
  let c0_i32_10 : BitVec 32 := 0#32
  let v23 : BitVec 1 := Scalar.cmpi .ne v22 c0_i32_10
  let v24 : BitVec 1 := Scalar.andi v21 v23
  let v10 : BitVec 32 := Scalar.divsi arg1 c2_i32
  let c1_i32 : BitVec 32 := 1#32
  let v25 : BitVec 32 := Scalar.subi v10 c1_i32
  let v26 : BitVec 32 := Scalar.select v24 v25 v10
  let c0_i32_11 : BitVec 32 := 0#32
  let v27 : BitVec 1 := Scalar.cmpi .eq v26 c0_i32_11
  let v28 : BitVec 32 := Scalar.extui v27
  let c0_i32_12 : BitVec 32 := 0#32
  let v29 : BitVec 1 := Scalar.cmpi .ne v28 c0_i32_12
  v29

def k0_off2 (i : grid0.Coords) : Fin 3 → Nat :=
  let arg1 : BitVec 32 := BitVec.ofNat 32 (i 1).val
  let v128 : Index := Scalar.indexCast arg1
  let c0_58 : Index := 0#32
  let c0_59 : Index := 0#32
  ![v128.toNat, 0, 0]
def k0_cond4 (i : grid0.Coords) : BitVec 1 :=
  let arg1 : BitVec 32 := BitVec.ofNat 32 (i 1).val
  let c0_i32_14 : BitVec 32 := 0#32
  let v31 : BitVec 1 := Scalar.cmpi .sgt arg1 c0_i32_14
  let v32 : BitVec 32 := Scalar.extui v31
  let c0_i32_15 : BitVec 32 := 0#32
  let v33 : BitVec 1 := Scalar.cmpi .slt arg1 c0_i32_15
  let v34 : BitVec 32 := Scalar.extui v33
  let v35 : BitVec 32 := Scalar.subi v32 v34
  let c2_i32_13 : BitVec 32 := 2#32
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi arg1 c2_i32_13
  let c0_i32_18 : BitVec 32 := 0#32
  let v43 : BitVec 1 := Scalar.cmpi .ne v42 c0_i32_18
  let v44 : BitVec 1 := Scalar.andi v41 v43
  let v30 : BitVec 32 := Scalar.divsi arg1 c2_i32_13
  let c1_i32_19 : BitVec 32 := 1#32
  let v45 : BitVec 32 := Scalar.subi v30 c1_i32_19
  let v46 : BitVec 32 := Scalar.select v44 v45 v30
  let c1_i32_20 : BitVec 32 := 1#32
  let v47 : BitVec 1 := Scalar.cmpi .eq v46 c1_i32_20
  let v48 : BitVec 32 := Scalar.extui v47
  let c0_i32_21 : BitVec 32 := 0#32
  let v49 : BitVec 1 := Scalar.cmpi .ne v48 c0_i32_21
  v49

def k0_off3 (i : grid0.Coords) : Fin 3 → Nat :=
  let arg1 : BitVec 32 := BitVec.ofNat 32 (i 1).val
  let v128 : Index := Scalar.indexCast arg1
  let c0_58 : Index := 0#32
  let c0_59 : Index := 0#32
  ![v128.toNat, 0, 0]
def k0_cond5 (i : grid0.Coords) : BitVec 1 :=
  let arg1 : BitVec 32 := BitVec.ofNat 32 (i 1).val
  let c0_i32_23 : BitVec 32 := 0#32
  let v51 : BitVec 1 := Scalar.cmpi .sgt arg1 c0_i32_23
  let v52 : BitVec 32 := Scalar.extui v51
  let c0_i32_24 : BitVec 32 := 0#32
  let v53 : BitVec 1 := Scalar.cmpi .slt arg1 c0_i32_24
  let v54 : BitVec 32 := Scalar.extui v53
  let v55 : BitVec 32 := Scalar.subi v52 v54
  let c2_i32_22 : BitVec 32 := 2#32
  let c0_i32_25 : BitVec 32 := 0#32
  let v56 : BitVec 1 := Scalar.cmpi .sgt c2_i32_22 c0_i32_25
  let v57 : BitVec 32 := Scalar.extui v56
  let c0_i32_26 : BitVec 32 := 0#32
  let v58 : BitVec 1 := Scalar.cmpi .slt c2_i32_22 c0_i32_26
  let v59 : BitVec 32 := Scalar.extui v58
  let v60 : BitVec 32 := Scalar.subi v57 v59
  let v61 : BitVec 1 := Scalar.cmpi .ne v55 v60
  let v62 : BitVec 32 := Scalar.remsi arg1 c2_i32_22
  let c0_i32_27 : BitVec 32 := 0#32
  let v63 : BitVec 1 := Scalar.cmpi .ne v62 c0_i32_27
  let v64 : BitVec 1 := Scalar.andi v61 v63
  let v50 : BitVec 32 := Scalar.divsi arg1 c2_i32_22
  let c1_i32_28 : BitVec 32 := 1#32
  let v65 : BitVec 32 := Scalar.subi v50 c1_i32_28
  let v66 : BitVec 32 := Scalar.select v64 v65 v50
  let c2_i32_29 : BitVec 32 := 2#32
  let v67 : BitVec 1 := Scalar.cmpi .eq v66 c2_i32_29
  let v68 : BitVec 32 := Scalar.extui v67
  let c0_i32_30 : BitVec 32 := 0#32
  let v69 : BitVec 1 := Scalar.cmpi .ne v68 c0_i32_30
  v69

def k0_off4 (i : grid0.Coords) : Fin 3 → Nat :=
  let arg1 : BitVec 32 := BitVec.ofNat 32 (i 1).val
  let v128 : Index := Scalar.indexCast arg1
  let c0_58 : Index := 0#32
  let c0_59 : Index := 0#32
  ![v128.toNat, 0, 0]
def k0_cond6 (i : grid0.Coords) : BitVec 1 :=
  let arg1 : BitVec 32 := BitVec.ofNat 32 (i 1).val
  let c0_i32_32 : BitVec 32 := 0#32
  let v71 : BitVec 1 := Scalar.cmpi .sgt arg1 c0_i32_32
  let v72 : BitVec 32 := Scalar.extui v71
  let c0_i32_33 : BitVec 32 := 0#32
  let v73 : BitVec 1 := Scalar.cmpi .slt arg1 c0_i32_33
  let v74 : BitVec 32 := Scalar.extui v73
  let v75 : BitVec 32 := Scalar.subi v72 v74
  let c2_i32_31 : BitVec 32 := 2#32
  let c0_i32_34 : BitVec 32 := 0#32
  let v76 : BitVec 1 := Scalar.cmpi .sgt c2_i32_31 c0_i32_34
  let v77 : BitVec 32 := Scalar.extui v76
  let c0_i32_35 : BitVec 32 := 0#32
  let v78 : BitVec 1 := Scalar.cmpi .slt c2_i32_31 c0_i32_35
  let v79 : BitVec 32 := Scalar.extui v78
  let v80 : BitVec 32 := Scalar.subi v77 v79
  let v81 : BitVec 1 := Scalar.cmpi .ne v75 v80
  let v82 : BitVec 32 := Scalar.remsi arg1 c2_i32_31
  let c0_i32_36 : BitVec 32 := 0#32
  let v83 : BitVec 1 := Scalar.cmpi .ne v82 c0_i32_36
  let v84 : BitVec 1 := Scalar.andi v81 v83
  let v70 : BitVec 32 := Scalar.divsi arg1 c2_i32_31
  let c1_i32_37 : BitVec 32 := 1#32
  let v85 : BitVec 32 := Scalar.subi v70 c1_i32_37
  let v86 : BitVec 32 := Scalar.select v84 v85 v70
  let c3_i32 : BitVec 32 := 3#32
  let v87 : BitVec 1 := Scalar.cmpi .eq v86 c3_i32
  let v88 : BitVec 32 := Scalar.extui v87
  let c0_i32_38 : BitVec 32 := 0#32
  let v89 : BitVec 1 := Scalar.cmpi .ne v88 c0_i32_38
  v89

def k0_off5 (i : grid0.Coords) : Fin 3 → Nat :=
  let arg1 : BitVec 32 := BitVec.ofNat 32 (i 1).val
  let v128 : Index := Scalar.indexCast arg1
  let c0_58 : Index := 0#32
  let c0_59 : Index := 0#32
  ![v128.toNat, 0, 0]
def k0_off6 (i : grid0.Coords) : Fin 3 → Nat :=
  let c0_40 : Index := 0#32
  let arg1 : BitVec 32 := BitVec.ofNat 32 (i 1).val
  let c256_i32 : BitVec 32 := 256#32
  let v90 : BitVec 32 := Scalar.muli arg1 c256_i32
  let c128_i32 : BitVec 32 := 128#32
  let v91 : BitVec 32 := Scalar.subi v90 c128_i32
  let c0_i32_39 : BitVec 32 := 0#32
  let v92 : BitVec 32 := Scalar.maxsi v91 c0_i32_39
  let v93 : Index := Scalar.indexCast v92
  let c0_41 : Index := 0#32
  ![0, v93.toNat, 0]
def k0_off7 (i : grid0.Coords) : Fin 3 → Nat :=
  let arg1 : BitVec 32 := BitVec.ofNat 32 (i 1).val
  let c1_i32_45 : BitVec 32 := 1#32
  let v105 : BitVec 32 := Scalar.minsi arg1 c1_i32_45
  let v106 : Index := Scalar.indexCast v105
  let c0_46 : Index := 0#32
  let c0_47 : Index := 0#32
  ![v106.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FineRefIdeal.lean ====
abbrev S2048x512 : Shape := ⟨2, ![2048, 512]⟩
abbrev S12x2048x64 : Shape := ⟨3, ![12, 2048, 64]⟩
abbrev S1x1x2048x512 : Shape := ⟨4, ![1, 1, 2048, 512]⟩
abbrev S1x12x2048x64 : Shape := ⟨4, ![1, 12, 2048, 64]⟩
abbrev S1x1x2048x4 : Shape := ⟨4, ![1, 1, 2048, 4]⟩
abbrev S_ : Shape := ⟨0, ![]⟩
abbrev S1x1x2048x4x1 : Shape := ⟨5, ![1, 1, 2048, 4, 1]⟩
abbrev S1x1x1x1x512 : Shape := ⟨5, ![1, 1, 1, 1, 512]⟩
abbrev S1x1x2048x4x512 : Shape := ⟨5, ![1, 1, 2048, 4, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1 : Shape := ⟨1, ![1]⟩
abbrev S1x1 : Shape := ⟨2, ![1, 1]⟩
abbrev S1x1x2048x2048 : Shape := ⟨4, ![1, 1, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩

abbrev nBuf : Space → Nat
  | .hbm => 181
  | .vmem => 0
  | .smem => 0
  | _ => 0

abbrev hbmTy0_0 (i : Nat) : BufTy := match i % 128 with
  | 0 => ⟨S2048x512, .f32⟩
  | 1 => ⟨S12x2048x64, .f32⟩
  | 2 => ⟨S12x2048x64, .f32⟩
  | 3 => ⟨S12x2048x64, .f32⟩
  | 4 => ⟨S1x1x2048x512, .f32⟩
  | 5 => ⟨S1x12x2048x64, .f32⟩
  | 6 => ⟨S1x12x2048x64, .f32⟩
  | 7 => ⟨S1x12x2048x64, .f32⟩
  | 8 => ⟨S1x1x2048x4, .f32⟩
  | 9 => ⟨S1x1x2048x4, .i32⟩
  | 10 => ⟨S_, .f32⟩
  | 11 => ⟨S1x1x2048x4, .f32⟩
  | 12 => ⟨S1x1x2048x4, .f32⟩
  | 13 => ⟨S1x1x2048x4, .f32⟩
  | 14 => ⟨S1x1x2048x4x1, .i32⟩
  | 15 => ⟨S1x1x1x1x512, .i32⟩
  | 16 => ⟨S1x1x2048x4x512, .i32⟩
  | 17 => ⟨S1x1x2048x4x512, .i32⟩
  | 18 => ⟨S1x1x2048x4x512, .i1⟩
  | 19 => ⟨S1x1x2048x4x512, .f32⟩
  | 20 => ⟨S_, .f32⟩
  | 21 => ⟨S1x1x2048x512, .f32⟩
  | 22 => ⟨S_, .f32⟩
  | 23 => ⟨S1x1x2048x512, .f32⟩
  | 24 => ⟨S1x1x2048x512, .i1⟩
  | 25 => ⟨S_, .f32⟩
  | 26 => ⟨S1x1x2048x4, .f32⟩
  | 27 => ⟨S1x1x2048x4, .f32⟩
  | 28 => ⟨S1x1x2048x4x1, .f32⟩
  | 29 => ⟨S1x1x2048x4x512, .f32⟩
  | 30 => ⟨S1x1x2048x4x512, .f32⟩
  | 31 => ⟨S_, .f32⟩
  | 32 => ⟨S1x1x2048x512, .f32⟩
  | 33 => ⟨S_, .f32⟩
  | 34 => ⟨S1x1x2048x512, .f32⟩
  | 35 => ⟨S1x1x2048x512, .f32⟩
  | 36 => ⟨S2048, .i32⟩
  | 37 => ⟨S_, .i32⟩
  | 38 => ⟨S_, .i32⟩
  | 39 => ⟨S2048, .i32⟩
  | 40 => ⟨S2048, .i32⟩
  | 41 => ⟨S2048, .i32⟩
  | 42 => ⟨S_, .i32⟩
  | 43 => ⟨S2048, .i32⟩
  | 44 => ⟨S2048, .i1⟩
  | 45 => ⟨S2048, .i32⟩
  | 46 => ⟨S2048, .i32⟩
  | 47 => ⟨S_, .i32⟩
  | 48 => ⟨S2048, .i32⟩
  | 49 => ⟨S2048, .i1⟩
  | 50 => ⟨S2048, .i1⟩
  | 51 => ⟨S_, .i32⟩
  | 52 => ⟨S2048, .i32⟩
  | 53 => ⟨S2048, .i32⟩
  | 54 => ⟨S2048, .i32⟩
  | 55 => ⟨S2048x1, .i32⟩
  | 56 => ⟨S1x2048, .i32⟩
  | 57 => ⟨S2048x2048, .i32⟩
  | 58 => ⟨S2048x2048, .i32⟩
  | 59 => ⟨S2048x2048, .i1⟩
  | 60 => ⟨S2048x1, .i32⟩
  | 61 => ⟨S1x2048, .i32⟩
  | 62 => ⟨S2048x2048, .i32⟩
  | 63 => ⟨S2048x2048, .i32⟩
  | 64 => ⟨S2048x2048, .i1⟩
  | 65 => ⟨S_, .i32⟩
  | 66 => ⟨S2048, .i32⟩
  | 67 => ⟨S2048, .i1⟩
  | 68 => ⟨S_, .i32⟩
  | 69 => ⟨S2048, .i32⟩
  | 70 => ⟨S2048, .i32⟩
  | 71 => ⟨S2048, .i32⟩
  | 72 => ⟨S2048x1, .i32⟩
  | 73 => ⟨S1, .i32⟩
  | 74 => ⟨S_, .i32⟩
  | 75 => ⟨S2048x1, .i32⟩
  | 76 => ⟨S2048x1, .i1⟩
  | 77 => ⟨S1x1, .i32⟩
  | 78 => ⟨S2048x1, .i32⟩
  | 79 => ⟨S2048x1, .i1⟩
  | 80 => ⟨S2048x1, .i1⟩
  | 81 => ⟨S_, .i1⟩
  | 82 => ⟨S2048, .i1⟩
  | 83 => ⟨S1x1x2048x2048, .i1⟩
  | 84 => ⟨S1x1x2048x2048, .i1⟩
  | 85 => ⟨S_, .i1⟩
  | 86 => ⟨S1x1x2048x2048, .i1⟩
  | 87 => ⟨S1x1x2048x2048, .i1⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S1, .i32⟩
  | 97 => ⟨S_, .i32⟩
  | 98 => ⟨S2048x1, .i32⟩
  | 99 => ⟨S2048x1, .i1⟩
  | 100 => ⟨S1x1, .i32⟩
  | 101 => ⟨S2048x1, .i32⟩
  | 102 => ⟨S2048x1, .i1⟩
  | 103 => ⟨S2048x1, .i1⟩
  | 104 => ⟨S_, .i1⟩
  | 105 => ⟨S2048, .i1⟩
  | 106 => ⟨S1x1x2048x2048, .f32⟩
  | 107 => ⟨S1x1x2048x2048, .i1⟩
  | 108 => ⟨S_, .f32⟩
  | 109 => ⟨S1x1x2048x2048, .f32⟩
  | 110 => ⟨S1x1x2048x2048, .f32⟩
  | 111 => ⟨S1x1x2048x2048, .i1⟩
  | 112 => ⟨S1x1x2048x2048, .i1⟩
  | 113 => ⟨S1x1x2048x2048, .i1⟩
  | 114 => ⟨S1x1x2048x2048, .i1⟩
  | 115 => ⟨S1x12x2048x2048, .f32⟩
  | 116 => ⟨S_, .f32⟩
  | 117 => ⟨S1x12x2048x2048, .f32⟩
  | 118 => ⟨S1x12x2048x2048, .f32⟩
  | 119 => ⟨S_, .f32⟩
  | 120 => ⟨S_, .f32⟩
  | 121 => ⟨S1x12x2048x2048, .i1⟩
  | 122 => ⟨S1x12x2048x2048, .f32⟩
  | 123 => ⟨S1x12x2048x2048, .f32⟩
  | 124 => ⟨S_, .f32⟩
  | 125 => ⟨S1x12x2048, .f32⟩
  | 126 => ⟨S_, .f32⟩
  | 127 => ⟨S1x12x2048, .f32⟩
  | _ => ⟨S2048x512, .f32⟩

abbrev hbmTy0_1 (i : Nat) : BufTy := match i % 128 with
  | 0 => ⟨S1x12x2048, .f32⟩
  | 1 => ⟨S1x12x2048x1, .f32⟩
  | 2 => ⟨S1x12x2048x2048, .f32⟩
  | 3 => ⟨S1x12x2048x2048, .f32⟩
  | 4 => ⟨S1x12x2048x2048, .f32⟩
  | 5 => ⟨S_, .f32⟩
  | 6 => ⟨S1x12x2048, .f32⟩
  | 7 => ⟨S1x12x2048x1, .f32⟩
  | 8 => ⟨S1x12x2048x2048, .f32⟩
  | 9 => ⟨S1x12x2048x2048, .f32⟩
  | 10 => ⟨S_, .f32⟩
  | 11 => ⟨S_, .f32⟩
  | 12 => ⟨S1x1x2048x2048, .f32⟩
  | 13 => ⟨S1x1x2048x2048, .f32⟩
  | 14 => ⟨S1x12x2048x2048, .f32⟩
  | 15 => ⟨S1x12x2048x2048, .f32⟩
  | 16 => ⟨S1x12x2048x64, .f32⟩
  | 17 => ⟨S2048x1, .i32⟩
  | 18 => ⟨S1x2048, .i32⟩
  | 19 => ⟨S2048x2048, .i32⟩
  | 20 => ⟨S2048x2048, .i32⟩
  | 21 => ⟨S2048x2048, .i32⟩
  | 22 => ⟨S_, .i32⟩
  | 23 => ⟨S2048x2048, .i32⟩
  | 24 => ⟨S2048x2048, .i1⟩
  | 25 => ⟨S2048x2048, .i1⟩
  | 26 => ⟨S1x12x2048x2048, .f32⟩
  | 27 => ⟨S_, .f32⟩
  | 28 => ⟨S1x12x2048x2048, .f32⟩
  | 29 => ⟨S1x12x2048x2048, .f32⟩
  | 30 => ⟨S1x1x2048x2048, .i1⟩
  | 31 => ⟨S_, .f32⟩
  | 32 => ⟨S_, .f32⟩
  | 33 => ⟨S1x12x2048x2048, .i1⟩
  | 34 => ⟨S1x12x2048x2048, .f32⟩
  | 35 => ⟨S1x12x2048x2048, .f32⟩
  | 36 => ⟨S_, .f32⟩
  | 37 => ⟨S1x12x2048, .f32⟩
  | 38 => ⟨S_, .f32⟩
  | 39 => ⟨S1x12x2048, .f32⟩
  | 40 => ⟨S1x12x2048, .f32⟩
  | 41 => ⟨S1x12x2048x1, .f32⟩
  | 42 => ⟨S1x12x2048x2048, .f32⟩
  | 43 => ⟨S1x12x2048x2048, .f32⟩
  | 44 => ⟨S1x12x2048x2048, .f32⟩
  | 45 => ⟨S_, .f32⟩
  | 46 => ⟨S1x12x2048, .f32⟩
  | 47 => ⟨S1x12x2048x1, .f32⟩
  | 48 => ⟨S1x12x2048x2048, .f32⟩
  | 49 => ⟨S1x12x2048x2048, .f32⟩
  | 50 => ⟨S1x12x2048x64, .f32⟩
  | 51 => ⟨S12x2048x64, .f32⟩
  | 52 => ⟨S12x2048x64, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_c_4 : Ref sig .tc := ⟨.hbm, 85, rfl⟩
abbrev main_call2_v15 : Ref sig .tc := ⟨.hbm, 86, rfl⟩
abbrev main_v31 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_cst_5 : Ref sig .tc := ⟨.hbm, 116, rfl⟩
abbrev main_v38 : Ref sig .tc := ⟨.hbm, 117, rfl⟩
abbrev main_v39 : Ref sig .tc := ⟨.hbm, 118, rfl⟩
abbrev main_cst_6 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v40 : Ref sig .tc := ⟨.hbm, 123, rfl⟩
abbrev main_cst_7 : Ref sig .tc := ⟨.hbm, 124, rfl⟩
abbrev main_v41 : Ref sig .tc := ⟨.hbm, 125, rfl⟩
abbrev main_cst_8 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_cst_9 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_10 : Ref sig .tc := ⟨.hbm, 138, rfl⟩
abbrev main_call5_v0 : Ref sig .tc := ⟨.hbm, 139, rfl⟩
abbrev main_call5_v1 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_c_11 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_cst_12 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_cst_13 : Ref sig .tc := ⟨.hbm, 159, rfl⟩
abbrev main_call6_v0 : Ref sig .tc := ⟨.hbm, 160, rfl⟩
abbrev main_call6_v1 : Ref sig .tc := ⟨.hbm, 161, rfl⟩
abbrev main_call6_v2 : Ref sig .tc := ⟨.hbm, 162, rfl⟩
abbrev main_v68 : Ref sig .tc := ⟨.hbm, 163, rfl⟩
abbrev main_cst_14 : Ref sig .tc := ⟨.hbm, 164, rfl⟩
abbrev main_v69 : Ref sig .tc := ⟨.hbm, 165, rfl⟩
abbrev main_cst_15 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_cst_16 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_v82 : Ref sig .tc := ⟨.hbm, 180, rfl⟩

abbrev nD : Nat := 1
abbrev τ : Topo := Topo.v7x

variable {F : FTy → Type} [FloatOps F]
-- ==== Combine.lean ====
abbrev S1x2048x768 : Shape := ⟨3, ![1, 2048, 768]⟩
abbrev S12x2048x64 : Shape := ⟨3, ![12, 2048, 64]⟩
abbrev S36x768 : Shape := ⟨2, ![36, 768]⟩
abbrev S36 : Shape := ⟨1, ![36]⟩
abbrev S768x768 : Shape := ⟨2, ![768, 768]⟩
abbrev S2048x768 : Shape := ⟨2, ![2048, 768]⟩
abbrev S_ : Shape := ⟨0, ![]⟩
abbrev S128x768 : Shape := ⟨2, ![128, 768]⟩
abbrev S1 : Shape := ⟨1, ![1]⟩
abbrev S1x128 : Shape := ⟨2, ![1, 128]⟩
abbrev S2 : Shape := ⟨1, ![2]⟩
abbrev S768x12x64 : Shape := ⟨3, ![768, 12, 64]⟩
abbrev S12x768x64 : Shape := ⟨3, ![12, 768, 64]⟩
abbrev S256x768 : Shape := ⟨2, ![256, 768]⟩
abbrev S12x256x64 : Shape := ⟨3, ![12, 256, 64]⟩
abbrev S256x128 : Shape := ⟨2, ![256, 128]⟩
abbrev S256x1 : Shape := ⟨2, ![256, 1]⟩
abbrev S1x256x64 : Shape := ⟨3, ![1, 256, 64]⟩
abbrev S256x64 : Shape := ⟨2, ![256, 64]⟩
abbrev S1x768x64 : Shape := ⟨3, ![1, 768, 64]⟩
abbrev S768x64 : Shape := ⟨2, ![768, 64]⟩

abbrev nBuf : Space → Nat
  | .hbm => 24
  | .vmem => 13
  | .smem => 0
  | _ => 0

abbrev bufTy : (tb : Table) → Fin (tcTables nBuf tb) → BufTy
  | .hbm, ⟨0, _⟩ => ⟨S1x2048x768, .f32⟩
  | .hbm, ⟨1, _⟩ => ⟨S12x2048x64, .f32⟩
  | .hbm, ⟨2, _⟩ => ⟨S12x2048x64, .f32⟩
  | .hbm, ⟨3, _⟩ => ⟨S12x2048x64, .f32⟩
  | .hbm, ⟨4, _⟩ => ⟨S36x768, .f32⟩
  | .hbm, ⟨5, _⟩ => ⟨S36, .f32⟩
  | .hbm, ⟨6, _⟩ => ⟨S768x768, .f32⟩
  | .hbm, ⟨7, _⟩ => ⟨S2048x768, .f32⟩
  | .hbm, ⟨8, _⟩ => ⟨S_, .f32⟩
  | .hbm, ⟨9, _⟩ => ⟨S128x768, .f32⟩
  | .hbm, ⟨10, _⟩ => ⟨S_, .i32⟩
  | .hbm, ⟨11, _⟩ => ⟨S1, .i32⟩
  | .hbm, ⟨12, _⟩ => ⟨S128x768, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S768x12x64, .f32⟩
  | .hbm, ⟨22, _⟩ => ⟨S12x768x64, .f32⟩
  | .hbm, ⟨23, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S12x256x64, .f32⟩
  | .local _ .vmem, ⟨3, _⟩ => ⟨S12x256x64, .f32⟩
  | .local _ .vmem, ⟨4, _⟩ => ⟨S12x256x64, .f32⟩
  | .local _ .vmem, ⟨5, _⟩ => ⟨S12x256x64, .f32⟩
  | .local _ .vmem, ⟨6, _⟩ => ⟨S12x256x64, .f32⟩
  | .local _ .vmem, ⟨7, _⟩ => ⟨S12x256x64, .f32⟩
  | .local _ .vmem, ⟨8, _⟩ => ⟨S128x768, .f32⟩
  | .local _ .vmem, ⟨9, _⟩ => ⟨S1x128, .f32⟩
  | .local _ .vmem, ⟨10, _⟩ => ⟨S12x768x64, .f32⟩
  | .local _ .vmem, ⟨11, _⟩ => ⟨S256x768, .f32⟩
  | .local _ .vmem, ⟨12, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x768x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineRefIdeal.lean ====
abbrev S1x2048x768 : Shape := ⟨3, ![1, 2048, 768]⟩
abbrev S12x2048x64 : Shape := ⟨3, ![12, 2048, 64]⟩
abbrev S36x768 : Shape := ⟨2, ![36, 768]⟩
abbrev S36 : Shape := ⟨1, ![36]⟩
abbrev S768x768 : Shape := ⟨2, ![768, 768]⟩
abbrev S1x12x2048x64 : Shape := ⟨4, ![1, 12, 2048, 64]⟩
abbrev S768x36 : Shape := ⟨2, ![768, 36]⟩
abbrev S1x2048x36 : Shape := ⟨3, ![1, 2048, 36]⟩
abbrev S1x1x36 : Shape := ⟨3, ![1, 1, 36]⟩
abbrev S_ : Shape := ⟨0, ![]⟩
abbrev S1x2048x12x3 : Shape := ⟨4, ![1, 2048, 12, 3]⟩
abbrev S1x12x2048x3 : Shape := ⟨4, ![1, 12, 2048, 3]⟩
abbrev S1x12x2048x1 : Shape := ⟨4, ![1, 12, 2048, 1]⟩
abbrev S1x2048x12x64 : Shape := ⟨4, ![1, 2048, 12, 64]⟩
abbrev S2048x768 : Shape := ⟨2, ![2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S12x2048x64, .f32⟩
  | .hbm, ⟨2, _⟩ => ⟨S12x2048x64, .f32⟩
  | .hbm, ⟨3, _⟩ => ⟨S12x2048x64, .f32⟩
  | .hbm, ⟨4, _⟩ => ⟨S36x768, .f32⟩
  | .hbm, ⟨5, _⟩ => ⟨S36, .f32⟩
  | .hbm, ⟨6, _⟩ => ⟨S768x768, .f32⟩
  | .hbm, ⟨7, _⟩ => ⟨S1x12x2048x64, .f32⟩
  | .hbm, ⟨8, _⟩ => ⟨S1x12x2048x64, .f32⟩
  | .hbm, ⟨9, _⟩ => ⟨S1x12x2048x64, .f32⟩
  | .hbm, ⟨10, _⟩ => ⟨S768x36, .f32⟩
  | .hbm, ⟨11, _⟩ => ⟨S1x2048x36, .f32⟩
  | .hbm, ⟨12, _⟩ => ⟨S1x1x36, .f32⟩
  | .hbm, ⟨13, _⟩ => ⟨S1x2048x36, .f32⟩
  | .hbm, ⟨14, _⟩ => ⟨S1x2048x36, .f32⟩
  | .hbm, ⟨15, _⟩ => ⟨S1x2048x36, .f32⟩
  | .hbm, ⟨16, _⟩ => ⟨S1x2048x36, .f32⟩
  | .hbm, ⟨17, _⟩ => ⟨S_, .f32⟩
  | .hbm, ⟨18, _⟩ => ⟨S1x2048x36, .f32⟩
  | .hbm, ⟨19, _⟩ => ⟨S1x2048x36, .f32⟩
  | .hbm, ⟨20, _⟩ => ⟨S_, .f32⟩
  | .hbm, ⟨21, _⟩ => ⟨S1x2048x36, .f32⟩
  | .hbm, ⟨22, _⟩ => ⟨S1x2048x36, .f32⟩
  | .hbm, ⟨23, _⟩ => ⟨S1x2048x12x3, .f32⟩
  | .hbm, ⟨24, _⟩ => ⟨S1x12x2048x3, .f32⟩
  | .hbm, ⟨25, _⟩ => ⟨S1x12x2048x1, .f32⟩
  | .hbm, ⟨26, _⟩ => ⟨S1x12x2048x64, .f32⟩
  | .hbm, ⟨27, _⟩ => ⟨S1x12x2048x64, .f32⟩
  | .hbm, ⟨28, _⟩ => ⟨S1x12x2048x1, .f32⟩
  | .hbm, ⟨29, _⟩ => ⟨S1x12x2048x64, .f32⟩
  | .hbm, ⟨30, _⟩ => ⟨S1x12x2048x64, .f32⟩
  | .hbm, ⟨31, _⟩ => ⟨S1x12x2048x64, .f32⟩
  | .hbm, ⟨32, _⟩ => ⟨S1x12x2048x1, .f32⟩
  | .hbm, ⟨33, _⟩ => ⟨S1x12x2048x64, .f32⟩
  | .hbm, ⟨34, _⟩ => ⟨S1x12x2048x64, .f32⟩
  | .hbm, ⟨35, _⟩ => ⟨S1x12x2048x64, .f32⟩
  | .hbm, ⟨36, _⟩ => ⟨S1x2048x12x64, .f32⟩
  | .hbm, ⟨37, _⟩ => ⟨S1x2048x768, .f32⟩
  | .hbm, ⟨38, _⟩ => ⟨S768x768, .f32⟩
  | .hbm, ⟨39, _⟩ => ⟨S1x2048x768, .f32⟩
  | .hbm, ⟨40, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.QkvEntry.lean ====
module

public import proofs.«01_k».proof.Proof.Gen.QkvIdeal.Value
public import Idealize.ShloMosaic.Lib.Pointwise
public import Idealize.ShloMosaic.Lib.Pipeline.ValueKit
public import Idealize.ShloMosaic.PureOps.Ideal.Laws

@[expose] public section

set_option maxRecDepth 16384

noncomputable section

namespace Cert.QkvIdeal.Hand

open Cert.QkvIdeal Cert.QkvIdeal.Gen
open Idealize.ShloMosaic Idealize.ShloMosaic.TcCoe Idealize.SL.Sem

/-! ## The body at an index -/

/-- The quarter turn of the pairs of consecutive lanes: `(a, b)` becomes `(-b, a)`. -/
def turned (v : Fin 768 → EReal) (j : Fin 768) : EReal :=
  if j.val % 2 = 0 then -v ⟨(j.val + 1) % 768, Nat.mod_lt _ (by decide)⟩ else v ⟨(j.val + 767) % 768, Nat.mod_lt _ (by decide)⟩

/-- The rotation of the pairs by an angle of cosine `c` and sine `s`. -/
def rotated (v : Fin 768 → EReal) (c s : EReal) (j : Fin 768) : EReal := v j * c + turned v j * s

/-- The body's test for an even lane. -/
def laneBit (j : Nat) : BitVec 1 :=
  IntOp.cmpi CmpIPredicate.eq
    (Scalar.select
      (IntOp.andi
        (IntOp.xori
          (IntOp.cmpi CmpIPredicate.slt (IntOp.remsi ArithUnit.vector (BitVec.ofNat 32 j) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne (IntOp.remsi ArithUnit.vector (BitVec.ofNat 32 j) (Scalar.select (Scalar.cmpi CmpIPredicate.eq 2#32 0#32) 1#32 2#32)) 0#32))
      (IntOp.addi (IntOp.remsi ArithUnit.vector (BitVec.ofNat 32 j) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 j) (Scalar.select (Scalar.cmpi CmpIPredicate.eq 2#32 0#32) 1#32 2#32)))
    0#32

theorem laneBit_eq : ∀ j : Fin 768, laneBit j.val = if j.val % 2 = 0 then 1#1 else 0#1 := by decide +kernel

/-- Choosing between the two rolled copies by the lane's parity is the quarter turn. -/
theorem turn_eq (v : Fin 768 → EReal) (j : Fin 768) :
    Scalar.select (laneBit j.val) (0 - v ⟨(j.val + 768 - 767) % 768, Nat.mod_lt _ (by decide)⟩) (v ⟨(j.val + 768 - 1) % 768, Nat.mod_lt _ (by decide)⟩) = turned v j := by
  rw [laneBit_eq]
  unfold turned
  by_cases h : j.val % 2 = 0
  · rw [if_pos h, if_pos h]
    exact zero_sub _
  · rw [if_neg h, if_neg h]
    rfl

theorem pay5_at (x : Vec Ideal S256x768 .f32) (w : Vec Ideal S2304x768 .f32) (r : Fin 256) (e : Fin 2304) :
    k0_pay5 (F := Ideal) x w (ix2 r e) = ∑ k, x (ix2 r k) * w (ix2 e k) := by
  pointwise [k0_pay5]

/-- The body's rotation of the keys, entry by entry. -/
theorem pay14_at (v c s : Vec Ideal S256x768 .f32) (r : Fin 256) (j : Fin 768) :
    k0_pay14 (F := Ideal) v c s (ix2 r j) = rotated (fun k => v (ix2 r k)) (c (ix2 r j)) (s (ix2 r j)) j := by
  unfold rotated
  rw [← turn_eq]
  unfold laneBit
  pointwise [k0_pay14]

/-- The second term of the body's rotation of the queries, entry by entry. -/
theorem pay12_at (x : Vec Ideal S256x768 .f32) (w : Vec Ideal S2304x768 .f32) (s : Vec Ideal S256x768 .f32) (r : Fin 256) (j : Fin 768) :
    k0_pay12 (F := Ideal) x w s (ix2 r j) = turned (fun k => k0_pay6 (F := Ideal) x w (ix2 r k)) j * s (ix2 r j) := by
  rw [← turn_eq]
  unfold laneBit
  generalize hq : k0_pay6 (F := Ideal) x w = q
  have : k0_pay12 (F := Ideal) x w s (ix2 r j) = Scalar.select (laneBit j.val) (0 - q (ix2 r ⟨(j.val + 768 - 767) % 768, Nat.mod_lt _ (by decide)⟩))
      (q (ix2 r ⟨(j.val + 768 - 1) % 768, Nat.mod_lt _ (by decide)⟩)) * s (ix2 r j) := by
    unfold k0_pay12 laneBit
    rw [hq]
    pointwise [k0_pay10]
  exact this

/-- The three projections are slices of one product. -/
theorem pay6_at (x : Vec Ideal S256x768 .f32) (w : Vec Ideal S2304x768 .f32) (r : Fin 256) (j : Fin 768) :
    k0_pay6 (F := Ideal) x w (ix2 r j) = ∑ k, x (ix2 r k) * w (ix2 ⟨j.val, by omega⟩ k) := by
  refine Eq.trans ?_ (pay5_at x w r ⟨j.val, by omega⟩)
  unfold k0_pay6
  pointwise

theorem pay7_at (x : Vec Ideal S256x768 .f32) (w : Vec Ideal S2304x768 .f32) (r : Fin 256) (j : Fin 768) :
    k0_pay7 (F := Ideal) x w (ix2 r j) = ∑ k, x (ix2 r k) * w (ix2 ⟨768 + j.val, by omega⟩ k) := by
  refine Eq.trans ?_ (pay5_at x w r ⟨768 + j.val, by omega⟩)
  unfold k0_pay7
  pointwise

/-- The column of the projections that holds component `d` of head `h`. -/
abbrev col (h : Fin 12) (d : Fin 64) : Fin 768 := ⟨h.val * 64 + d.val, by omega⟩

theorem out4_at (x : Vec Ideal S256x768 .f32) (w : Vec Ideal S2304x768 .f32) (c s : Vec Ideal S256x768 .f32) (h : Fin 12) (r : Fin 256) (d : Fin 64) :
    out0_4 x w c s (ix3 h r d) = rotated (fun e => ∑ k, x (ix2 r k) * w (ix2 ⟨e.val, by omega⟩ k)) (c (ix2 r (col h d))) (s (ix2 r (col h d))) (col h d) := by
  unfold_out out0_4
  unfold r0_0 r0_1
  rw [View.ld_unit_lit _ _ (by decide), View.ld_unit_lit _ _ (by decide), View.ld_unit_lit _ _ (by decide), View.ld_unit_lit _ _ (by decide)]
  refine (Value.canon4_eq x w c s (ix3 h r d)).trans ?_
  have e0 : Value.ix4_0 (ix3 h r d) = ix2 r ⟨h.val * 64 + d.val, by omega⟩ := funext fun a => match a with | ⟨0, _⟩ => rfl | ⟨1, _⟩ => rfl
  have e1 : Value.ix4_1 (ix3 h r d) = ix2 r (col h d) := funext fun a => match a with | ⟨0, _⟩ => rfl | ⟨1, _⟩ => rfl
  have e2 : Value.ix4_2 (ix3 h r d) = ix2 r (col h d) := funext fun a => match a with | ⟨0, _⟩ => rfl | ⟨1, _⟩ => rfl
  show k0_pay5 x w (Value.ix4_0 (ix3 h r d)) * c (Value.ix4_1 (ix3 h r d)) + k0_pay12 x w s (Value.ix4_2 (ix3 h r d)) = _
  rw [e0, e1, e2, pay5_at, pay12_at]
  simp only [pay6_at]
  rfl

theorem out5_at (x : Vec Ideal S256x768 .f32) (w : Vec Ideal S2304x768 .f32) (c s : Vec Ideal S256x768 .f32) (h : Fin 12) (r : Fin 256) (d : Fin 64) :
    out0_5 x w c s (ix3 h r d) = rotated (fun e => ∑ k, x (ix2 r k) * w (ix2 ⟨768 + e.val, by omega⟩ k)) (c (ix2 r (col h d))) (s (ix2 r (col h d))) (col h d) := by
  unfold_out out0_5
  unfold r0_0 r0_1
  rw [View.ld_unit_lit _ _ (by decide), View.ld_unit_lit _ _ (by decide), View.ld_unit_lit _ _ (by decide), View.ld_unit_lit _ _ (by decide)]
  refine (Value.canon5_eq x w c s (ix3 h r d)).trans ?_
  have e0 : Value.ix5_0 (ix3 h r d) = ix2 r (col h d) := funext fun a => match a with | ⟨0, _⟩ => rfl | ⟨1, _⟩ => rfl
  show k0_pay14 (k0_pay7 x w) (k0_pay9 c) (k0_pay10 s) (Value.ix5_0 (ix3 h r d)) = _
  rw [e0, pay14_at]
  simp only [pay7_at]
  congr 1
  · unfold k0_pay9; pointwise
  · unfold k0_pay10; pointwise

theorem out6_at (x : Vec Ideal S256x768 .f32) (w : Vec Ideal S2304x768 .f32) (c s : Vec Ideal S256x768 .f32) (h : Fin 12) (r : Fin 256) (d : Fin 64) :
    out0_6 x w c s (ix3 h r d) = ∑ k, x (ix2 r k) * w (ix2 ⟨1536 + (col h d).val, by omega⟩ k) := by
  unfold_out out0_6
  unfold r0_0 r0_1
  rw [View.ld_unit_lit _ _ (by decide), View.ld_unit_lit _ _ (by decide)]
  refine (Value.canon6_eq x w (ix3 h r d)).trans ?_
  have e0 : Value.ix6_0 (ix3 h r d) = ix2 r ⟨1536 + (col h d).val, by omega⟩ := by
    funext a
    apply Fin.ext
    match a with
    | ⟨0, _⟩ => rfl
    | ⟨1, _⟩ => show h.val * 64 + d.val + 1536 = 1536 + (h.val * 64 + d.val); omega
  show k0_pay5 x w (Value.ix6_0 (ix3 h r d)) = _
  rw [e0, pay5_at]

/-! ## The blocks -/

variable (m : (ℓ : Loc nD τ sig) → Buf (Elt Ideal) ℓ)

/-- The angle of row `R` and pair `p`, as both programs compute it. -/
def angles : FVec Ideal S2048x32 .f32 :=
  mulf (broadcastInDim S2048x32 ![0, 1] bcast_S2048x1_S2048x32_0_1 (broadcastInDim S2048x1 ![0] bcast_S2048_S2048x1_0 (sitofp (F := Ideal) FTy.f32 (iotaInDim S2048 32 0))))
    (broadcastInDim S2048x32 ![0, 1] bcast_S1x32_S2048x32_0_1
      (broadcastInDim S1x32 ![1] bcast_S32_S1x32_1
        (Host.divf (broadcastInDim S32 ![] bcast_S_S32 (constant (F := Ideal) S_ .f32 1065353216#32))
          (Host.powf (broadcastInDim S32 ![] bcast_S_S32 (constant (F := Ideal) S_ .f32 1176256512#32))
            (Host.divf
              (addf (broadcastInDim S32 ![] bcast_S_S32 (constant (F := Ideal) S_ .f32 0#32))
                (mulf (broadcastInDim S32 ![] bcast_S_S32 (constant (F := Ideal) S_ .f32 1073741824#32)) (sitofp (F := Ideal) FTy.f32 (iotaInDim S32 32 0))))
              (broadcastInDim S32 ![] bcast_S_S32 (constant (F := Ideal) S_ .f32 1115684864#32)))))))

/-- The cosines and the sines of the angles. -/
def cosines : FVec Ideal S2048x32 .f32 := Host.cos angles
def sines : FVec Ideal S2048x32 .f32 := Host.sin angles

/-- A table over the pairs, each entry twice, and the whole twelve times. -/
def table (a : FVec Ideal S2048x32 .f32) : FVec Ideal S2048x768 .f32 :=
  shapeCast S2048x768
    (broadcastInDim S1x2048x12x64 ![0, 1, 2, 3] bcast_S1x2048x1x64_S1x2048x12x64_0_1_2_3
      (shapeCast S1x2048x1x64 (shapeCast S2048x64 (broadcastInDim S2048x32x2 ![0, 1] bcast_S2048x32_S2048x32x2_0_1 a) shapeCasts_S2048x32x2_S2048x64)
        shapeCasts_S2048x64_S1x2048x1x64))
    shapeCasts_S1x2048x12x64_S2048x768

theorem V_v0 (c : Dev nD) : V m c main_v0 = shapeCast S2048x768 (m ((c.tc : Thread nD τ).loc main_arg0)) shapeCasts_S1x2048x768_S2048x768 := by
  unfold V; after_results_simp <;> rfl
theorem V_v1 (c : Dev nD) : V m c main_v1 = shapeCast S2304x768 (m ((c.tc : Thread nD τ).loc main_arg1)) shapeCasts_S3x768x768_S2304x768 := by
  unfold V; after_results_simp <;> rfl
theorem V_v27 (c : Dev nD) : V m c main_v27 = table cosines := by
  unfold V; after_results_simp <;> rfl
theorem V_v30 (c : Dev nD) : V m c main_v30 = table sines := by
  unfold V; after_results_simp <;> rfl

theorem table_at (a : FVec Ideal S2048x32 .f32) (R : Fin 2048) (h : Fin 12) (d : Fin 64) : table a (ix2 R (col h d)) = a (ix2 R ⟨d.val / 2, by omega⟩) := by
  unfold table
  refine (shapeCast_apply _ _ (ix2 R (col h d)) (ix4 (0 : Fin 1) R h d) (by
    rewrite [Shape.rowMajor_val_four, Shape.rowMajor_val_two]
    show ((0 * 2048 + R.val) * 12 + h.val) * 64 + d.val = R.val * 768 + (h.val * 64 + d.val)
    omega)).trans ?_
  refine (broadcastInDim_apply _ _ _ (ix4 (0 : Fin 1) R h d) (ix4 (0 : Fin 1) R (0 : Fin 1) d) (fun b => match b with
    | ⟨0, _⟩ => rfl | ⟨1, _⟩ => rfl | ⟨2, _⟩ => rfl | ⟨3, _⟩ => rfl)).trans ?_
  refine (shapeCast_apply _ _ (ix4 (0 : Fin 1) R (0 : Fin 1) d) (ix2 R d) (by
    rewrite [Shape.rowMajor_val_four, Shape.rowMajor_val_two]
    show R.val * 64 + d.val = ((0 * 2048 + R.val) * 1 + 0) * 64 + d.val
    omega)).trans ?_
  refine (shapeCast_apply _ _ (ix2 R d) (ix3 R (⟨d.val / 2, by omega⟩ : Fin 32) (⟨d.val % 2, Nat.mod_lt _ (by decide)⟩ : Fin 2)) (by
    rewrite [Shape.rowMajor_val_three, Shape.rowMajor_val_two]
    show (R.val * 32 + d.val / 2) * 2 + d.val % 2 = R.val * 64 + d.val
    omega)).trans ?_
  exact broadcastInDim_apply _ _ _ _ (ix2 R ⟨d.val / 2, by omega⟩) (fun b => match b with | ⟨0, _⟩ => rfl | ⟨1, _⟩ => rfl)

theorem idx_all : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) := by decide +kernel

/-- A block of the input rows. -/
theorem iblk0_at (c : Dev nD) (t : Fin cfg0.N) (r : Fin 256) (k : Fin 768) (R : Fin 2048) (hR : R.val = 256 * t.val + r.val) :
    (iblk m c 0 t : Vec Ideal S256x768 .f32) (ix2 r k) = (m ((c.tc : Thread nD τ).loc main_arg0) : Vec Ideal S1x2048x768 .f32) (ix3 0 R k) := by
  obtain ⟨⟨h0, h1⟩, -⟩ := idx_all t
  refine Eq.trans ?_ ((congrFun (V_v0 m c) (ix2 R k)).trans (shapeCast_apply _ _ (ix2 R k) (ix3 (0 : Fin 1) R k) (by
    rewrite [Shape.rowMajor_val_three, Shape.rowMajor_val_two]
    show (0 * 2048 + R.val) * 768 + k.val = R.val * 768 + k.val
    omega)))
  unfold iblk
  rw [View.read_apply]
  show V m c main_v0 _ = V m c main_v0 _
  congr 1
  funext a
  apply Fin.ext
  match a with
  | ⟨0, _⟩ => show win0_0.index t 0 * 256 + 1 * r.val = R.val; rw [h0, hR]; omega
  | ⟨1, _⟩ => show win0_0.index t 1 * 768 + 1 * k.val = k.val; rw [h1]; omega

/-- The three weight matrices, one above the other. -/
theorem iblk1_at (c : Dev nD) (t : Fin cfg0.N) (e : Fin 2304) (k : Fin 768) (g : Fin 3) (j : Fin 768) (he : e.val = 768 * g.val + j.val) :
    (iblk m c 1 t : Vec Ideal S2304x768 .f32) (ix2 e k) = (m ((c.tc : Thread nD τ).loc main_arg1) : Vec Ideal S3x768x768 .f32) (ix3 g j k) := by
  obtain ⟨-, ⟨h0, h1⟩, -⟩ := idx_all t
  refine Eq.trans ?_ ((congrFun (V_v1 m c) (ix2 e k)).trans (shapeCast_apply _ _ (ix2 e k) (ix3 g j k) (by
    rewrite [Shape.rowMajor_val_three, Shape.rowMajor_val_two]
    show (g.val * 768 + j.val) * 768 + k.val = e.val * 768 + k.val
    omega)))
  unfold iblk
  rw [View.read_apply]
  show V m c main_v1 _ = V m c main_v1 _
  congr 1
  funext a
  apply Fin.ext
  match a with
  | ⟨0, _⟩ => show win0_1.index t 0 * 2304 + 1 * e.val = e.val; rw [h0]; omega
  | ⟨1, _⟩ => show win0_1.index t 1 * 768 + 1 * k.val = k.val; rw [h1]; omega

/-- A block of the cosines. -/
theorem iblk2_at (c : Dev nD) (t : Fin cfg0.N) (r : Fin 256) (h : Fin 12) (d : Fin 64) (R : Fin 2048) (hR : R.val = 256 * t.val + r.val) :
    (iblk m c 2 t : Vec Ideal S256x768 .f32) (ix2 r (col h d)) = cosines (ix2 R ⟨d.val / 2, by omega⟩) := by
  obtain ⟨-, -, ⟨h0, h1⟩, -⟩ := idx_all t
  refine Eq.trans ?_ ((congrFun (V_v27 m c) (ix2 R (col h d))).trans (table_at _ R h d))
  unfold iblk
  rw [View.read_apply]
  show V m c main_v27 _ = V m c main_v27 _
  congr 1
  funext a
  apply Fin.ext
  match a with
  | ⟨0, _⟩ => show win0_2.index t 0 * 256 + 1 * r.val = R.val; rw [h0, hR]; omega
  | ⟨1, _⟩ => show win0_2.index t 1 * 768 + 1 * (col h d).val = (col h d).val; rw [h1]; omega

/-- A block of the sines. -/
theorem iblk3_at (c : Dev nD) (t : Fin cfg0.N) (r : Fin 256) (h : Fin 12) (d : Fin 64) (R : Fin 2048) (hR : R.val = 256 * t.val + r.val) :
    (iblk m c 3 t : Vec Ideal S256x768 .f32) (ix2 r (col h d)) = sines (ix2 R ⟨d.val / 2, by omega⟩) := by
  obtain ⟨-, -, -, ⟨h0, h1⟩, -⟩ := idx_all t
  refine Eq.trans ?_ ((congrFun (V_v30 m c) (ix2 R (col h d))).trans (table_at _ R h d))
  unfold iblk
  rw [View.read_apply]
  show V m c main_v30 _ = V m c main_v30 _
  congr 1
  funext a
  apply Fin.ext
  match a with
  | ⟨0, _⟩ => show win0_3.index t 0 * 256 + 1 * r.val = R.val; rw [h0, hR]; omega
  | ⟨1, _⟩ => show win0_3.index t 1 * 768 + 1 * (col h d).val = (col h d).val; rw [h1]; omega

/-- The projection `g` of row `R`, at column `e`. -/
def linear (x : Vec Ideal S1x2048x768 .f32) (w : Vec Ideal S3x768x768 .f32) (g : Fin 3) (R : Fin 2048) (e : Fin 768) : EReal := ∑ k, x (ix3 0 R k) * w (ix3 g e k)

/-- The projection `g` of row `R` with its pairs rotated, at component `d` of head `h`. -/
def rotary (x : Vec Ideal S1x2048x768 .f32) (w : Vec Ideal S3x768x768 .f32) (g : Fin 3) (h : Fin 12) (R : Fin 2048) (d : Fin 64) : EReal :=
  rotated (linear x w g R) (cosines (ix2 R ⟨d.val / 2, by omega⟩)) (sines (ix2 R ⟨d.val / 2, by omega⟩)) (col h d)

/-- An index of a block of twelve heads and 256 rows. -/
theorem block_idx (j : S12x256x64.Idx) : ∃ (h : Fin 12) (r : Fin 256) (d : Fin 64), j = ix3 h r d :=
  ⟨j 0, j 1, j 2, funext fun a => match a with | ⟨0, _⟩ => rfl | ⟨1, _⟩ => rfl | ⟨2, _⟩ => rfl⟩

theorem final_4 (c : Dev nD) (G : Buf (Elt Ideal) ((c : Thread nD τ).loc main_v31_0))
    (hG : ∀ (h : Fin 12) (R : Fin 2048) (d : Fin 64), rotary (m ((c.tc : Thread nD τ).loc main_arg0)) (m ((c.tc : Thread nD τ).loc main_arg1)) 0 h R d = G (ix3 h R d)) :
    (dats m 0 c).arrAt 4 cfg0.N = G := by
  refine (dats m 0 c).arrAt_eq_of_cover 4 G (fun t _ => ?_) fun i => ?_
  · have ht : t.val < 8 := lt_of_lt_of_eq t.isLt N_0
    obtain ⟨-, -, -, -, ⟨h0, h1, h2⟩, -⟩ := idx_all t
    rw [Value.flushed4]
    funext j
    obtain ⟨h, r, d, rfl⟩ := block_idx j
    rw [View.read_apply]
    refine (out4_at (iblk m c 0 t) (iblk m c 1 t) (iblk m c 2 t) (iblk m c 3 t) h r d).trans (Eq.trans ?_ ((hG h ⟨256 * t.val + r.val, by omega⟩ d).trans (congrArg G ?_)))
    · unfold rotary
      rw [iblk2_at m c t r h d ⟨256 * t.val + r.val, by omega⟩ rfl, iblk3_at m c t r h d ⟨256 * t.val + r.val, by omega⟩ rfl]
      congr 1
      funext e
      unfold linear
      refine Finset.sum_congr rfl fun k _ => congrArg₂ (fun a b : EReal => a * b) (iblk0_at m c t r k _ rfl) (iblk1_at m c t _ k 0 e ?_)
      show e.val = 768 * 0 + e.val
      omega
    · funext b
      apply Fin.ext
      match b with
      | ⟨0, _⟩ => show h.val = win0_4.index t 0 * 12 + 1 * h.val; rw [h0]; omega
      | ⟨1, _⟩ => show 256 * t.val + r.val = win0_4.index t 1 * 256 + 1 * r.val; rw [h1]; omega
      | ⟨2, _⟩ => show d.val = win0_4.index t 2 * 64 + 1 * d.val; rw [h2]; omega
  · have i0 : (i 0 : Nat) < 12 := (i 0).isLt
    have i1 : (i 1 : Nat) < 2048 := (i 1).isLt
    have i2 : (i 2 : Nat) < 64 := (i 2).isLt
    have hN : cfg0.N = 8 := N_0
    obtain ⟨t, ht⟩ : ∃ t : Fin cfg0.N, t.val = (i 1 : Nat) / 256 := ⟨⟨(i 1 : Nat) / 256, by omega⟩, rfl⟩
    obtain ⟨-, -, -, -, ⟨h0, h1, h2⟩, -⟩ := idx_all t
    refine ⟨t, flush0_4 t, ?_⟩
    show i ∈ ((View.whole main_v31_0).slice (win0_4.rect t)).set
    rw [View.set_slice_whole, Rect.mem_set_unit]
    intro a
    match a with
    | ⟨0, _⟩ => show win0_4.index t 0 * 12 ≤ (i 0 : Nat) ∧ (i 0 : Nat) < win0_4.index t 0 * 12 + 12; rw [h0]; omega
    | ⟨1, _⟩ => show win0_4.index t 1 * 256 ≤ (i 1 : Nat) ∧ (i 1 : Nat) < win0_4.index t 1 * 256 + 256; rw [h1]; omega
    | ⟨2, _⟩ => show win0_4.index t 2 * 64 ≤ (i 2 : Nat) ∧ (i 2 : Nat) < win0_4.index t 2 * 64 + 64; rw [h2]; omega

theorem final_5 (c : Dev nD) (G : Buf (Elt Ideal) ((c : Thread nD τ).loc main_v31_1))
    (hG : ∀ (h : Fin 12) (R : Fin 2048) (d : Fin 64), rotary (m ((c.tc : Thread nD τ).loc main_arg0)) (m ((c.tc : Thread nD τ).loc main_arg1)) 1 h R d = G (ix3 h R d)) :
    (dats m 0 c).arrAt 5 cfg0.N = G := by
  refine (dats m 0 c).arrAt_eq_of_cover 5 G (fun t _ => ?_) fun i => ?_
  · have ht : t.val < 8 := lt_of_lt_of_eq t.isLt N_0
    obtain ⟨-, -, -, -, -, ⟨h0, h1, h2⟩, -⟩ := idx_all t
    rw [Value.flushed5]
    funext j
    obtain ⟨h, r, d, rfl⟩ := block_idx j
    rw [View.read_apply]
    refine (out5_at (iblk m c 0 t) (iblk m c 1 t) (iblk m c 2 t) (iblk m c 3 t) h r d).trans (Eq.trans ?_ ((hG h ⟨256 * t.val + r.val, by omega⟩ d).trans (congrArg G ?_)))
    · unfold rotary
      rw [iblk2_at m c t r h d ⟨256 * t.val + r.val, by omega⟩ rfl, iblk3_at m c t r h d ⟨256 * t.val + r.val, by omega⟩ rfl]
      congr 1
      funext e
      unfold linear
      exact Finset.sum_congr rfl fun k _ => congrArg₂ (fun a b : EReal => a * b) (iblk0_at m c t r k _ rfl) (iblk1_at m c t _ k 1 e rfl)
    · funext b
      apply Fin.ext
      match b with
      | ⟨0, _⟩ => show h.val = win0_5.index t 0 * 12 + 1 * h.val; rw [h0]; omega
      | ⟨1, _⟩ => show 256 * t.val + r.val = win0_5.index t 1 * 256 + 1 * r.val; rw [h1]; omega
      | ⟨2, _⟩ => show d.val = win0_5.index t 2 * 64 + 1 * d.val; rw [h2]; omega
  · have i0 : (i 0 : Nat) < 12 := (i 0).isLt
    have i1 : (i 1 : Nat) < 2048 := (i 1).isLt
    have i2 : (i 2 : Nat) < 64 := (i 2).isLt
    have hN : cfg0.N = 8 := N_0
    obtain ⟨t, ht⟩ : ∃ t : Fin cfg0.N, t.val = (i 1 : Nat) / 256 := ⟨⟨(i 1 : Nat) / 256, by omega⟩, rfl⟩
    obtain ⟨-, -, -, -, -, ⟨h0, h1, h2⟩, -⟩ := idx_all t
    refine ⟨t, flush0_5 t, ?_⟩
    show i ∈ ((View.whole main_v31_1).slice (win0_5.rect t)).set
    rw [View.set_slice_whole, Rect.mem_set_unit]
    intro a
    match a with
    | ⟨0, _⟩ => show win0_5.index t 0 * 12 ≤ (i 0 : Nat) ∧ (i 0 : Nat) < win0_5.index t 0 * 12 + 12; rw [h0]; omega
    | ⟨1, _⟩ => show win0_5.index t 1 * 256 ≤ (i 1 : Nat) ∧ (i 1 : Nat) < win0_5.index t 1 * 256 + 256; rw [h1]; omega
    | ⟨2, _⟩ => show win0_5.index t 2 * 64 ≤ (i 2 : Nat) ∧ (i 2 : Nat) < win0_5.index t 2 * 64 + 64; rw [h2]; omega

theorem final_6 (c : Dev nD) (G : Buf (Elt Ideal) ((c : Thread nD τ).loc main_v31_2))
    (hG : ∀ (h : Fin 12) (R : Fin 2048) (d : Fin 64), linear (m ((c.tc : Thread nD τ).loc main_arg0)) (m ((c.tc : Thread nD τ).loc main_arg1)) 2 R (col h d) = G (ix3 h R d)) :
    (dats m 0 c).arrAt 6 cfg0.N = G := by
  refine (dats m 0 c).arrAt_eq_of_cover 6 G (fun t _ => ?_) fun i => ?_
  · have ht : t.val < 8 := lt_of_lt_of_eq t.isLt N_0
    obtain ⟨-, -, -, -, -, -, h0, h1, h2⟩ := idx_all t
    rw [Value.flushed6]
    funext j
    obtain ⟨h, r, d, rfl⟩ := block_idx j
    rw [View.read_apply]
    refine (out6_at (iblk m c 0 t) (iblk m c 1 t) (iblk m c 2 t) (iblk m c 3 t) h r d).trans (Eq.trans ?_ ((hG h ⟨256 * t.val + r.val, by omega⟩ d).trans (congrArg G ?_)))
    · unfold linear
      exact Finset.sum_congr rfl fun k _ => congrArg₂ (fun a b : EReal => a * b) (iblk0_at m c t r k _ rfl) (iblk1_at m c t _ k 2 (col h d) rfl)
    · funext b
      apply Fin.ext
      match b with
      | ⟨0, _⟩ => show h.val = win0_6.index t 0 * 12 + 1 * h.val; rw [h0]; omega
      | ⟨1, _⟩ => show 256 * t.val + r.val = win0_6.index t 1 * 256 + 1 * r.val; rw [h1]; omega
      | ⟨2, _⟩ => show d.val = win0_6.index t 2 * 64 + 1 * d.val; rw [h2]; omega
  · have i0 : (i 0 : Nat) < 12 := (i 0).isLt
    have i1 : (i 1 : Nat) < 2048 := (i 1).isLt
    have i2 : (i 2 : Nat) < 64 := (i 2).isLt
    have hN : cfg0.N = 8 := N_0
    obtain ⟨t, ht⟩ : ∃ t : Fin cfg0.N, t.val = (i 1 : Nat) / 256 := ⟨⟨(i 1 : Nat) / 256, by omega⟩, rfl⟩
    obtain ⟨-, -, -, -, -, -, h0, h1, h2⟩ := idx_all t
    refine ⟨t, flush0_6 t, ?_⟩
    show i ∈ ((View.whole main_v31_2).slice (win0_6.rect t)).set
    rw [View.set_slice_whole, Rect.mem_set_unit]
    intro a
    match a with
    | ⟨0, _⟩ => show win0_6.index t 0 * 12 ≤ (i 0 : Nat) ∧ (i 0 : Nat) < win0_6.index t 0 * 12 + 12; rw [h0]; omega
    | ⟨1, _⟩ => show win0_6.index t 1 * 256 ≤ (i 1 : Nat) ∧ (i 1 : Nat) < win0_6.index t 1 * 256 + 256; rw [h1]; omega
    | ⟨2, _⟩ => show win0_6.index t 2 * 64 ≤ (i 2 : Nat) ∧ (i 2 : Nat) < win0_6.index t 2 * 64 + 64; rw [h2]; omega

end Cert.QkvIdeal.Hand

end
-- ==== Proof.QkvValue.lean ====
module

public import proofs.«01_k».proof.Defs
public import proofs.«01_k».proof.Proof.QkvEntry
public import proofs.«01_k».proof.Proof.Gen.QkvRefIdeal.Read
public import proofs.«01_k».proof.Proof.Gen.QkvRefIdeal.Run

@[expose] public section

set_option maxRecDepth 16384

noncomputable section

namespace Cert.QkvIdeal.Hand

open Idealize.ShloMosaic Idealize.ShloMosaic.TcCoe Idealize.SL.Sem
open Cert.QkvIdeal Cert.QkvIdeal.Gen
open Cert.QkvRefIdeal.Read

/-! ## The reference at an index -/

theorem cos_eq : val_main_v31 (F := Ideal) = cosines := rfl
theorem sin_eq : val_main_v32 (F := Ideal) = sines := rfl

/-- The reference's projections, entry by entry. -/
theorem project_at (x : Vec Ideal S1x2048x768 .f32) (w : Vec Ideal S3x768x768 .f32) (g : Fin 3) (R : Fin 2048) (e : Fin 768) :
    val_main_v1 (F := Ideal) x w (ix4 g 0 R e) = linear x w g R e := by
  rw [val_main_v1_apply, val_main_v0_apply]
  unfold linear
  refine Finset.sum_congr rfl fun k _ => (mul_comm _ _).trans (congrArg₂ (fun a b : EReal => a * b) (congrArg x ?_) (congrArg w ?_))
  · exact funext fun a => match a with | ⟨0, _⟩ => rfl | ⟨1, _⟩ => rfl | ⟨2, _⟩ => rfl
  · exact funext fun a => match a with | ⟨0, _⟩ => rfl | ⟨1, _⟩ => rfl | ⟨2, _⟩ => rfl

/-- The index of the projected rows that an index of the heads reads. -/
theorem row_idx (h : Fin 12) (R : Fin 2048) (d : Fin 64) : idx_main_v3 (idx_main_v8 (idx_main_v9 (ix4 0 h R d))) = ix4 0 0 R (col h d) := by
  have hh := h.isLt
  have hR := R.isLt
  have hd := d.isLt
  funext a
  apply Fin.ext
  match a with
  | ⟨0, _⟩ => rfl
  | ⟨1, _⟩ => rfl
  | ⟨2, _⟩ => show ((0 * 2048 + (((0 * 2048 + R.val) * 12 + h.val) * 64 + d.val) / 768 % 2048) * 768 + (((0 * 2048 + R.val) * 12 + h.val) * 64 + d.val) % 768) / 768 % 2048 = R.val; omega
  | ⟨3, _⟩ => show ((0 * 2048 + (((0 * 2048 + R.val) * 12 + h.val) * 64 + d.val) / 768 % 2048) * 768 + (((0 * 2048 + R.val) * 12 + h.val) * 64 + d.val) % 768) % 768 = h.val * 64 + d.val; omega

theorem query_at (x : Vec Ideal S1x2048x768 .f32) (w : Vec Ideal S3x768x768 .f32) (h : Fin 12) (R : Fin 2048) (d : Fin 64) :
    val_main_v9 (F := Ideal) x w (ix4 0 h R d) = linear x w 0 R (col h d) := by
  rw [val_main_v9_apply, val_main_v8_apply, val_main_v3_apply, row_idx, val_main_v2_apply]
  exact (congrArg _ (funext fun a => match a with | ⟨0, _⟩ => rfl | ⟨1, _⟩ => rfl | ⟨2, _⟩ => rfl | ⟨3, _⟩ => rfl)).trans (project_at x w 0 R (col h d))

theorem key_at (x : Vec Ideal S1x2048x768 .f32) (w : Vec Ideal S3x768x768 .f32) (h : Fin 12) (R : Fin 2048) (d : Fin 64) :
    val_main_v11 (F := Ideal) x w (ix4 0 h R d) = linear x w 1 R (col h d) := by
  rw [val_main_v11_apply, val_main_v10_apply, val_main_v5_apply, val_main_v4_apply]
  exact (congrArg _ (show _ = ix4 (1 : Fin 3) (0 : Fin 1) R (col h d) from (congrArg idx_main_v4 (row_idx h R d)).trans (funext fun a => match a with | ⟨0, _⟩ => rfl | ⟨1, _⟩ => rfl | ⟨2, _⟩ => rfl | ⟨3, _⟩ => rfl))).trans
    (project_at x w 1 R (col h d))

theorem value_at (x : Vec Ideal S1x2048x768 .f32) (w : Vec Ideal S3x768x768 .f32) (h : Fin 12) (R : Fin 2048) (d : Fin 64) :
    val_main_v13 (F := Ideal) x w (ix4 0 h R d) = linear x w 2 R (col h d) := by
  rw [val_main_v13_apply, val_main_v12_apply, val_main_v7_apply, val_main_v6_apply]
  exact (congrArg _ (show _ = ix4 (2 : Fin 3) (0 : Fin 1) R (col h d) from (congrArg idx_main_v6 (row_idx h R d)).trans (funext fun a => match a with | ⟨0, _⟩ => rfl | ⟨1, _⟩ => rfl | ⟨2, _⟩ => rfl | ⟨3, _⟩ => rfl))).trans
    (project_at x w 2 R (col h d))

open Cert.QkvRefIdeal Cert.QkvRefIdeal.Gen in
/-- The reference's rotation of an array of heads: the pairs taken apart, turned by the row's angles, and put together again. -/
def rope (y : FVec Ideal S1x12x2048x64 .f32) : FVec Ideal S1x12x2048x64 .f32 :=
  have e : FVec Ideal S1x12x2048x32 .f32 := Host.slice S1x12x2048x32 ![0, 0, 0, 0] ![1, 1, 1, 2] y slicesBy_S1x12x2048x64_S1x12x2048x32_0s1_0s1_0s1_0s2
  have o : FVec Ideal S1x12x2048x32 .f32 := Host.slice S1x12x2048x32 ![0, 0, 0, 1] ![1, 1, 1, 2] y slicesBy_S1x12x2048x64_S1x12x2048x32_0s1_0s1_0s1_1s2
  shapeCast S1x12x2048x64
    (concatenate S1x12x2048x32x2 4
      [⟨S1x12x2048x32x1, broadcastInDim S1x12x2048x32x1 ![0, 1, 2, 3] bcast_S1x12x2048x32_S1x12x2048x32x1_0_1_2_3
          (subf (mulf e (val_main_v36 (F := Ideal))) (mulf o (val_main_v39 (F := Ideal))))⟩,
        ⟨S1x12x2048x32x1, broadcastInDim S1x12x2048x32x1 ![0, 1, 2, 3] bcast_S1x12x2048x32_S1x12x2048x32x1_0_1_2_3
          (addf (mulf e (val_main_v39 (F := Ideal))) (mulf o (val_main_v36 (F := Ideal))))⟩]
      concatenates_S1x12x2048x32x1_S1x12x2048x32x1_S1x12x2048x32x2_d4)
    shapeCasts_S1x12x2048x32x2_S1x12x2048x64

theorem rope_query (x : Vec Ideal S1x2048x768 .f32) (w : Vec Ideal S3x768x768 .f32) : val_main_v52 (F := Ideal) x w = rope (val_main_v9 (F := Ideal) x w) := rfl

theorem rope_key (x : Vec Ideal S1x2048x768 .f32) (w : Vec Ideal S3x768x768 .f32) : val_main_v91 (F := Ideal) x w = rope (val_main_v11 (F := Ideal) x w) := rfl

theorem rowCos_at (h : Fin 12) (R : Fin 2048) (p : Fin 32) : val_main_v36 (F := Ideal) (ix4 0 h R p) = cosines (ix2 R p) := by
  rw [val_main_v36_apply, val_main_v35_apply, cos_eq]
  exact congrArg _ (funext fun a => match a with | ⟨0, _⟩ => rfl | ⟨1, _⟩ => rfl)

theorem rowSin_at (h : Fin 12) (R : Fin 2048) (p : Fin 32) : val_main_v39 (F := Ideal) (ix4 0 h R p) = sines (ix2 R p) := by
  rw [val_main_v39_apply, val_main_v38_apply, sin_eq]
  exact congrArg _ (funext fun a => match a with | ⟨0, _⟩ => rfl | ⟨1, _⟩ => rfl)

/-- The reference's rotation at an index. -/
theorem rope_at (y : FVec Ideal Cert.QkvRefIdeal.S1x12x2048x64 .f32) (h : Fin 12) (R : Fin 2048) (d : Fin 64) :
    rope y (ix4 0 h R d) = if d.val % 2 < 1 then
      y (ix4 0 h R ⟨2 * (d.val / 2), by omega⟩) * cosines (ix2 R ⟨d.val / 2, by omega⟩) - y (ix4 0 h R ⟨1 + 2 * (d.val / 2), by omega⟩) * sines (ix2 R ⟨d.val / 2, by omega⟩)
    else
      y (ix4 0 h R ⟨2 * (d.val / 2), by omega⟩) * sines (ix2 R ⟨d.val / 2, by omega⟩) + y (ix4 0 h R ⟨1 + 2 * (d.val / 2), by omega⟩) * cosines (ix2 R ⟨d.val / 2, by omega⟩) := by
  rw [← rowCos_at h, ← rowSin_at h]
  unfold rope
  pointwise
  rfl

/-- The two rotations agree: a pair `(a, b)` becomes `(a c - b s, a s + b c)`. -/
theorem rope_rotary (x : Vec Ideal S1x2048x768 .f32) (w : Vec Ideal S3x768x768 .f32) (g : Fin 3) (y : FVec Ideal Cert.QkvRefIdeal.S1x12x2048x64 .f32)
    (hy : ∀ (h : Fin 12) (R : Fin 2048) (d : Fin 64), y (ix4 0 h R d) = linear x w g R (col h d)) (h : Fin 12) (R : Fin 2048) (d : Fin 64) :
    rope y (ix4 0 h R d) = rotary x w g h R d := by
  rw [rope_at, hy, hy]
  unfold rotary rotated turned
  have hh := h.isLt
  have hd := d.isLt
  by_cases e : d.val % 2 = 0
  · have h0 : col h ⟨2 * (d.val / 2), by omega⟩ = col h d := Fin.ext (by show h.val * 64 + 2 * (d.val / 2) = h.val * 64 + d.val; omega)
    have h1 : (⟨((col h d).val + 1) % 768, Nat.mod_lt _ (by decide)⟩ : Fin 768) = col h ⟨1 + 2 * (d.val / 2), by omega⟩ :=
      Fin.ext (by show (h.val * 64 + d.val + 1) % 768 = h.val * 64 + (1 + 2 * (d.val / 2)); omega)
    rw [if_pos (by omega), if_pos (by show (h.val * 64 + d.val) % 2 = 0; omega), h0, h1, EReal.neg_mul, sub_eq_add_neg]
  · have h0 : col h ⟨1 + 2 * (d.val / 2), by omega⟩ = col h d := Fin.ext (by show h.val * 64 + (1 + 2 * (d.val / 2)) = h.val * 64 + d.val; omega)
    have h1 : (⟨((col h d).val + 767) % 768, Nat.mod_lt _ (by decide)⟩ : Fin 768) = col h ⟨2 * (d.val / 2), by omega⟩ :=
      Fin.ext (by show (h.val * 64 + d.val + 767) % 768 = h.val * 64 + 2 * (d.val / 2); omega)
    rw [if_neg (by omega), if_neg (by show ¬ (h.val * 64 + d.val) % 2 = 0; omega), h0, h1, add_comm]

theorem head_idx (h : Fin 12) (R : Fin 2048) (d : Fin 64) : idx_main_v92 (ix3 h R d) = ix4 0 h R d := by
  have hh := h.isLt
  have hR := R.isLt
  have hd := d.isLt
  funext a
  apply Fin.ext
  match a with
  | ⟨0, _⟩ => rfl
  | ⟨1, _⟩ => show ((h.val * 2048 + R.val) * 64 + d.val) / 131072 % 12 = h.val; omega
  | ⟨2, _⟩ => show ((h.val * 2048 + R.val) * 64 + d.val) / 64 % 2048 = R.val; omega
  | ⟨3, _⟩ => show ((h.val * 2048 + R.val) * 64 + d.val) % 64 = d.val; omega

theorem queries_at (x : Vec Ideal S1x2048x768 .f32) (w : Vec Ideal S3x768x768 .f32) (h : Fin 12) (R : Fin 2048) (d : Fin 64) :
    val_main_v92 (F := Ideal) x w (ix3 h R d) = rotary x w 0 h R d := by
  rw [val_main_v92_apply, head_idx, rope_query]
  exact rope_rotary x w 0 _ (query_at x w) h R d

theorem keys_at (x : Vec Ideal S1x2048x768 .f32) (w : Vec Ideal S3x768x768 .f32) (h : Fin 12) (R : Fin 2048) (d : Fin 64) :
    val_main_v93 (F := Ideal) x w (ix3 h R d) = rotary x w 1 h R d := by
  rw [val_main_v93_apply, rope_key]
  exact (congrArg _ (head_idx h R d)).trans (rope_rotary x w 1 _ (key_at x w) h R d)

theorem values_at (x : Vec Ideal S1x2048x768 .f32) (w : Vec Ideal S3x768x768 .f32) (h : Fin 12) (R : Fin 2048) (d : Fin 64) :
    val_main_v94 (F := Ideal) x w (ix3 h R d) = linear x w 2 R (col h d) := by
  rw [val_main_v94_apply]
  exact (congrArg _ (head_idx h R d)).trans (value_at x w h R d)

/-- The reference runs to its end, its arguments unchanged and every semaphore counter at zero. -/
theorem frame_ref : quiescent_QkvRefIdeal := fun m g _ =>
  (θ_run Cert.QkvRefIdeal.defs _ _).mono
    (fun r h => ⟨fun c => (h c).2.2.2, sem_eq_zero_of_no_sems (by decide) r.2⟩)
    (Cert.QkvRefIdeal.Value.run (F := Ideal) m g)

/-- The kernel and the reference end with equal rotated queries, rotated keys and values. -/
theorem algebraic : algebraic_QkvIdeal_QkvRefIdeal := by
  intro m g m' g' hpre hm
  refine ⟨fun c => (dats m 0 c).arrAt 4 cfg0.N, fun c => (dats m 0 c).arrAt 5 cfg0.N, fun c => (dats m 0 c).arrAt 6 cfg0.N, Value.run_blocks m g, ?_⟩
  refine (θ_run Cert.QkvRefIdeal.defs _ _).mono (fun r h c => ?_) (Cert.QkvRefIdeal.Value.run m' g')
  obtain ⟨h1, h2, h3, h4⟩ := h c
  obtain ⟨e0, e1⟩ := hm c
  refine ⟨h1.trans ?_, h2.trans ?_, h3.trans ?_, h4⟩
  · rw [Cert.QkvRefIdeal.Read.val_main_v92_eq, e0, e1]
    exact (final_4 m c _ fun h R d => (queries_at _ _ h R d).symm).symm
  · rw [Cert.QkvRefIdeal.Read.val_main_v93_eq, e0, e1]
    exact (final_5 m c _ fun h R d => (keys_at _ _ h R d).symm).symm
  · rw [Cert.QkvRefIdeal.Read.val_main_v94_eq, e0, e1]
    exact (final_6 m c _ fun h R d => (values_at _ _ h R d).symm).symm

end Cert.QkvIdeal.Hand

end
-- ==== Proof.CompressEntry.lean ====
module

public import proofs.«01_k».proof.Proof.Gen.CompressIdeal.Value
public import Idealize.ShloMosaic.Lib.Pointwise
public import Idealize.ShloMosaic.Lib.Pipeline.ValueKit
public import Idealize.ShloMosaic.PureOps.Ideal.Laws

@[expose] public section

set_option maxRecDepth 16384

noncomputable section

namespace Cert.CompressIdeal.Hand

open Cert.CompressIdeal Cert.CompressIdeal.Gen
open Idealize.ShloMosaic Idealize.ShloMosaic.TcCoe Idealize.SL.Sem

/-- One entry of the compression network: the row `x` goes through the first weights, a squared rectifier and the row `p` of the second weights. -/
def mlp (x : Fin 256 → EReal) (f : Fin 1024 → Fin 256 → EReal) (p : Fin 1024 → EReal) : EReal :=
  ∑ e, max (∑ b, x b * f e b) 0 * max (∑ b, x b * f e b) 0 * p e

/-- What the body stores for the keys, entry by entry. -/
theorem pay2_at (x : Vec Ideal S1x512x256 .f32) (b : Vec Ideal S1x1x256 .f32) (f : Vec Ideal S1024x256 .f32) (p : Vec Ideal S64x1024 .f32) (n : Fin 512) (d : Fin 64) :
    k0_pay2 (F := Ideal) x b f p (ix3 0 n d) = mlp (fun k => x (ix3 0 n k) + b (ix3 0 0 k)) (fun e k => f (ix2 e k)) (fun e => p (ix2 d e)) := by
  pointwise [k0_pay2]
  unfold mlp
  simp only [← Ideal.ofBits_zero_f32]

/-- What the body stores for the values, entry by entry. -/
theorem pay1_at (x : Vec Ideal S1x512x256 .f32) (b : Vec Ideal S1x1x256 .f32) (f : Vec Ideal S1024x256 .f32) (p : Vec Ideal S64x1024 .f32) (n : Fin 512) (d : Fin 64) :
    k0_pay1 (F := Ideal) (k0_pay3 x b f) p (ix3 0 n d) = mlp (fun k => x (ix3 0 n k) + b (ix3 0 0 k)) (fun e k => f (ix2 e k)) (fun e => p (ix2 d e)) := by
  pointwise [k0_pay1, k0_pay3]
  unfold mlp
  simp only [← Ideal.ofBits_zero_f32]

theorem out8_eq (x0 x1 : Vec Ideal S1x512x256 .f32) (x2 x3 : Vec Ideal S1x1x256 .f32) (x4 : Vec Ideal S1024x256 .f32) (x5 : Vec Ideal S64x1024 .f32)
    (x6 : Vec Ideal S1024x256 .f32) (x7 : Vec Ideal S64x1024 .f32) : out0_8 x0 x1 x2 x3 x4 x5 x6 x7 = k0_pay2 x0 x2 x4 x5 := by
  unfold out0_8 r0_0 r0_1 r0_2 r0_3 r0_4
  rw [View.canon_cons_unit_lit _ _ _ (by decide), View.ld_unit_lit _ _ (by decide), View.ld_unit_lit _ _ (by decide), View.ld_unit_lit _ _ (by decide), View.ld_unit_lit _ _ (by decide)]

theorem out9_eq (x0 x1 : Vec Ideal S1x512x256 .f32) (x2 x3 : Vec Ideal S1x1x256 .f32) (x4 : Vec Ideal S1024x256 .f32) (x5 : Vec Ideal S64x1024 .f32)
    (x6 : Vec Ideal S1024x256 .f32) (x7 : Vec Ideal S64x1024 .f32) : out0_9 x0 x1 x2 x3 x4 x5 x6 x7 = k0_pay1 (k0_pay3 x1 x3 x6) x7 := by
  unfold out0_9 r0_0 r0_1 r0_2 r0_3 r0_4
  rw [View.canon_cons_unit_lit _ _ _ (by decide), View.ld_unit_lit _ _ (by decide), View.ld_unit_lit _ _ (by decide), View.ld_unit_lit _ _ (by decide), View.ld_unit_lit _ _ (by decide)]

/-! ## The blocks -/

variable (m : (ℓ : Loc nD τ sig) → Buf (Elt Ideal) ℓ)

theorem V_v0 (c : Dev nD) : V m c main_v0 = shapeCast S12x512x256 (m ((c.tc : Thread nD τ).loc main_arg0)) shapeCasts_S12x2048x64_S12x512x256 := by
  unfold V; after_results_simp <;> rfl
theorem V_v1 (c : Dev nD) : V m c main_v1 = shapeCast S12x512x256 (m ((c.tc : Thread nD τ).loc main_arg1)) shapeCasts_S12x2048x64_S12x512x256 := by
  unfold V; after_results_simp <;> rfl
theorem V_v2 (c : Dev nD) : V m c main_v2 = shapeCast S12x1x256 (m ((c.tc : Thread nD τ).loc main_arg6)) shapeCasts_S12x4x64_S12x1x256 := by
  unfold V; after_results_simp <;> rfl
theorem V_v3 (c : Dev nD) : V m c main_v3 = shapeCast S12x1x256 (m ((c.tc : Thread nD τ).loc main_arg7)) shapeCasts_S12x4x64_S12x1x256 := by
  unfold V; after_results_simp <;> rfl

theorem idx_head : ∀ t : Fin grid0.N,
    (win0_0.index t 0 = t.val ∧ win0_0.index t 1 = 0 ∧ win0_0.index t 2 = 0) ∧ (win0_1.index t 0 = t.val ∧ win0_1.index t 1 = 0 ∧ win0_1.index t 2 = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_8.index t 0 = t.val ∧ win0_8.index t 1 = 0 ∧ win0_8.index t 2 = 0) ∧ (win0_9.index t 0 = t.val ∧ win0_9.index t 1 = 0 ∧ win0_9.index t 2 = 0) := by decide +kernel

theorem idx_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

/-- The four consecutive rows of 64 that the block `n` joins: its entry `b` is the component `b % 64` of the row `4 n + b / 64`. -/
theorem joined (x : Vec Ideal S12x2048x64 .f32) (h : Fin 12) (n : Fin 512) (b : Fin 256) (R : Fin 2048) (d : Fin 64) (hR : R.val = 4 * n.val + b.val / 64) (hd : d.val = b.val % 64) :
    shapeCast S12x512x256 x shapeCasts_S12x2048x64_S12x512x256 (ix3 h n b) = x (ix3 h R d) :=
  shapeCast_apply x _ (ix3 h n b) (ix3 h R d) (by
    rewrite [Shape.rowMajor_val_three, Shape.rowMajor_val_three]
    show (h.val * 2048 + R.val) * 64 + d.val = (h.val * 512 + n.val) * 256 + b.val
    omega)

theorem joinedPos (x : Vec Ideal S12x4x64 .f32) (h : Fin 12) (b : Fin 256) (R : Fin 4) (d : Fin 64) (hR : R.val = b.val / 64) (hd : d.val = b.val % 64) :
    shapeCast S12x1x256 x shapeCasts_S12x4x64_S12x1x256 (ix3 h 0 b) = x (ix3 h R d) :=
  shapeCast_apply x _ (ix3 h 0 b) (ix3 h R d) (by
    rewrite [Shape.rowMajor_val_three, Shape.rowMajor_val_three]
    show (h.val * 4 + R.val) * 64 + d.val = (h.val * 1 + 0) * 256 + b.val
    omega)

/-- The key rows of a head, joined four by four. -/
theorem iblk0_at (c : Dev nD) (t : Fin cfg0.N) (n : Fin 512) (b : Fin 256) (h : Fin 12) (R : Fin 2048) (d : Fin 64) (hh : h.val = t.val) (hR : R.val = 4 * n.val + b.val / 64)
    (hd : d.val = b.val % 64) : (iblk m c 0 t : Vec Ideal S1x512x256 .f32) (ix3 0 n b) = m ((c.tc : Thread nD τ).loc main_arg0) (ix3 h R d) := by
  obtain ⟨⟨h0, h1, h2⟩, -⟩ := idx_head t
  refine Eq.trans ?_ ((congrFun (V_v0 m c) (ix3 h n b)).trans (joined _ h n b R d hR hd))
  unfold iblk
  rw [View.read_apply]
  show V m c main_v0 _ = V m c main_v0 _
  congr 1
  funext a
  apply Fin.ext
  match a with
  | ⟨0, _⟩ => show win0_0.index t 0 * 1 + 1 * 0 = h.val; rw [h0, hh]; omega
  | ⟨1, _⟩ => show win0_0.index t 1 * 512 + 1 * n.val = n.val; rw [h1]; omega
  | ⟨2, _⟩ => show win0_0.index t 2 * 256 + 1 * b.val = b.val; rw [h2]; omega

/-- The value rows of a head, joined four by four. -/
theorem iblk1_at (c : Dev nD) (t : Fin cfg0.N) (n : Fin 512) (b : Fin 256) (h : Fin 12) (R : Fin 2048) (d : Fin 64) (hh : h.val = t.val) (hR : R.val = 4 * n.val + b.val / 64)
    (hd : d.val = b.val % 64) : (iblk m c 1 t : Vec Ideal S1x512x256 .f32) (ix3 0 n b) = m ((c.tc : Thread nD τ).loc main_arg1) (ix3 h R d) := by
  obtain ⟨-, ⟨h0, h1, h2⟩, -⟩ := idx_head t
  refine Eq.trans ?_ ((congrFun (V_v1 m c) (ix3 h n b)).trans (joined _ h n b R d hR hd))
  unfold iblk
  rw [View.read_apply]
  show V m c main_v1 _ = V m c main_v1 _
  congr 1
  funext a
  apply Fin.ext
  match a with
  | ⟨0, _⟩ => show win0_1.index t 0 * 1 + 1 * 0 = h.val; rw [h0, hh]; omega
  | ⟨1, _⟩ => show win0_1.index t 1 * 512 + 1 * n.val = n.val; rw [h1]; omega
  | ⟨2, _⟩ => show win0_1.index t 2 * 256 + 1 * b.val = b.val; rw [h2]; omega

/-- The key positions of a head, joined. -/
theorem iblk2_at (c : Dev nD) (t : Fin cfg0.N) (b : Fin 256) (h : Fin 12) (R : Fin 4) (d : Fin 64) (hh : h.val = t.val) (hR : R.val = b.val / 64)
    (hd : d.val = b.val % 64) : (iblk m c 2 t : Vec Ideal S1x1x256 .f32) (ix3 0 0 b) = m ((c.tc : Thread nD τ).loc main_arg6) (ix3 h R d) := by
  obtain ⟨-, -, ⟨h0, h1, h2⟩, -⟩ := idx_head t
  refine Eq.trans ?_ ((congrFun (V_v2 m c) (ix3 h 0 b)).trans (joinedPos _ h b R d hR hd))
  unfold iblk
  rw [View.read_apply]
  show V m c main_v2 _ = V m c main_v2 _
  congr 1
  funext a
  apply Fin.ext
  match a with
  | ⟨0, _⟩ => show win0_2.index t 0 * 1 + 1 * 0 = h.val; rw [h0, hh]; omega
  | ⟨1, _⟩ => show win0_2.index t 1 * 1 + 1 * 0 = 0; rw [h1]
  | ⟨2, _⟩ => show win0_2.index t 2 * 256 + 1 * b.val = b.val; rw [h2]; omega

/-- The value positions of a head, joined. -/
theorem iblk3_at (c : Dev nD) (t : Fin cfg0.N) (b : Fin 256) (h : Fin 12) (R : Fin 4) (d : Fin 64) (hh : h.val = t.val) (hR : R.val = b.val / 64)
    (hd : d.val = b.val % 64) : (iblk m c 3 t : Vec Ideal S1x1x256 .f32) (ix3 0 0 b) = m ((c.tc : Thread nD τ).loc main_arg7) (ix3 h R d) := by
  obtain ⟨-, -, -, ⟨h0, h1, h2⟩, -⟩ := idx_head t
  refine Eq.trans ?_ ((congrFun (V_v3 m c) (ix3 h 0 b)).trans (joinedPos _ h b R d hR hd))
  unfold iblk
  rw [View.read_apply]
  show V m c main_v3 _ = V m c main_v3 _
  congr 1
  funext a
  apply Fin.ext
  match a with
  | ⟨0, _⟩ => show win0_3.index t 0 * 1 + 1 * 0 = h.val; rw [h0, hh]; omega
  | ⟨1, _⟩ => show win0_3.index t 1 * 1 + 1 * 0 = 0; rw [h1]
  | ⟨2, _⟩ => show win0_3.index t 2 * 256 + 1 * b.val = b.val; rw [h2]; omega

/-- The four weight arrays are staged whole. -/
theorem iblk4_at (c : Dev nD) (t : Fin cfg0.N) (e : Fin 1024) (b : Fin 256) :
    (iblk m c 4 t : Vec Ideal S1024x256 .f32) (ix2 e b) = m ((c.tc : Thread nD τ).loc main_arg2) (ix2 e b) := by
  obtain ⟨⟨h0, h1⟩, -⟩ := idx_whole t
  refine Eq.trans ?_ (congrFun (V_main_arg2 m c) (ix2 e b))
  unfold iblk
  rw [View.read_apply]
  show V m c main_arg2 _ = V m c main_arg2 _
  congr 1
  funext a
  apply Fin.ext
  match a with
  | ⟨0, _⟩ => show win0_4.index t 0 * 1024 + 1 * e.val = e.val; rw [h0]; omega
  | ⟨1, _⟩ => show win0_4.index t 1 * 256 + 1 * b.val = b.val; rw [h1]; omega

theorem iblk5_at (c : Dev nD) (t : Fin cfg0.N) (d : Fin 64) (e : Fin 1024) :
    (iblk m c 5 t : Vec Ideal S64x1024 .f32) (ix2 d e) = m ((c.tc : Thread nD τ).loc main_arg3) (ix2 d e) := by
  obtain ⟨-, ⟨h0, h1⟩, -⟩ := idx_whole t
  refine Eq.trans ?_ (congrFun (V_main_arg3 m c) (ix2 d e))
  unfold iblk
  rw [View.read_apply]
  show V m c main_arg3 _ = V m c main_arg3 _
  congr 1
  funext a
  apply Fin.ext
  match a with
  | ⟨0, _⟩ => show win0_5.index t 0 * 64 + 1 * d.val = d.val; rw [h0]; omega
  | ⟨1, _⟩ => show win0_5.index t 1 * 1024 + 1 * e.val = e.val; rw [h1]; omega

theorem iblk6_at (c : Dev nD) (t : Fin cfg0.N) (e : Fin 1024) (b : Fin 256) :
    (iblk m c 6 t : Vec Ideal S1024x256 .f32) (ix2 e b) = m ((c.tc : Thread nD τ).loc main_arg4) (ix2 e b) := by
  obtain ⟨-, -, ⟨h0, h1⟩, -⟩ := idx_whole t
  refine Eq.trans ?_ (congrFun (V_main_arg4 m c) (ix2 e b))
  unfold iblk
  rw [View.read_apply]
  show V m c main_arg4 _ = V m c main_arg4 _
  congr 1
  funext a
  apply Fin.ext
  match a with
  | ⟨0, _⟩ => show win0_6.index t 0 * 1024 + 1 * e.val = e.val; rw [h0]; omega
  | ⟨1, _⟩ => show win0_6.index t 1 * 256 + 1 * b.val = b.val; rw [h1]; omega

theorem iblk7_at (c : Dev nD) (t : Fin cfg0.N) (d : Fin 64) (e : Fin 1024) :
    (iblk m c 7 t : Vec Ideal S64x1024 .f32) (ix2 d e) = m ((c.tc : Thread nD τ).loc main_arg5) (ix2 d e) := by
  obtain ⟨-, -, -, h0, h1⟩ := idx_whole t
  refine Eq.trans ?_ (congrFun (V_main_arg5 m c) (ix2 d e))
  unfold iblk
  rw [View.read_apply]
  show V m c main_arg5 _ = V m c main_arg5 _
  congr 1
  funext a
  apply Fin.ext
  match a with
  | ⟨0, _⟩ => show win0_7.index t 0 * 64 + 1 * d.val = d.val; rw [h0]; omega
  | ⟨1, _⟩ => show win0_7.index t 1 * 1024 + 1 * e.val = e.val; rw [h1]; omega

/-- The compressed block `n` of head `h`, component `d`: the network applied to the head's four rows plus their positions. -/
def compressed (x : Vec Ideal S12x2048x64 .f32) (pos : Vec Ideal S12x4x64 .f32) (f : Vec Ideal S1024x256 .f32) (p : Vec Ideal S64x1024 .f32) (h : Fin 12) (n : Fin 512) (d : Fin 64) : EReal :=
  mlp (fun b => x (ix3 h ⟨4 * n.val + b.val / 64, by have := n.isLt; have := b.isLt; omega⟩ ⟨b.val % 64, Nat.mod_lt _ (by decide)⟩)
    + pos (ix3 h ⟨b.val / 64, by have := b.isLt; omega⟩ ⟨b.val % 64, Nat.mod_lt _ (by decide)⟩)) (fun e k => f (ix2 e k)) (fun e => p (ix2 d e))

/-- An index of a block of one head and 512 rows. -/
theorem block_idx (j : S1x512x64.Idx) : ∃ (r : Fin 512) (l : Fin 64), j = ix3 0 r l :=
  ⟨j 1, j 2, funext fun a => match a with | ⟨0, _⟩ => Subsingleton.elim (α := Fin 1) _ _ | ⟨1, _⟩ => rfl | ⟨2, _⟩ => rfl⟩

/-- If every compressed key is `G`'s, the first output array ends as `G`. -/
theorem final_8 (c : Dev nD) (G : Buf (Elt Ideal) ((c : Thread nD τ).loc main_v4_0))
    (hG : ∀ (h : Fin 12) (n : Fin 512) (d : Fin 64), compressed (m ((c.tc : Thread nD τ).loc main_arg0)) (m ((c.tc : Thread nD τ).loc main_arg6)) (m ((c.tc : Thread nD τ).loc main_arg2))
      (m ((c.tc : Thread nD τ).loc main_arg3)) h n d = G (ix3 h n d)) : (dats m 0 c).arrAt 8 cfg0.N = G := by
  have hN : cfg0.N = 12 := N_0
  refine (dats m 0 c).arrAt_eq_of_cover 8 G (fun t _ => ?_) fun i => ?_
  · have ht : t.val < 12 := lt_of_lt_of_eq t.isLt N_0
    obtain ⟨-, -, -, -, ⟨h0, h1, h2⟩, -⟩ := idx_head t
    rw [Value.flushed8, out8_eq]
    funext j
    obtain ⟨n, d, rfl⟩ := block_idx j
    rw [View.read_apply]
    refine (pay2_at (iblk m c 0 t) (iblk m c 2 t) (iblk m c 4 t) (iblk m c 5 t) n d).trans (Eq.trans ?_ ((hG ⟨t.val, ht⟩ n d).trans (congrArg G ?_)))
    · unfold compressed
      congr 1
      · funext b
        exact congrArg₂ (· + ·) (iblk0_at m c t n b ⟨t.val, ht⟩ _ _ rfl rfl rfl) (iblk2_at m c t b ⟨t.val, ht⟩ _ _ rfl rfl rfl)
      · funext e b; exact iblk4_at m c t e b
      · funext e; exact iblk5_at m c t d e
    · funext b
      apply Fin.ext
      match b with
      | ⟨0, _⟩ => show t.val = win0_8.index t 0 * 1 + 1 * 0; rw [h0]; omega
      | ⟨1, _⟩ => show n.val = win0_8.index t 1 * 512 + 1 * n.val; rw [h1]; omega
      | ⟨2, _⟩ => show d.val = win0_8.index t 2 * 64 + 1 * d.val; rw [h2]; omega
  · have i0 : (i 0 : Nat) < 12 := (i 0).isLt
    have i1 : (i 1 : Nat) < 512 := (i 1).isLt
    have i2 : (i 2 : Nat) < 64 := (i 2).isLt
    obtain ⟨t, ht⟩ : ∃ t : Fin cfg0.N, t.val = (i 0 : Nat) := ⟨⟨(i 0 : Nat), by omega⟩, rfl⟩
    obtain ⟨-, -, -, -, ⟨h0, h1, h2⟩, -⟩ := idx_head t
    refine ⟨t, flush0_8 t, ?_⟩
    show i ∈ ((View.whole main_v4_0).slice (win0_8.rect t)).set
    rw [View.set_slice_whole, Rect.mem_set_unit]
    intro a
    match a with
    | ⟨0, _⟩ => show win0_8.index t 0 * 1 ≤ (i 0 : Nat) ∧ (i 0 : Nat) < win0_8.index t 0 * 1 + 1; rw [h0]; omega
    | ⟨1, _⟩ => show win0_8.index t 1 * 512 ≤ (i 1 : Nat) ∧ (i 1 : Nat) < win0_8.index t 1 * 512 + 512; rw [h1]; omega
    | ⟨2, _⟩ => show win0_8.index t 2 * 64 ≤ (i 2 : Nat) ∧ (i 2 : Nat) < win0_8.index t 2 * 64 + 64; rw [h2]; omega

/-- If every compressed value is `G`'s, the second output array ends as `G`. -/
theorem final_9 (c : Dev nD) (G : Buf (Elt Ideal) ((c : Thread nD τ).loc main_v4_1))
    (hG : ∀ (h : Fin 12) (n : Fin 512) (d : Fin 64), compressed (m ((c.tc : Thread nD τ).loc main_arg1)) (m ((c.tc : Thread nD τ).loc main_arg7)) (m ((c.tc : Thread nD τ).loc main_arg4))
      (m ((c.tc : Thread nD τ).loc main_arg5)) h n d = G (ix3 h n d)) : (dats m 0 c).arrAt 9 cfg0.N = G := by
  have hN : cfg0.N = 12 := N_0
  refine (dats m 0 c).arrAt_eq_of_cover 9 G (fun t _ => ?_) fun i => ?_
  · have ht : t.val < 12 := lt_of_lt_of_eq t.isLt N_0
    obtain ⟨-, -, -, -, -, h0, h1, h2⟩ := idx_head t
    rw [Value.flushed9, out9_eq]
    funext j
    obtain ⟨n, d, rfl⟩ := block_idx j
    rw [View.read_apply]
    refine (pay1_at (iblk m c 1 t) (iblk m c 3 t) (iblk m c 6 t) (iblk m c 7 t) n d).trans (Eq.trans ?_ ((hG ⟨t.val, ht⟩ n d).trans (congrArg G ?_)))
    · unfold compressed
      congr 1
      · funext b
        exact congrArg₂ (· + ·) (iblk1_at m c t n b ⟨t.val, ht⟩ _ _ rfl rfl rfl) (iblk3_at m c t b ⟨t.val, ht⟩ _ _ rfl rfl rfl)
      · funext e b; exact iblk6_at m c t e b
      · funext e; exact iblk7_at m c t d e
    · funext b
      apply Fin.ext
      match b with
      | ⟨0, _⟩ => show t.val = win0_9.index t 0 * 1 + 1 * 0; rw [h0]; omega
      | ⟨1, _⟩ => show n.val = win0_9.index t 1 * 512 + 1 * n.val; rw [h1]; omega
      | ⟨2, _⟩ => show d.val = win0_9.index t 2 * 64 + 1 * d.val; rw [h2]; omega
  · have i0 : (i 0 : Nat) < 12 := (i 0).isLt
    have i1 : (i 1 : Nat) < 512 := (i 1).isLt
    have i2 : (i 2 : Nat) < 64 := (i 2).isLt
    obtain ⟨t, ht⟩ : ∃ t : Fin cfg0.N, t.val = (i 0 : Nat) := ⟨⟨(i 0 : Nat), by omega⟩, rfl⟩
    obtain ⟨-, -, -, -, -, h0, h1, h2⟩ := idx_head t
    refine ⟨t, flush0_9 t, ?_⟩
    show i ∈ ((View.whole main_v4_1).slice (win0_9.rect t)).set
    rw [View.set_slice_whole, Rect.mem_set_unit]
    intro a
    match a with
    | ⟨0, _⟩ => show win0_9.index t 0 * 1 ≤ (i 0 : Nat) ∧ (i 0 : Nat) < win0_9.index t 0 * 1 + 1; rw [h0]; omega
    | ⟨1, _⟩ => show win0_9.index t 1 * 512 ≤ (i 1 : Nat) ∧ (i 1 : Nat) < win0_9.index t 1 * 512 + 512; rw [h1]; omega
    | ⟨2, _⟩ => show win0_9.index t 2 * 64 ≤ (i 2 : Nat) ∧ (i 2 : Nat) < win0_9.index t 2 * 64 + 64; rw [h2]; omega

end Cert.CompressIdeal.Hand

end
-- ==== Proof.CompressValue.lean ====
module

public import proofs.«01_k».proof.Defs
public import proofs.«01_k».proof.Proof.CompressEntry
public import proofs.«01_k».proof.Proof.Gen.CompressRefIdeal.Read
public import proofs.«01_k».proof.Proof.Gen.CompressRefIdeal.Run
public import Idealize.ShloMosaic.Lib.ValueIdxRank6

@[expose] public section

set_option maxRecDepth 16384

noncomputable section

namespace Cert.CompressIdeal.Hand

open Idealize.ShloMosaic Idealize.ShloMosaic.TcCoe Idealize.SL.Sem
open Cert.CompressIdeal Cert.CompressIdeal.Gen
open Cert.CompressRefIdeal.Read

/-! ## The reference at an index -/

/-- The positions repeated for every group of four rows. -/
theorem tiled_at (x : Vec Ideal S12x4x64 .f32) (h : Fin 12) (R : Fin 2048) (d : Fin 64) (p : Fin 4) (hp : p.val = R.val % 4) :
    val_main_v4 (F := Ideal) x (ix3 h R d) = x (ix3 h p d) := by
  have hh := h.isLt
  have hR := R.isLt
  have hd := d.isLt
  unfold val_main_v4
  refine (shapeCast_apply _ _ (ix3 h R d) (ix6 (0 : Fin 1) h (⟨R.val / 4, by omega⟩ : Fin 512) p (0 : Fin 1) d) (by
    rewrite [Shape.rowMajor_val_six, Shape.rowMajor_val_three]
    show ((((0 * 12 + h.val) * 512 + R.val / 4) * 4 + p.val) * 1 + 0) * 64 + d.val = (h.val * 2048 + R.val) * 64 + d.val
    omega)).trans ?_
  rw [val_main_v3_apply]
  unfold val_main_v2
  refine (shapeCast_apply _ _ _ (ix3 h p d) (by
    rewrite [Shape.rowMajor_val_six, Shape.rowMajor_val_three]
    show (h.val * 4 + p.val) * 64 + d.val = ((((0 * 12 + h.val) * 1 + 0) * 4 + p.val) * 1 + 0) * 64 + d.val
    omega))

/-- The reference's input of the key network: the rows plus their positions, joined four by four. -/
theorem input_at (x0 : Vec Ideal S12x2048x64 .f32) (x6 : Vec Ideal S12x4x64 .f32) (h : Fin 12) (n : Fin 512) (b : Fin 256) :
    val_main_v10 (F := Ideal) x0 x6 (ix4 0 h n b) = x0 (ix3 h ⟨4 * n.val + b.val / 64, by have := n.isLt; have := b.isLt; omega⟩ ⟨b.val % 64, Nat.mod_lt _ (by decide)⟩)
    + x6 (ix3 h ⟨b.val / 64, by have := b.isLt; omega⟩ ⟨b.val % 64, Nat.mod_lt _ (by decide)⟩) := by
  have hh := h.isLt
  have hn := n.isLt
  have hb := b.isLt
  have hi : idx_main_v0 (idx_main_v10 (ix4 0 h n b)) = ix3 h ⟨4 * n.val + b.val / 64, by omega⟩ ⟨b.val % 64, Nat.mod_lt _ (by decide)⟩ := by
    funext a
    apply Fin.ext
    match a with
    | ⟨0, _⟩ => show (((0 * 12 + h.val) * 512 + n.val) * 256 + b.val) / 131072 % 12 = h.val; omega
    | ⟨1, _⟩ => show (((0 * 12 + h.val) * 512 + n.val) * 256 + b.val) / 64 % 2048 = 4 * n.val + b.val / 64; omega
    | ⟨2, _⟩ => show (((0 * 12 + h.val) * 512 + n.val) * 256 + b.val) % 64 = b.val % 64; omega
  rw [val_main_v10_apply, val_main_v9_apply, val_main_v0_apply, val_main_v8_apply]
  show x0 (idx_main_v0 (idx_main_v10 (ix4 0 h n b))) + val_main_v4 (F := Ideal) x6 (idx_main_v0 (idx_main_v10 (ix4 0 h n b))) = _
  rw [hi, tiled_at x6 h _ _ ⟨b.val / 64, by omega⟩ (by show b.val / 64 = (4 * n.val + b.val / 64) % 4; omega)]

/-- The reference's compressed keys, entry by entry. -/
theorem compressed_at (x0 : Vec Ideal S12x2048x64 .f32) (x2 : Vec Ideal S1024x256 .f32) (x3 : Vec Ideal S64x1024 .f32) (x6 : Vec Ideal S12x4x64 .f32) (h : Fin 12) (n : Fin 512) (d : Fin 64) :
    val_main_v26 (F := Ideal) x0 x2 x3 x6 (ix3 h n d) = compressed x0 x6 x2 x3 h n d := by
  have hh := h.isLt
  have hn := n.isLt
  have hd := d.isLt
  have hid : ∀ e : Fin 1024, val_main_v15 (F := Ideal) x0 x2 x6 (ix4 0 h n e) = ∑ b : Fin 256, val_main_v10 (F := Ideal) x0 x6 (ix4 0 h n b) * x2 (ix2 e b) := by
    intro e
    rw [val_main_v15_apply]
    refine Finset.sum_congr rfl fun b _ => ?_
    rw [val_main_v14_apply]
    refine congrArg₂ (fun a b : EReal => a * b) (congrArg _ ?_) (congrArg _ ?_)
    · exact funext fun a => match a with | ⟨0, _⟩ => rfl | ⟨1, _⟩ => rfl | ⟨2, _⟩ => rfl | ⟨3, _⟩ => rfl
    · exact funext fun a => match a with | ⟨0, _⟩ => rfl | ⟨1, _⟩ => rfl
  have hi : idx_main_v26 (ix3 h n d) = ix4 0 h n d := by
    funext a
    apply Fin.ext
    match a with
    | ⟨0, _⟩ => rfl
    | ⟨1, _⟩ => show ((h.val * 512 + n.val) * 64 + d.val) / 32768 % 12 = h.val; omega
    | ⟨2, _⟩ => show ((h.val * 512 + n.val) * 64 + d.val) / 64 % 512 = n.val; omega
    | ⟨3, _⟩ => show ((h.val * 512 + n.val) * 64 + d.val) % 64 = d.val; omega
  rw [val_main_v26_apply, hi, val_main_v19_apply]
  unfold compressed mlp
  refine Finset.sum_congr rfl fun e _ => ?_
  have hl : lidx_main_v19 (ix4 0 h n d) e = ix4 0 h n e := funext fun a => match a with | ⟨0, _⟩ => rfl | ⟨1, _⟩ => rfl | ⟨2, _⟩ => rfl | ⟨3, _⟩ => rfl
  have hr : idx_main_v18 (ridx_main_v19 (ix4 0 h n d) e) = ix2 d e := funext fun a => match a with | ⟨0, _⟩ => rfl | ⟨1, _⟩ => rfl
  rw [hl, val_main_v18_apply, hr, val_main_v17_apply, val_main_v16_apply, val_main_call0_v0_apply, val_main_call0_cst_apply, hid]
  simp only [input_at]
  show max _ (Ideal.ofBits .f32 0x00000000#32) * max _ (Ideal.ofBits .f32 0x00000000#32) * _ = _
  rw [Ideal.ofBits_zero_f32]

/-- The values go through the same stages as the keys. -/
theorem compressed_at' (x1 : Vec Ideal S12x2048x64 .f32) (x4 : Vec Ideal S1024x256 .f32) (x5 : Vec Ideal S64x1024 .f32) (x7 : Vec Ideal S12x4x64 .f32) (h : Fin 12) (n : Fin 512) (d : Fin 64) :
    val_main_v27 (F := Ideal) x1 x4 x5 x7 (ix3 h n d) = compressed x1 x7 x4 x5 h n d :=
  compressed_at x1 x4 x5 x7 h n d

/-- The reference runs to its end, its arguments unchanged and every semaphore counter at zero. -/
theorem frame_ref : quiescent_CompressRefIdeal := fun m g _ =>
  (θ_run Cert.CompressRefIdeal.defs _ _).mono
    (fun r h => ⟨fun c => (h c).2.2, sem_eq_zero_of_no_sems (by decide) r.2⟩)
    (Cert.CompressRefIdeal.Value.run (F := Ideal) m g)

/-- The kernel and the reference end with equal compressed keys and values. -/
theorem algebraic : algebraic_CompressIdeal_CompressRefIdeal := by
  intro m g m' g' hpre hm
  refine ⟨fun c => (dats m 0 c).arrAt 8 cfg0.N, fun c => (dats m 0 c).arrAt 9 cfg0.N, Value.run_blocks m g, ?_⟩
  refine (θ_run Cert.CompressRefIdeal.defs _ _).mono (fun r h c => ?_) (Cert.CompressRefIdeal.Value.run m' g')
  obtain ⟨h1, h2, h3⟩ := h c
  obtain ⟨e0, e1, e2, e3, e4, e5, e6, e7⟩ := hm c
  refine ⟨h1.trans ?_, h2.trans ?_, h3⟩
  · rw [Cert.CompressRefIdeal.Read.val_main_v26_eq, e0, e2, e3, e6]
    exact (final_8 m c _ fun h n d => (compressed_at _ _ _ _ h n d).symm).symm
  · rw [Cert.CompressRefIdeal.Read.val_main_v27_eq, e1, e4, e5, e7]
    exact (final_9 m c _ fun h n d => (compressed_at' _ _ _ _ h n d).symm).symm

end Cert.CompressIdeal.Hand

end
-- ==== Proof.FinePure.lean ====
module

public import Idealize.ShloMosaic.PureOps.Ideal.Laws
public import Idealize.ShloMosaic.Lib.SortPrefix

@[expose] public section

noncomputable section

namespace Cert.FinePure

open Idealize.ShloMosaic

/-! ## Softmax with a maximum subtracted, and without -/

/-- A nonnegative real factor distributes over a finite sum of extended reals. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The sum of real numbers, as extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, ← ih, EReal.coe_add]

/-- Division by a real number that is not zero. -/
theorem div_real (x : EReal) (d : ℝ) (hd : d ≠ 0) : Ideal.div x (d : EReal) = x * ((d⁻¹ : ℝ) : EReal) := by
  unfold Ideal.div
  rw [if_neg (by exact_mod_cast hd), EReal.coe_inv]

/-- Attention over the keys a mask admits: the weights `exp s` masked by 1 and 0, summed against the values and
    divided by their total, are the softmax weights of the scores masked by −∞ with a real `m` subtracted. -/
theorem softmax_eq {n : ℕ} (s : Fin n → ℝ) (P : Fin n → Prop) [DecidablePred P] (hP : ∃ k, P k) (v : Fin n → EReal) (m : ℝ)
    (M x : Fin n → EReal) (hM : ∀ k, M k = if P k then 1 else 0) (hx : ∀ k, x k = if P k then (s k : EReal) else ⊥) :
    Ideal.div (∑ k, Ideal.exp (s k : EReal) * M k * v k) (∑ k, Ideal.exp (s k : EReal) * M k)
      = ∑ k, Ideal.div (Ideal.exp (x k - (m : EReal))) (∑ j, Ideal.exp (x j - (m : EReal))) * v k := by
  set e : Fin n → ℝ := fun k => if P k then Real.exp (s k) else 0 with he
  have h1 : ∀ k, Ideal.exp (s k : EReal) * M k = (e k : EReal) := by
    intro k
    rw [hM, he]
    show (Real.exp (s k) : EReal) * _ = _
    by_cases h : P k <;> simp [h]
  have h2 : ∀ k, Ideal.exp (x k - (m : EReal)) = ((e k * Real.exp (-m) : ℝ) : EReal) := by
    intro k
    rw [hx, he]
    by_cases h : P k
    · simp only [h, if_true]
      rw [← EReal.coe_sub]
      show (Real.exp (s k - m) : EReal) = _
      rw [sub_eq_add_neg, Real.exp_add]
    · simp only [h, if_false]
      rw [EReal.bot_sub]
      show (0 : EReal) = _
      simp
  have he0 : ∀ k, 0 ≤ e k := by
    intro k; rw [he]; dsimp only; split
    · exact (Real.exp_pos _).le
    · exact le_rfl
  have hD : 0 < ∑ k, e k := by
    obtain ⟨k, hk⟩ := hP
    refine Finset.sum_pos' (fun k _ => he0 k) ⟨k, Finset.mem_univ k, ?_⟩
    rw [he]; simp only [hk, if_true]; exact Real.exp_pos _
  have hE : Real.exp (-m) ≠ 0 := (Real.exp_pos _).ne'
  simp only [h1, h2, ← coe_sum]
  rw [div_real _ _ hD.ne', sum_mul_real _ _ _ (inv_nonneg.mpr hD.le)]
  refine Finset.sum_congr rfl fun k _ => ?_
  rw [← Finset.sum_mul, div_real _ _ (mul_ne_zero hD.ne' hE), ← EReal.coe_mul,
    mul_assoc, mul_comm (v k), ← mul_assoc, ← EReal.coe_mul]
  congr 2
  field_simp

/-- A sum over a window of positions is the sum over all of them of a function that vanishes outside the window. -/
theorem sum_window {n w : ℕ} (b : ℕ) (h : b + w ≤ n) (f : Fin n → EReal) (hf : ∀ j : Fin n, (j.val < b ∨ b + w ≤ j.val) → f j = 0) :
    ∑ k : Fin w, f ⟨b + k.val, by omega⟩ = ∑ j : Fin n, f j := by
  have hinj : Function.Injective (fun k : Fin w => (⟨b + k.val, by omega⟩ : Fin n)) := by
    intro a a' haa
    have := congrArg Fin.val haa
    simp only at this
    exact Fin.ext (by omega)
  rw [← Finset.sum_image (s := Finset.univ) (g := fun k : Fin w => (⟨b + k.val, by omega⟩ : Fin n)) (f := f) (fun a _ a' _ h => hinj h)]
  refine Finset.sum_subset (Finset.subset_univ _) fun j _ hj => hf j ?_
  by_contra hc
  push Not at hc
  exact hj (Finset.mem_image.mpr ⟨⟨j.val - b, by omega⟩, Finset.mem_univ _, Fin.ext (by simp only; omega)⟩)

/-! ## The four largest, one at a time -/

/-- `a` is the first of the positions at which `f` is largest. -/
def FirstMax {n : ℕ} (f : Fin n → EReal) (a : Fin n) : Prop := ∀ k, f k < f a ∨ (f k = f a ∧ a ≤ k)

/-- A nonempty row has a first largest position. -/
theorem exists_firstMax {n : ℕ} (f : Fin (n + 1) → EReal) : ∃ a, FirstMax f a := by
  obtain ⟨a, -, ha⟩ := Finset.exists_max_image (Finset.univ : Finset (Fin (n + 1))) f ⟨0, Finset.mem_univ _⟩
  have hne : (Finset.univ.filter fun k => f k = f a).Nonempty := ⟨a, by simp⟩
  refine ⟨(Finset.univ.filter fun k => f k = f a).min' hne, fun k => ?_⟩
  have hm := Finset.min'_mem _ hne
  rw [Finset.mem_filter] at hm
  rw [hm.2]
  rcases lt_or_eq_of_le (ha k (Finset.mem_univ k)) with h | h
  · exact Or.inl h
  · exact Or.inr ⟨h, Finset.min'_le _ _ (by simp [h])⟩

/-- The row with position `a` crossed out. -/
def cross {n : ℕ} (f : Fin n → EReal) (a : Fin n) : Fin n → EReal := fun k => if k = a then -1 else f k

/-- Positions ordered by value, the larger first, and then by position. -/
def ahead {n : ℕ} (f : Fin n → EReal) (k k' : Fin n) : Bool := decide (f k' < f k) || (decide (f k = f k') && decide (k < k'))

/-- That order is a strict total order. -/
theorem ahead_total {n : ℕ} (f : Fin n → EReal) : StrictTotalBefore (ahead f) :=
  StrictTotalBefore.of_key_then_position (fun a b : EReal => decide (b < a)) f (by simp)
    (by intro a b c h1 h2; simp only [decide_eq_true_eq] at *; exact h2.trans h1)
    (by intro a b; simp only [decide_eq_true_eq]; rcases lt_trichotomy a b with h | h | h
        · exact Or.inr (Or.inr h)
        · exact Or.inr (Or.inl h)
        · exact Or.inl h)

/-- Inserting a position before later ones, the order of equal values is the order of the positions. -/
theorem insert_ahead {n : ℕ} (f : Fin n → EReal) (a : Fin n) (l : List (Fin n)) (h : ∀ b ∈ l, a < b) :
    insertBefore (fun k k' => decide (f k' < f k)) a l = insertBefore (ahead f) a l := by
  induction l with
  | nil => rfl
  | cons b l ih =>
    have hb := h b (by simp)
    have e : ahead f b a = decide (f a < f b) := by
      unfold ahead
      rw [decide_eq_false (not_lt.mpr hb.le), Bool.and_false, Bool.or_false]
    unfold insertBefore
    rw [e, ih fun c hc => h c (List.mem_cons_of_mem _ hc)]

/-- The stable sort by value of a list in the order of its positions is the sort by value and then position. -/
theorem sort_ahead {n : ℕ} (f : Fin n → EReal) (l : List (Fin n)) (h : l.Pairwise (· < ·)) :
    stableSort (fun k k' => decide (f k' < f k)) l = stableSort (ahead f) l := by
  induction l with
  | nil => rfl
  | cons a l ih =>
    rw [List.pairwise_cons] at h
    unfold stableSort
    rw [ih h.2]
    exact insert_ahead f a _ fun b hb => h.1 b ((perm_stableSort _ l).mem_iff.mp hb)

/-- The same of the positions a sorted fiber comes from. -/
theorem sortedFrom_ahead {n : ℕ} (f : Fin n → EReal) :
    sortedFrom (fun k k' : Fin n => decide (f k' < f k)) = sortedFrom (ahead f) := by
  funext k
  unfold sortedFrom
  have e : sortPositions n (fun k k' : Fin n => decide (f k' < f k)) = sortPositions n (ahead f) :=
    sort_ahead f _ (List.pairwise_lt_finRange n)
  rw [List.get_of_eq e]
  rfl

/-- Crossing a position out four times finds the four a sort by value puts first, in its order. -/
theorem four_largest {n : ℕ} (hn : 4 ≤ n) (f : Fin n → EReal) (h0 : ∀ k, 0 ≤ f k) (σ : Fin 4 → Fin n)
    (m0 : FirstMax f (σ 0)) (m1 : FirstMax (cross f (σ 0)) (σ 1)) (m2 : FirstMax (cross (cross f (σ 0)) (σ 1)) (σ 2))
    (m3 : FirstMax (cross (cross (cross f (σ 0)) (σ 1)) (σ 2)) (σ 3)) (i : Fin 4) :
    sortedFrom (fun k k' : Fin n => decide (f k' < f k)) (i.castLE hn) = σ i := by
  have hneg : ∀ k, (-1 : EReal) < f k := fun k => lt_of_lt_of_le (by rw [← EReal.coe_one, ← EReal.coe_neg, ← EReal.coe_zero]; exact EReal.coe_lt_coe_iff.mpr (by norm_num)) (h0 k)
  have beats : ∀ a k : Fin n, f k < f a ∨ (f k = f a ∧ a ≤ k) → ahead f k a = false := by
    intro a k h
    unfold ahead
    rw [Bool.or_eq_false_iff, Bool.and_eq_false_iff]
    rcases h with h | ⟨h, hle⟩
    · exact ⟨decide_eq_false (not_lt.mpr h.le), Or.inl (decide_eq_false h.ne)⟩
    · exact ⟨decide_eq_false (by rw [h]; exact lt_irrefl _), Or.inr (decide_eq_false (not_lt.mpr hle))⟩
  -- a position still in the row that is found is not one crossed out
  have other : ∀ (S : Finset (Fin n)) (g : Fin n → EReal), (∀ k, g k = if k ∈ S then -1 else f k) → S.card < 4 →
      ∀ a, FirstMax g a → a ∉ S ∧ ∀ k, k ∉ S → f k < f a ∨ (f k = f a ∧ a ≤ k) := by
    intro S g hg hS a ha
    have hex : ∃ k, k ∉ S := by
      by_contra hc
      push Not at hc
      have : S = Finset.univ := Finset.eq_univ_iff_forall.mpr hc
      rw [this, Finset.card_univ, Fintype.card_fin] at hS
      omega
    obtain ⟨k, hk⟩ := hex
    have haS : a ∉ S := by
      intro haS
      have := ha k
      rw [hg k, hg a, if_neg hk, if_pos haS] at this
      rcases this with h | ⟨h, -⟩
      · exact absurd (hneg k) (not_lt.mpr h.le)
      · exact absurd (hneg k) (by rw [h]; exact lt_irrefl _)
    refine ⟨haS, fun k hk => ?_⟩
    have := ha k
    rwa [hg k, hg a, if_neg hk, if_neg haS] at this
  have e0 := other ∅ f (by simp) (by simp) _ m0
  have e1 := other {σ 0} _ (by intro k; unfold cross; simp) (by simp) _ m1
  have e2 := other {σ 0, σ 1} _ (by
    intro k; unfold cross; by_cases h1 : k = σ 1 <;> by_cases h0 : k = σ 0 <;> simp [h0, h1])
    (lt_of_le_of_lt Finset.card_le_two (by omega)) _ m2
  have e3 := other {σ 0, σ 1, σ 2} _ (by
    intro k; unfold cross; by_cases h1 : k = σ 1 <;> by_cases h0 : k = σ 0 <;> by_cases h2 : k = σ 2 <;> simp [h0, h1, h2])
    (lt_of_le_of_lt Finset.card_le_three (by omega)) _ m3
  simp only [Finset.mem_insert, Finset.mem_singleton, not_or] at e1 e2 e3
  have n10 := e1.1
  have n20 := e2.1.1
  have n21 := e2.1.2
  have n30 := e3.1.1
  have n31 := e3.1.2.1
  have n32 := e3.1.2.2
  rw [sortedFrom_ahead]
  refine (ahead_total f).sortedFrom_eq_of_prefix hn σ ?_ ?_ ?_ i
  · intro a b hab
    fin_cases a <;> fin_cases b <;> first
      | rfl
      | exact absurd hab n10 | exact absurd hab.symm n10 | exact absurd hab n20 | exact absurd hab.symm n20
      | exact absurd hab n21 | exact absurd hab.symm n21 | exact absurd hab n30 | exact absurd hab.symm n30
      | exact absurd hab n31 | exact absurd hab.symm n31 | exact absurd hab n32 | exact absurd hab.symm n32
  · intro a b hab
    fin_cases a <;> fin_cases b <;> first
      | exact absurd hab (by decide)
      | exact beats _ _ (e0.2 _ (by simp))
      | exact beats _ _ (e1.2 _ n20)
      | exact beats _ _ (e1.2 _ n30)
      | exact beats _ _ (e2.2 _ ⟨n30, n31⟩)
  · intro a p hp
    fin_cases a
    · exact beats _ _ (e0.2 _ (by simp))
    · exact beats _ _ (e1.2 _ fun h => hp 0 h.symm)
    · exact beats _ _ (e2.2 _ ⟨fun h => hp 0 h.symm, fun h => hp 1 h.symm⟩)
    · exact beats _ _ (e3.2 _ ⟨fun h => hp 0 h.symm, fun h => hp 1 h.symm, fun h => hp 2 h.symm⟩)

end Cert.FinePure
-- ==== Proof.FineBody.lean ====
module

public import proofs.«01_k».proof.Proof.Gen.FineIdeal.Frame
public import proofs.«01_k».proof.Proof.Gen.FineIdeal.Skeleton
public import Idealize.ShloMosaic.Lib.Claim
public import Idealize.ShloMosaic.Lib.Exec
public import Idealize.ShloMosaic.Lib.VecWindow

@[expose] public section

set_option maxRecDepth 16384

noncomputable section

namespace Cert.FineIdeal.Hand

open Cert.FineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, as functions of the blocks it reads -/

/-- The condition of the body's first branch: the grid's first point. -/
abbrev firstPoint (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- The selection mask of the point's 256 query rows over the 2048 keys, from the importance block. -/
def biasPay (i : grid0.Coords) (x0 : Vec F S256x512 .f32) : Vec F S1x256x2048 .f32 :=
  k0_pay16 (F := F) (k0_pay2 x0) (k0_pay4 x0) (k0_pay6 x0) (k0_pay8 (k0_pay7 x0)) (k0_pay9 (BitVec.ofNat 32 (i 1).val))
    (iota .tc S256x2048 32 [1] iota_S256x2048_d1_w32) k0_pay10 4#32 (k0_pay11 (BitVec.ofNat 32 (i 1).val))
    (k0_pay12 (BitVec.ofNat 32 (i 1).val)) k0_pay13

/-- The mask scratch after the point: one slot stored while the first head runs, unchanged afterwards. -/
def biasNext (i : grid0.Coords) (x0 : Vec F S256x512 .f32) (b : Vec F S8x256x2048 .f32) : Vec F S8x256x2048 .f32 :=
  if k0_cond2 i = 1#1 then VecWindow.put b (k0_off1 i) S1x256x2048.size (biasPay i x0) else b

/-- The window-mask scratch with both of its masks stored. -/
def wmPut (w : Vec F S2x256x384 .f32) : Vec F S2x256x384 .f32 :=
  VecWindow.put (VecWindow.put w ![0, 0, 0] S1x256x384.size (k0_pay14 (F := F))) ![1, 0, 0] S1x256x384.size (k0_pay15 (F := F))

/-- The window-mask scratch after the point. -/
def wmNext (i : grid0.Coords) (w : Vec F S2x256x384 .f32) : Vec F S2x256x384 .f32 :=
  if firstPoint i then wmPut w else w

/-- The selected-block attention the point stores, by the width its row block needs. -/
def fineOut (i : grid0.Coords) (x1 : Vec F S1x256x64 .f32) (x2 x3 : Vec F S1x2048x64 .f32) (b : Vec F S8x256x2048 .f32) : Vec F S1x256x64 .f32 :=
  if h3 : k0_cond3 i = 1#1 then
    k0_pay18 x1 (VecWindow.window x2 ![0, 0, 0] S1x512x64.size inb_S1x2048x64_S1x512x64_0_0_0)
      (VecWindow.window b (k0_off2 i) S1x256x512.size (k0_off2_inb i h3)) (VecWindow.window x3 ![0, 0, 0] S1x512x64.size inb_S1x2048x64_S1x512x64_0_0_0)
  else if h4 : k0_cond4 i = 1#1 then
    k0_pay19 (k0_pay17 x1) (VecWindow.window x2 ![0, 0, 0] S1x1024x64.size inb_S1x2048x64_S1x1024x64_0_0_0)
      (VecWindow.window b (k0_off3 i) S1x256x1024.size (k0_off3_inb i h4)) (VecWindow.window x3 ![0, 0, 0] S1x1024x64.size inb_S1x2048x64_S1x1024x64_0_0_0)
  else if h5 : k0_cond5 i = 1#1 then
    k0_pay20 (k0_pay17 x1) (VecWindow.window x2 ![0, 0, 0] S1x1536x64.size inb_S1x2048x64_S1x1536x64_0_0_0)
      (VecWindow.window b (k0_off4 i) S1x256x1536.size (k0_off4_inb i h5)) (VecWindow.window x3 ![0, 0, 0] S1x1536x64.size inb_S1x2048x64_S1x1536x64_0_0_0)
  else if h6 : k0_cond6 i = 1#1 then
    k0_pay21 (k0_pay17 x1) (VecWindow.window x2 ![0, 0, 0] S1x2048x64.size inb_S1x2048x64_S1x2048x64_0_0_0)
      (VecWindow.window b (k0_off5 i) S1x256x2048.size (k0_off5_inb i h6)) (VecWindow.window x3 ![0, 0, 0] S1x2048x64.size inb_S1x2048x64_S1x2048x64_0_0_0)
  else x1

/-- The sliding-window attention the point stores. -/
def winOut (i : grid0.Coords) (x1 : Vec F S1x256x64 .f32) (x2 x3 : Vec F S1x2048x64 .f32) (w : Vec F S2x256x384 .f32) : Vec F S1x256x64 .f32 :=
  k0_pay1 (k0_pay23 (k0_pay17 x1) (VecWindow.window x2 (k0_off6 i) S1x384x64.size (k0_off6_inb i)) (VecWindow.window w (k0_off7 i) S1x256x384.size (k0_off7_inb i)))
    (k0_pay24 (k0_pay17 x1) (VecWindow.window x2 (k0_off6 i) S1x384x64.size (k0_off6_inb i)) (VecWindow.window w (k0_off7 i) S1x256x384.size (k0_off7_inb i)))
    (k0_pay25 (VecWindow.window x3 (k0_off6 i) S1x384x64.size (k0_off6_inb i))) (constant S256x64 .f32 0x00000000#32)

/-! ## Reading what the run leaves -/

/-- A covered load inside the one store of the list reads what a load over any contents with that store put there would. -/
theorem readCov_inside {sg : RefSig} {κ : Kind} {sp : Space} {s : Shape} {e : EltTy} (v : View sg κ sp s e) (b : s.Idx → Elt F e)
    {off size off' size' : Fin s.rank → ℕ} (inb : ∀ a, off a + size a ≤ s.size a) (w : (Rect.unit off size inb).shape.Idx → Elt F e)
    (inb' : ∀ a, off' a + size' a ≤ s.size a) (h : ∀ a, off a ≤ off' a ∧ off' a + size' a ≤ off a + size a) :
    v.readCov [⟨Rect.unit off size inb, w⟩] (Rect.unit off' size' inb').toLoadRect = VecWindow.window (VecWindow.put b off size w) off' size' inb' := by
  rw [VecWindow.window_put_of_inside b off size off' size' inb' w h]
  rw [← VecWindow.window_put_of_inside (v.read (Elt F) v.junk) off size off' size' inb' w h]
  have e := View.read_writes_cons_put (Val := Elt F) v v.junk inb w [] rfl
  funext y
  exact congrFun e _

/-- The two window masks cover the scratch: what was there before does not matter. -/
theorem wmPut_base (w w' : Vec F S2x256x384 .f32) : wmPut w = wmPut w' := by
  funext y
  unfold wmPut VecWindow.put
  by_cases h1 : ∀ a, (![1, 0, 0] : Fin 3 → ℕ) a ≤ (y a).val ∧ (y a).val < (![1, 0, 0] : Fin 3 → ℕ) a + S1x256x384.size a
  · rw [dif_pos h1, dif_pos h1]
  · rw [dif_neg h1, dif_neg h1]
    have h0 : ∀ a, (![0, 0, 0] : Fin 3 → ℕ) a ≤ (y a).val ∧ (y a).val < (![0, 0, 0] : Fin 3 → ℕ) a + S1x256x384.size a := by
      have b0 : (y 0).val < 2 := (y 0).isLt
      have b1 : (y 1).val < 256 := (y 1).isLt
      have b2 : (y 2).val < 384 := (y 2).isLt
      have hn : ¬ (1 ≤ (y 0).val) := fun hh => h1 (by
        intro a; fin_cases a
        · exact ⟨hh, by show (y 0).val < 1 + 1; omega⟩
        · exact ⟨Nat.zero_le _, by show (y 1).val < 0 + 256; omega⟩
        · exact ⟨Nat.zero_le _, by show (y 2).val < 0 + 384; omega⟩)
      intro a; fin_cases a
      · exact ⟨Nat.zero_le _, by show (y 0).val < 0 + 1; omega⟩
      · exact ⟨Nat.zero_le _, by show (y 1).val < 0 + 256; omega⟩
      · exact ⟨Nat.zero_le _, by show (y 2).val < 0 + 384; omega⟩
    rw [dif_pos h0, dif_pos h0]

/-- The two stores of window masks over anything read as both masks put over anything else. -/
theorem read_wm {sg : RefSig} {κ : Kind} {sp : Space} (v : View sg κ sp S2x256x384 .f32) (f : v.ty.Contents (Elt F)) (w : Vec F S2x256x384 .f32) :
    v.read (Elt F) (v.writes (Elt F) f [⟨Rect.unit ![1, 0, 0] S1x256x384.size inb_S2x256x384_S1x256x384_1_0_0, k0_pay15 (F := F)⟩,
        ⟨Rect.unit ![0, 0, 0] S1x256x384.size inb_S2x256x384_S1x256x384_0_0_0, k0_pay14 (F := F)⟩]) = wmPut w := by
  rw [View.read_writes_cons_put (Val := Elt F) v f _ _ _ rfl, View.read_writes_cons_put (Val := Elt F) v f _ _ _ rfl]
  exact wmPut_base _ w

/-- A load at a unit-stride rectangle of a whole memref's contents reads the window of the values they stand for. -/
theorem readAt_win {sg : RefSig} {κ : Kind} {sp : Space} {s : Shape} {e : EltTy} (m : Memref sg κ sp s e) (hm : m.IsWhole) (x : s.Idx → Elt F e)
    {off size : Fin s.rank → ℕ} (inb : ∀ a, off a + size a ≤ s.size a) :
    m.view.readAt (Elt F) (Rect.unit off size inb).toLoadRect (hm.unread x) = VecWindow.window x off size inb := by
  rw [View.readAt_unit m.view (hm.unread x) inb rfl inb, hm.read_unread]

/-- A load of a whole memref's own sizes reads the values its contents stand for. -/
theorem readAt_all {sg : RefSig} {κ : Kind} {sp : Space} {s : Shape} {e : EltTy} (m : Memref sg κ sp s e) (hm : m.IsWhole) (x : s.Idx → Elt F e)
    {off : Fin s.rank → ℕ} (inb : ∀ a, off a + s.size a ≤ s.size a) :
    m.view.readAt (Elt F) (Rect.unit off s.size inb).toLoadRect (hm.unread x) = x := by
  rw [View.readAt_full, hm.read_unread]

/-- A load of part of the mask slot stored at this point reads the mask just computed. -/
theorem bias_fresh {i : grid0.Coords} (hc1 : k0_cond2 i = 1#1) (arg2 : Memref sig .tc .vmem S256x512 .f32) (harg2 : arg2.IsWhole) (arg8 : Memref sig .tc .vmem S8x256x2048 .f32)
    (x0 : Vec F S256x512 .f32) (b0 : Vec F S8x256x2048 .f32) {off' size' : Fin 3 → ℕ} (inb' : ∀ a, off' a + size' a ≤ S8x256x2048.size a)
    (ho : off' = ![(i 1).val, 0, 0]) (hs : ∀ a, size' a ≤ S1x256x2048.size a) :
    arg8.view.readCov [⟨Rect.unit (k0_off1 i) S1x256x2048.size (k0_off1_inb i hc1),
        biasPay i (View.readAt (Elt F) arg2.view (Rect.unit (s := S256x512) ![0, 0] S256x512.size inb_S256x512_S256x512_0_0).toLoadRect (harg2.unread x0))⟩]
      (Rect.unit (s := S8x256x2048) off' size' inb').toLoadRect = VecWindow.window (biasNext i x0 b0) off' size' inb' := by
  rw [biasNext, if_pos hc1, readAt_all arg2 harg2 x0]
  refine readCov_inside arg8.view b0 (k0_off1_inb i hc1) (biasPay i x0) inb' fun a => ?_
  have h1 : k0_off1 i = off' := (k0_off1_eq i).trans ho.symm
  have h2 := congrFun h1 a
  have h3 := hs a
  constructor
  · rw [h2]
  · rw [h2]; exact Nat.add_le_add_left h3 _

/-- A load of part of a mask slot that this point does not store reads what was there. -/
theorem bias_old {i : grid0.Coords} (hc1 : ¬ k0_cond2 i = 1#1) (arg8 : Memref sig .tc .vmem S8x256x2048 .f32) (harg8 : arg8.IsWhole)
    (x0 : Vec F S256x512 .f32) (b0 : Vec F S8x256x2048 .f32) {off' size' : Fin 3 → ℕ} (inb' : ∀ a, off' a + size' a ≤ S8x256x2048.size a) :
    View.readAt (Elt F) arg8.view (Rect.unit (s := S8x256x2048) off' size' inb').toLoadRect (harg8.unread b0) = VecWindow.window (biasNext i x0 b0) off' size' inb' := by
  rw [biasNext, if_neg hc1]
  exact readAt_win arg8 harg8 b0 inb'

/-- Putting equal blocks into equal buffers gives equal buffers. -/
theorem put_congr (i : grid0.Coords) {b b' : Vec F S8x256x2048 .f32} {p p' : Vec F S1x256x2048 .f32} (hb : b = b') (hp : p = p') :
    VecWindow.put b (k0_off1 i) S1x256x2048.size p = VecWindow.put b' (k0_off1 i) S1x256x2048.size p' := by
  rw [hb, hp]

/-- The window payload of equal operands is equal. -/
theorem win_congr {q q' : FVec F S256x64 .f32} {k k' : Vec F S1x384x64 .f32} {w w' : Vec F S1x256x384 .f32} {v v' : Vec F S1x384x64 .f32} {z : FVec F S256x64 .f32}
    (hq : q = q') (hk : k = k') (hw : w = w') (hv : v = v') :
    k0_pay1 (F := F) (k0_pay23 (F := F) q k w) (k0_pay24 (F := F) q k w) (k0_pay25 (F := F) v) z = k0_pay1 (F := F) (k0_pay23 (F := F) q' k' w') (k0_pay24 (F := F) q' k' w') (k0_pay25 (F := F) v') z := by
  rw [hq, hk, hw, hv]

/-- The combinations of the body's six branch conditions that occur. -/
def Cases (i : grid0.Coords) : Prop :=
  (firstPoint i ∧ k0_cond2 i = 1#1 ∧ k0_cond3 i = 1#1 ∧ ¬ k0_cond4 i = 1#1 ∧ ¬ k0_cond5 i = 1#1 ∧ ¬ k0_cond6 i = 1#1)
  ∨ (¬ firstPoint i ∧ k0_cond2 i = 1#1 ∧ k0_cond3 i = 1#1 ∧ ¬ k0_cond4 i = 1#1 ∧ ¬ k0_cond5 i = 1#1 ∧ ¬ k0_cond6 i = 1#1)
  ∨ (¬ firstPoint i ∧ k0_cond2 i = 1#1 ∧ ¬ k0_cond3 i = 1#1 ∧ k0_cond4 i = 1#1 ∧ ¬ k0_cond5 i = 1#1 ∧ ¬ k0_cond6 i = 1#1)
  ∨ (¬ firstPoint i ∧ k0_cond2 i = 1#1 ∧ ¬ k0_cond3 i = 1#1 ∧ ¬ k0_cond4 i = 1#1 ∧ k0_cond5 i = 1#1 ∧ ¬ k0_cond6 i = 1#1)
  ∨ (¬ firstPoint i ∧ k0_cond2 i = 1#1 ∧ ¬ k0_cond3 i = 1#1 ∧ ¬ k0_cond4 i = 1#1 ∧ ¬ k0_cond5 i = 1#1 ∧ k0_cond6 i = 1#1)
  ∨ (¬ firstPoint i ∧ ¬ k0_cond2 i = 1#1 ∧ k0_cond3 i = 1#1 ∧ ¬ k0_cond4 i = 1#1 ∧ ¬ k0_cond5 i = 1#1 ∧ ¬ k0_cond6 i = 1#1)
  ∨ (¬ firstPoint i ∧ ¬ k0_cond2 i = 1#1 ∧ ¬ k0_cond3 i = 1#1 ∧ k0_cond4 i = 1#1 ∧ ¬ k0_cond5 i = 1#1 ∧ ¬ k0_cond6 i = 1#1)
  ∨ (¬ firstPoint i ∧ ¬ k0_cond2 i = 1#1 ∧ ¬ k0_cond3 i = 1#1 ∧ ¬ k0_cond4 i = 1#1 ∧ k0_cond5 i = 1#1 ∧ ¬ k0_cond6 i = 1#1)
  ∨ (¬ firstPoint i ∧ ¬ k0_cond2 i = 1#1 ∧ ¬ k0_cond3 i = 1#1 ∧ ¬ k0_cond4 i = 1#1 ∧ ¬ k0_cond5 i = 1#1 ∧ k0_cond6 i = 1#1)

/-- The first branch is taken at the first point only. -/
theorem firstPoint_iff : ∀ t : Fin grid0.N, firstPoint (grid0.coords t) ↔ t.val = 0 := by decide +kernel

/-- The mask is stored during the first head's eight points only. -/
theorem cond2_iff : ∀ t : Fin grid0.N, k0_cond2 (grid0.coords t) = 1#1 ↔ t.val < 8 := by decide +kernel

/-- The first two row blocks of a head use the first 512 keys. -/
theorem cond3_iff : ∀ t : Fin grid0.N, k0_cond3 (grid0.coords t) = 1#1 ↔ t.val % 8 ≤ 1 := by decide +kernel

/-- The next two row blocks use the first 1024 keys. -/
theorem cond4_iff : ∀ t : Fin grid0.N, k0_cond4 (grid0.coords t) = 1#1 ↔ 2 ≤ t.val % 8 ∧ t.val % 8 ≤ 3 := by decide +kernel

/-- The next two row blocks use the first 1536 keys. -/
theorem cond5_iff : ∀ t : Fin grid0.N, k0_cond5 (grid0.coords t) = 1#1 ↔ 4 ≤ t.val % 8 ∧ t.val % 8 ≤ 5 := by decide +kernel

/-- The last two row blocks use all the keys. -/
theorem cond6_iff : ∀ t : Fin grid0.N, k0_cond6 (grid0.coords t) = 1#1 ↔ 6 ≤ t.val % 8 := by decide +kernel

/-- A number below 96 is in one of the nine cases. -/
theorem cases_nat (n : ℕ) (hn : n < 96) {a b c d e f : Prop} (h0 : a ↔ n = 0) (h1 : b ↔ n < 8) (h2 : c ↔ n % 8 ≤ 1) (h3 : d ↔ 2 ≤ n % 8 ∧ n % 8 ≤ 3)
    (h4 : e ↔ 4 ≤ n % 8 ∧ n % 8 ≤ 5) (h5 : f ↔ 6 ≤ n % 8) :
    (a ∧ b ∧ c ∧ ¬ d ∧ ¬ e ∧ ¬ f) ∨ (¬ a ∧ b ∧ c ∧ ¬ d ∧ ¬ e ∧ ¬ f) ∨ (¬ a ∧ b ∧ ¬ c ∧ d ∧ ¬ e ∧ ¬ f) ∨ (¬ a ∧ b ∧ ¬ c ∧ ¬ d ∧ e ∧ ¬ f)
      ∨ (¬ a ∧ b ∧ ¬ c ∧ ¬ d ∧ ¬ e ∧ f) ∨ (¬ a ∧ ¬ b ∧ c ∧ ¬ d ∧ ¬ e ∧ ¬ f) ∨ (¬ a ∧ ¬ b ∧ ¬ c ∧ d ∧ ¬ e ∧ ¬ f) ∨ (¬ a ∧ ¬ b ∧ ¬ c ∧ ¬ d ∧ e ∧ ¬ f)
      ∨ (¬ a ∧ ¬ b ∧ ¬ c ∧ ¬ d ∧ ¬ e ∧ f) := by
  rw [h0, h1, h2, h3, h4, h5]
  clear h0 h1 h2 h3 h4 h5
  have hA : n = 0 ∨ (0 < n ∧ n < 8) ∨ 8 ≤ n := by omega
  have hB : n % 8 ≤ 1 ∨ (2 ≤ n % 8 ∧ n % 8 ≤ 3) ∨ (4 ≤ n % 8 ∧ n % 8 ≤ 5) ∨ 6 ≤ n % 8 := by omega
  rcases hA with hA | hA | hA <;> rcases hB with hB | hB | hB | hB <;> first
    | (exfalso; omega)
    | (left; refine ⟨?_, ?_, ?_, ?_, ?_, ?_⟩ <;> omega)
    | (iterate 1 right
       left; refine ⟨?_, ?_, ?_, ?_, ?_, ?_⟩ <;> omega)
    | (iterate 2 right
       left; refine ⟨?_, ?_, ?_, ?_, ?_, ?_⟩ <;> omega)
    | (iterate 3 right
       left; refine ⟨?_, ?_, ?_, ?_, ?_, ?_⟩ <;> omega)
    | (iterate 4 right
       left; refine ⟨?_, ?_, ?_, ?_, ?_, ?_⟩ <;> omega)
    | (iterate 5 right
       left; refine ⟨?_, ?_, ?_, ?_, ?_, ?_⟩ <;> omega)
    | (iterate 6 right
       left; refine ⟨?_, ?_, ?_, ?_, ?_, ?_⟩ <;> omega)
    | (iterate 7 right
       left; refine ⟨?_, ?_, ?_, ?_, ?_, ?_⟩ <;> omega)
    | (iterate 8 right
       refine ⟨?_, ?_, ?_, ?_, ?_, ?_⟩ <;> omega)

/-- Every grid point is in one of those cases. -/
theorem cases_all (t : Fin grid0.N) : Cases (grid0.coords t) :=
  cases_nat t.val (lt_of_lt_of_eq t.isLt N_0) (firstPoint_iff t) (cond2_iff t) (cond3_iff t) (cond4_iff t) (cond5_iff t) (cond6_iff t)

set_option maxHeartbeats 4000000 in
/-- The body at any grid point: from the four input blocks and the two scratch buffers it leaves the selected-block
    attention and the sliding-window attention in the two output blocks, and the two scratch buffers updated. -/
theorem bodyRun (c : Dev nD) (i : grid0.Coords) (hi : Cases i) (arg2 : Memref sig .tc .vmem S256x512 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x256x64 .f32) (harg6 : arg6.IsWhole) (arg7 : Memref sig .tc .vmem S1x256x64 .f32) (harg7 : arg7.IsWhole) (arg8 : Memref sig .tc .vmem S8x256x2048 .f32) (harg8 : arg8.IsWhole) (arg9 : Memref sig .tc .vmem S2x256x384 .f32) (harg9 : arg9.IsWhole)
    (x0 : Vec F S256x512 .f32) (x1 : Vec F S1x256x64 .f32) (x2 : Vec F S1x2048x64 .f32) (x3 : Vec F S1x2048x64 .f32) (b0 : Vec F S8x256x2048 .f32) (w0 : Vec F S2x256x384 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare b0 ∗ owns (c : Thread nD τ) arg9 fullShare w0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (fineOut i x1 x2 x3 (biasNext i x0 b0)) ∗ owns (c : Thread nD τ) arg7 fullShare (winOut i x1 x2 x3 (wmNext i w0))
                ∗ owns (c : Thread nD τ) arg8 fullShare (biasNext i x0 b0) ∗ owns (c : Thread nD τ) arg9 fullShare (wmNext i w0)) -∗ K ⟨⟩))
          ⊢ wp frame (wpE (defs₀ (F := F)) Variants.none c none) E (cc0__fine_kernel i arg2 harg2 arg3 harg3 arg4 harg4 arg5 harg5 arg6 harg6 arg7 harg7 arg8 harg8 arg9 harg9) K := by
    intro E K
    simp only [cc0__fine_kernel_eq_skeleton]; unfold cc0__fine_kernel_skel
    simp only [k0_part3_eq_skeleton, k0_part1_eq_skeleton, k0_part2_eq_skeleton, k0_part4_eq_skeleton, k0_part5_eq_skeleton]
    unfold owns
    rcases hi with ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩ | ⟨hc0, hc1, hc2, hc3, hc4, hc5⟩
    all_goals
      iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, Hk⟩
      obtain rfl := harg2.eq_unread hf0; obtain rfl := harg3.eq_unread hf1; obtain rfl := harg4.eq_unread hf2; obtain rfl := harg5.eq_unread hf3
      obtain rfl := harg8.eq_unread hs0; obtain rfl := harg9.eq_unread hs1
      sl_exec (disch := first | sl_exact hc0 | sl_exact hc1 | sl_exact hc2 | sl_exact hc3 | sl_exact hc4 | sl_exact hc5)
      sl_step
      have hx1 := readAt_all arg3 harg3 x1 inb_S1x256x64_S1x256x64_0_0_0
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; swap; · iexact H4
        ipureintro
        refine (View.read_writes_full _ _ inb_S1x256x64_S1x256x64_0_0_0 _ _).trans ?_
        unfold fineOut
        first
          | rw [dif_pos hc2]
            refine congr (congr (congr (congrArg (k0_pay18 (F := F)) ?_) ?_) ?_) ?_
          | rw [dif_neg hc2, dif_pos hc3]
            refine congr (congr (congr (congrArg (k0_pay19 (F := F)) ?_) ?_) ?_) ?_
          | rw [dif_neg hc2, dif_neg hc3, dif_pos hc4]
            refine congr (congr (congr (congrArg (k0_pay20 (F := F)) ?_) ?_) ?_) ?_
          | rw [dif_neg hc2, dif_neg hc3, dif_neg hc4, dif_pos hc5]
            refine congr (congr (congr (congrArg (k0_pay21 (F := F)) ?_) ?_) ?_) ?_
        · first | exact hx1 | exact congrArg (k0_pay17 (F := F)) hx1
        · exact readAt_win arg4 harg4 x2 _
        · first
            | exact bias_old hc1 arg8 harg8 x0 b0 _
            | exact bias_fresh hc1 arg2 harg2 arg8 x0 b0 _ (k0_off2_eq i) (by decide)
            | exact bias_fresh hc1 arg2 harg2 arg8 x0 b0 _ (k0_off3_eq i) (by decide)
            | exact bias_fresh hc1 arg2 harg2 arg8 x0 b0 _ (k0_off4_eq i) (by decide)
            | exact bias_fresh hc1 arg2 harg2 arg8 x0 b0 _ (k0_off5_eq i) (by decide)
        · exact readAt_win arg5 harg5 x3 _
      isplitl [H5]
      · iexists _; isplitr; swap; · iexact H5
        ipureintro
        refine (View.read_writes_full _ _ inb_S1x256x64_S1x256x64_0_0_0 _ _).trans ?_
        unfold winOut
        have hK := readAt_win arg4 harg4 x2 (k0_off6_inb i)
        have hV := readAt_win arg5 harg5 x3 (k0_off6_inb i)
        have hQ := congrArg (k0_pay17 (F := F)) hx1
        first
          | have hW : View.readAt (Elt F) arg9.view (Rect.unit (s := S2x256x384) (k0_off7 i) S1x256x384.size (k0_off7_inb i)).toLoadRect (harg9.unread w0) = VecWindow.window (wmNext i w0) (k0_off7 i) S1x256x384.size (k0_off7_inb i) := by
              rw [wmNext, if_neg hc0]; exact readAt_win arg9 harg9 w0 (k0_off7_inb i)
            exact win_congr hQ hK hW hV
          | have hW : View.readAt (Elt F) arg9.view (Rect.unit (s := S2x256x384) (k0_off7 i) S1x256x384.size (k0_off7_inb i)).toLoadRect (arg9.view.writes (Elt F) arg9.view.junk [⟨Rect.unit (s := S2x256x384) ![1, 0, 0] S1x256x384.size inb_S2x256x384_S1x256x384_1_0_0, k0_pay15 (F := F)⟩, ⟨Rect.unit (s := S2x256x384) ![0, 0, 0] S1x256x384.size inb_S2x256x384_S1x256x384_0_0_0, k0_pay14 (F := F)⟩]) = VecWindow.window (wmNext i w0) (k0_off7 i) S1x256x384.size (k0_off7_inb i) := by
              rw [View.readAt_unit arg9.view _ (k0_off7_inb i) rfl (k0_off7_inb i), read_wm arg9.view _ w0, wmNext, if_pos hc0]
            exact win_congr hQ hK hW hV
      isplitl [HS0]
      · iexists _; isplitr; swap; · iexact HS0
        ipureintro
        first
          | rw [biasNext, if_neg hc1]; exact harg8.read_unread _
          | rw [biasNext, if_pos hc1]
            refine (View.read_writes_cons_put (Val := Elt F) arg8.view _ (k0_off1_inb i hc1) _ [] rfl).trans ?_
            exact put_congr i (harg8.read_unread b0) (congrArg (biasPay i) (readAt_all arg2 harg2 x0 inb_S256x512_S256x512_0_0))
      iexists _; isplitr; swap; · iexact HS1
      ipureintro
      first
        | rw [wmNext, if_neg hc0]; exact harg9.read_unread _
        | rw [wmNext, if_pos hc0]; exact read_wm arg9.view _ w0

end Cert.FineIdeal.Hand

end
-- ==== Proof.FineMask.lean ====
module

public import proofs.«01_k».proof.Proof.FinePure
public import proofs.«01_k».proof.Proof.FineBody
public import Idealize.ShloMosaic.Lib.Pointwise
public import Idealize.ShloMosaic.Lib.WordCmp

@[expose] public section

set_option maxRecDepth 16384

noncomputable section

namespace Cert.FineIdeal.Hand

open Cert.FineIdeal.Gen Cert.FinePure
open Idealize.ShloMosaic Idealize.ShloMosaic.TcCoe

/-! ## Reductions along a row -/

/-- The maximum of a row from −∞ is its value at a first largest position. -/
theorem fold_max_firstMax {n : ℕ} (f : Fin n → EReal) (a : Fin n) (h : FirstMax f a) :
    (Finset.univ : Finset (Fin n)).fold max ⊥ f = f a := by
  apply le_antisymm
  · rw [Finset.fold_max_le]
    exact ⟨bot_le, fun k _ => (h k).elim le_of_lt fun e => e.1.le⟩
  · rw [Finset.le_fold_max]
    exact Or.inr ⟨a, Finset.mem_univ _, le_rfl⟩

theorem minsi_eq (x y : BitVec 32) : IntOp.minsi x y = if x.slt y = true then x else y := rfl

/-- The signed minimum of words from a word none of which is below `w`, one of which is `w`, is `w`. -/
theorem fold_minsi_eq {ι : Type} [DecidableEq ι] (S : Finset ι) (g : ι → BitVec 32) (init w : BitVec 32) (hi : w.toInt ≤ init.toInt)
    (hg : ∀ k, w.toInt ≤ (g k).toInt) :
    w.toInt ≤ (S.fold IntOp.minsi init g).toInt ∧ ∀ a ∈ S, g a = w → S.fold IntOp.minsi init g = w := by
  induction S using Finset.induction_on with
  | empty => exact ⟨by simpa using hi, fun a ha => absurd ha (by simp)⟩
  | insert b S hb ih =>
    rw [Finset.fold_insert hb]
    constructor
    · rw [minsi_eq]
      split
      · exact hg b
      · exact ih.1
    · intro a ha hga
      rw [minsi_eq]
      rcases Finset.mem_insert.mp ha with rfl | haS
      · rw [hga]
        split
        · rfl
        · rename_i hc
          rw [BitVec.slt_iff_toInt_lt, not_lt] at hc
          exact BitVec.eq_of_toInt_eq (le_antisymm hc ih.1)
      · rw [ih.2 a haS hga]
        split
        · rename_i hc
          rw [BitVec.slt_iff_toInt_lt] at hc
          exact absurd hc (not_lt.mpr (hg b))
        · rfl

/-- The least of the positions, as words, at which a row equals its maximum is the first of them. -/
theorem fold_first {n : ℕ} (hn : n ≤ 512) (f : Fin n → EReal) (a : Fin n) (h : FirstMax f a) :
    (Finset.univ : Finset (Fin n)).fold IntOp.minsi 2147483647#32 (fun k => if f k = f a then BitVec.ofNat 32 k.val else 512#32) = BitVec.ofNat 32 a.val := by
  have ha : a.val < 512 := lt_of_lt_of_le a.isLt hn
  have e : ∀ m : ℕ, m ≤ 512 → (BitVec.ofNat 32 m).toInt = (m : Int) := fun m hm => WordCmp.toInt_ofNat_of_lt (by omega)
  refine (fold_minsi_eq Finset.univ _ _ (BitVec.ofNat 32 a.val) ?_ ?_).2 a (Finset.mem_univ _) (if_pos rfl)
  · rw [e _ ha.le]
    show (a.val : Int) ≤ 2147483647
    omega
  · intro k
    split
    · rename_i hk
      have hle : a ≤ k := by
        rcases h k with hlt | ⟨-, hle⟩
        · exact absurd hk hlt.ne
        · exact hle
      rw [e _ ha.le, e _ (by have := k.isLt; omega)]
      exact_mod_cast hle
    · rw [e _ ha.le, show (512#32 : BitVec 32) = BitVec.ofNat 32 512 from rfl, e _ le_rfl]
      omega

theorem ofBits_negInf : Ideal.ofBits .f32 0xFF800000#32 = ⊥ := by simp [Ideal.ofBits, Ideal.ieee]
theorem ofBits_negOne : Ideal.ofBits .f32 0xBF800000#32 = -1 := by
  simp [Ideal.ofBits, Ideal.ieee, -EReal.coe_mul]; norm_num

/-! ## The four rounds of the selection -/

/-- The position a round finds in a row is the row's first largest. -/
theorem pay2_at (v : Vec Ideal S256x512 .f32) (r : Fin 256) (a : Fin 512) (h : FirstMax (fun k : Fin 512 => v (ix2 r k)) a) :
    k0_pay2 (F := Ideal) v (ix2 r 0) = BitVec.ofNat 32 a.val := by
  pointwise [k0_pay2]
  rw [show (4286578688#32 : BitVec 32) = 0xFF800000#32 from rfl, ofBits_negInf, fold_max_firstMax _ a h]
  exact fold_first le_rfl _ a h

/-- A block with one position of each row crossed out, by its word. -/
def crossed (v : Vec Ideal S256x512 .f32) (a : IVec S256x1 32) : Vec Ideal S256x512 .f32 :=
  select (cmpi .eq (iota .tc S256x512 32 [1] iota_S256x512_d1_w32) (broadcastTo S256x512 a broadcasts_S256x1_S256x512))
    (broadcast S256x512 (Scalar.ofBits (F := Ideal) .f32 0xBF800000#32 : Ideal .f32)) v

/-- Its rows are the rows with that position crossed out. -/
theorem crossed_row (v : Vec Ideal S256x512 .f32) (w : IVec S256x1 32) (r : Fin 256) (a : Fin 512) (h : w (ix2 r 0) = BitVec.ofNat 32 a.val) :
    (fun k : Fin 512 => crossed v w (ix2 r k)) = cross (fun k : Fin 512 => v (ix2 r k)) a := by
  funext k
  pointwise [crossed]
  rw [h]
  unfold cross
  have hk := k.isLt
  have ha := a.isLt
  rw [WordCmp.cmpi_eq_ofNat (by omega) (by omega), show (3212836864#32 : BitVec 32) = 0xBF800000#32 from rfl, ofBits_negOne]
  by_cases e : k = a
  · subst e; simp [Scalar.select]
  · have : k.val ≠ a.val := fun h => e (Fin.ext h)
    simp [Scalar.select, e, this]

theorem pay3_eq (v : Vec Ideal S256x512 .f32) : k0_pay3 (F := Ideal) v = crossed v (k0_pay2 v) := rfl
theorem pay4_eq (v : Vec Ideal S256x512 .f32) : k0_pay4 (F := Ideal) v = k0_pay2 (k0_pay3 v) := rfl
theorem pay5_eq (v : Vec Ideal S256x512 .f32) : k0_pay5 (F := Ideal) v = crossed (k0_pay3 v) (k0_pay4 v) := rfl
theorem pay6_eq (v : Vec Ideal S256x512 .f32) : k0_pay6 (F := Ideal) v = k0_pay2 (k0_pay5 v) := rfl
theorem pay8_eq (v : Vec Ideal S256x512 .f32) : k0_pay8 (k0_pay7 (F := Ideal) v) = k0_pay2 (crossed (k0_pay5 v) (k0_pay6 v)) := rfl

/-- The four positions found in a row, each the first largest of the row with the earlier ones crossed out. -/
structure Rounds4 (f : Fin 512 → EReal) (σ : Fin 4 → Fin 512) : Prop where
  m0 : FirstMax f (σ 0)
  m1 : FirstMax (cross f (σ 0)) (σ 1)
  m2 : FirstMax (cross (cross f (σ 0)) (σ 1)) (σ 2)
  m3 : FirstMax (cross (cross (cross f (σ 0)) (σ 1)) (σ 2)) (σ 3)

/-- Every row has four such positions. -/
theorem exists_rounds (f : Fin 512 → EReal) : ∃ σ, Rounds4 f σ := by
  obtain ⟨a, ha⟩ := exists_firstMax f
  obtain ⟨b, hb⟩ := exists_firstMax (cross f a)
  obtain ⟨c, hc⟩ := exists_firstMax (cross (cross f a) b)
  obtain ⟨d, hd⟩ := exists_firstMax (cross (cross (cross f a) b) c)
  exact ⟨![a, b, c, d], ha, hb, hc, hd⟩

/-- The words the four rounds leave in a row are the four positions. -/
theorem rounds_at (v : Vec Ideal S256x512 .f32) (r : Fin 256) (σ : Fin 4 → Fin 512) (h : Rounds4 (fun k : Fin 512 => v (ix2 r k)) σ) :
    k0_pay2 (F := Ideal) v (ix2 r 0) = BitVec.ofNat 32 (σ 0).val ∧ k0_pay4 (F := Ideal) v (ix2 r 0) = BitVec.ofNat 32 (σ 1).val
      ∧ k0_pay6 (F := Ideal) v (ix2 r 0) = BitVec.ofNat 32 (σ 2).val ∧ k0_pay8 (k0_pay7 (F := Ideal) v) (ix2 r 0) = BitVec.ofNat 32 (σ 3).val := by
  have w0 := pay2_at v r (σ 0) h.m0
  have r1 := crossed_row v (k0_pay2 v) r (σ 0) w0
  rw [← pay3_eq] at r1
  have w1 : k0_pay4 (F := Ideal) v (ix2 r 0) = _ := (congrFun (pay4_eq v) _).trans (pay2_at (k0_pay3 v) r (σ 1) (by rw [r1]; exact h.m1))
  have r2 := crossed_row (k0_pay3 v) (k0_pay4 v) r (σ 1) w1
  rw [← pay5_eq, r1] at r2
  have w2 : k0_pay6 (F := Ideal) v (ix2 r 0) = _ := (congrFun (pay6_eq v) _).trans (pay2_at (k0_pay5 v) r (σ 2) (by rw [r2]; exact h.m2))
  have r3 := crossed_row (k0_pay5 v) (k0_pay6 v) r (σ 2) w2
  rw [r2] at r3
  exact ⟨w0, w1, w2, (congrFun (pay8_eq v) _).trans (pay2_at _ r (σ 3) (by rw [r3]; exact h.m3))⟩

/-! ## The mask -/

/-- Floor division by four on a word, as it is spelled with truncating division. -/
def fdiv4 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt (4#32 : BitVec 32) 0#32)) (Scalar.extui (Scalar.cmpi .slt (4#32 : BitVec 32) 0#32))))
      (IntOp.cmpi .ne (IntOp.remsi .vector w 4#32) 0#32))
    (IntOp.subi (IntOp.divsi .vector w 4#32) 1#32) (IntOp.divsi .vector w 4#32)

theorem fdiv4_fin : ∀ n : Fin 2048, fdiv4 (BitVec.ofNat 32 n.val) = BitVec.ofNat 32 (n.val / 4) := by decide +kernel

/-- It divides the positions by four. -/
theorem fdiv4_ofNat (n : ℕ) (h : n < 2048) : fdiv4 (BitVec.ofNat 32 n) = BitVec.ofNat 32 (n / 4) := fdiv4_fin ⟨n, h⟩

/-- The word of a query row. -/
theorem row_word (a : Fin 8) (r : Fin 256) :
    IntOp.addi (Scalar.muli (BitVec.ofNat 32 a.val) 256#32) (BitVec.ofNat 32 r.val) = BitVec.ofNat 32 (256 * a.val + r.val) := by
  show BitVec.ofNat 32 a.val * BitVec.ofNat 32 256 + BitVec.ofNat 32 r.val = _
  rw [← BitVec.ofNat_mul, ← BitVec.ofNat_add, Nat.mul_comm]

/-- An entry of the mask: 1 where the key's block is the query's or one of the four found, and the key is not after the query. -/
theorem biasPay_at (i : grid0.Coords) (a : Fin 8) (hi : (i 1).val = a.val) (x : Vec Ideal S256x512 .f32) (r : Fin 256) (k : Fin 2048)
    (σ : Fin 4 → Fin 512) (h : Rounds4 (fun k : Fin 512 => x (ix2 r k)) σ) :
    biasPay (F := Ideal) i x (ix3 0 r k)
      = if (k.val / 4 = (256 * a.val + r.val) / 4 ∨ ∃ j, (σ j).val = k.val / 4) ∧ k.val ≤ 256 * a.val + r.val then 1 else 0 := by
  obtain ⟨w0, w1, w2, w3⟩ := rounds_at x r σ h
  have hk := k.isLt
  have ha := a.isLt
  have hr := r.isLt
  have e10 : k0_pay10 (ix2 r k) = BitVec.ofNat 32 (k.val / 4) := by
    pointwise [k0_pay10]
    exact fdiv4_ofNat _ hk
  pointwise [biasPay, k0_pay16, k0_pay9, k0_pay11, k0_pay12, k0_pay13]
  rw [e10, w0, w1, w2, w3, hi, row_word a r]
  have eq := fdiv4_ofNat (256 * a.val + r.val) (by omega)
  unfold fdiv4 at eq
  rw [eq]
  have s0 := (σ 0).isLt
  have s1 := (σ 1).isLt
  have s2 := (σ 2).isLt
  have s3 := (σ 3).isLt
  rw [WordCmp.cmpi_eq_ofNat (by omega) (by omega), WordCmp.cmpi_eq_ofNat (by omega) (by omega), WordCmp.cmpi_eq_ofNat (by omega) (by omega),
    WordCmp.cmpi_eq_ofNat (by omega) (by omega), WordCmp.cmpi_eq_ofNat (by omega) (by omega), WordCmp.cmpi_sle_ofNat (by omega) (by omega)]
  simp only [WordCmp.ori_ofBool, WordCmp.andi_ofBool, Scalar.select]
  refine if_congr ?_ rfl rfl
  rw [WordCmp.ofBool_eq_one_iff']
  simp only [Bool.and_eq_true, Bool.or_eq_true, decide_eq_true_eq]
  refine and_congr ?_ Iff.rfl
  constructor
  · rintro ((((h | h) | h) | h) | h)
    · exact Or.inl h
    · exact Or.inr ⟨0, h.symm⟩
    · exact Or.inr ⟨1, h.symm⟩
    · exact Or.inr ⟨2, h.symm⟩
    · exact Or.inr ⟨3, h.symm⟩
  · rintro (h | ⟨j, h⟩)
    · exact Or.inl (Or.inl (Or.inl (Or.inl h)))
    · fin_cases j
      · exact Or.inl (Or.inl (Or.inl (Or.inr h.symm)))
      · exact Or.inl (Or.inl (Or.inr h.symm))
      · exact Or.inl (Or.inr h.symm)
      · exact Or.inr h.symm

/-! ## The window masks -/

/-- The signed difference of two small index words with an offset. -/
theorem diff_toInt (r k o : ℕ) (hr : r < 4096) (hk : k < 4096) (ho : o < 4096) :
    (IntOp.addi (IntOp.subi (BitVec.ofNat 32 r) (BitVec.ofNat 32 k)) (BitVec.ofNat 32 o)).toInt = (r : Int) - k + o := by
  show (BitVec.ofNat 32 r - BitVec.ofNat 32 k + BitVec.ofNat 32 o).toInt = _
  rw [BitVec.toInt_add, BitVec.toInt_sub, WordCmp.toInt_ofNat_of_lt (by omega), WordCmp.toInt_ofNat_of_lt (by omega), WordCmp.toInt_ofNat_of_lt (by omega)]
  simp only [Int.bmod]
  omega

/-- Where the difference lies in a window of 32 positions. -/
theorem diff_window (w : BitVec 32) (d : Int) (h : w.toInt = d) (t e : EReal) :
    Scalar.select (IntOp.andi (IntOp.cmpi .sge w 0#32) (IntOp.cmpi .slt w 32#32)) t e = if 0 ≤ d ∧ d < 32 then t else e := by
  rw [WordCmp.cmpi_sge_eq, WordCmp.cmpi_slt_eq, WordCmp.andi_ofBool, h]
  unfold Scalar.select
  refine if_congr ?_ rfl rfl
  rw [WordCmp.ofBool_eq_one_iff']
  simp only [Bool.and_eq_true, decide_eq_true_eq]
  rfl

/-- An entry of the first window mask. -/
theorem pay14_at (r : Fin 256) (k : Fin 384) : k0_pay14 (F := Ideal) (ix3 0 r k) = if k.val ≤ r.val ∧ r.val < k.val + 32 then 1 else 0 := by
  pointwise [k0_pay14]
  have hr := r.isLt
  have hk := k.isLt
  have e := diff_toInt r.val k.val 0 (by omega) (by omega) (by omega)
  have e' : IntOp.subi (BitVec.ofNat 32 r.val) (BitVec.ofNat 32 k.val) = IntOp.addi (IntOp.subi (BitVec.ofNat 32 r.val) (BitVec.ofNat 32 k.val)) (BitVec.ofNat 32 0) :=
    (BitVec.add_zero _).symm
  rw [← e'] at e
  rw [diff_window _ _ e]
  refine if_congr ?_ rfl rfl
  omega

/-- An entry of the second window mask. -/
theorem pay15_at (r : Fin 256) (k : Fin 384) : k0_pay15 (F := Ideal) (ix3 0 r k) = if k.val ≤ r.val + 128 ∧ r.val + 128 < k.val + 32 then 1 else 0 := by
  pointwise [k0_pay15]
  have hr := r.isLt
  have hk := k.isLt
  rw [diff_window _ _ (diff_toInt r.val k.val 128 (by omega) (by omega) (by omega))]
  refine if_congr ?_ rfl rfl
  omega

end Cert.FineIdeal.Hand
-- ==== Proof.FineFrame.lean ====
module

public import proofs.«01_k».proof.Proof.FineBody
public import Idealize.ShloMosaic.Lib.Claim
public import Idealize.ShloMosaic.Lib.ValueIdxCore

@[expose] public section

set_option maxRecDepth 16384

noncomputable section

namespace Cert.FineIdeal.Hand

open Cert.FineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The point of the first head at row block `j`. -/
def pt (j : Fin 8) : Fin cfg0.N := ⟨j.val, by rw [show cfg0.N = 96 from N_0]; have := j.isLt; omega⟩

/-- All eight row blocks' selection masks, each computed from its importance block. -/
def biasAll (c : Dev nD) : Vec F S8x256x2048 .f32 := fun y =>
  biasPay (grid0.coords (pt (y 0))) (iblk m c 0 (pt (y 0))) (ix3 (0 : Fin 1) (y 1) (y 2))

/-- Before point `t` the mask scratch holds the masks of the row blocks visited, and the window masks are there after the first point. -/
def Inv (c : Dev nD) (t : ℕ) (b : Vec F S8x256x2048 .f32) (w : Vec F S2x256x384 .f32) : Prop :=
  (∀ y : S8x256x2048.Idx, (y 0).val < t → b y = biasAll m c y) ∧ (0 < t → ∀ w', w = wmPut w')

/-- The second grid coordinate of a point is its number within the head. -/
theorem coords_1 : ∀ t : Fin grid0.N, ((grid0.coords t) 1).val = t.val % 8 := by decide +kernel

/-- The invariant passes from a point to the next. -/
theorem Inv_next (c : Dev nD) (t : Fin cfg0.N) {b : Vec F S8x256x2048 .f32} {w : Vec F S2x256x384 .f32} (h : Inv m c t.val b w) :
    Inv m c (t.val + 1) (biasNext (grid0.coords t) (iblk m c 0 t) b) (wmNext (grid0.coords t) w) := by
  refine ⟨fun y hy => ?_, fun _ w' => ?_⟩
  · by_cases ht : t.val < 8
    · rw [biasNext, if_pos ((cond2_iff t).mpr ht)]
      have ho : k0_off1 (grid0.coords t) = ![t.val, 0, 0] := by
        rw [k0_off1_eq, coords_1, Nat.mod_eq_of_lt ht]
      by_cases hyt : (y 0).val = t.val
      · have hin : ∀ a, k0_off1 (grid0.coords t) a ≤ (y a).val ∧ (y a).val < k0_off1 (grid0.coords t) a + S1x256x2048.size a := by
          rw [ho]
          intro a
          fin_cases a
          · exact ⟨hyt.ge, by show (y 0).val < t.val + 1; omega⟩
          · exact ⟨Nat.zero_le _, by show (y 1).val < 0 + 256; have := (y 1).isLt; exact lt_of_lt_of_eq this (Nat.zero_add _).symm⟩
          · exact ⟨Nat.zero_le _, by show (y 2).val < 0 + 2048; have := (y 2).isLt; exact lt_of_lt_of_eq this (Nat.zero_add _).symm⟩
        unfold VecWindow.put
        rw [dif_pos hin]
        have hp : t = pt (y 0) := Fin.ext hyt.symm
        unfold biasAll
        rw [← hp]
        refine congrArg _ ?_
        funext a
        fin_cases a
        · exact Fin.ext (by show (y 0).val - k0_off1 (grid0.coords t) 0 = 0; rw [ho]; show (y 0).val - t.val = 0; omega)
        · exact Fin.ext (by show (y 1).val - k0_off1 (grid0.coords t) 1 = (y 1).val; rw [ho]; exact Nat.sub_zero _)
        · exact Fin.ext (by show (y 2).val - k0_off1 (grid0.coords t) 2 = (y 2).val; rw [ho]; exact Nat.sub_zero _)
      · have hout : ¬ ∀ a, k0_off1 (grid0.coords t) a ≤ (y a).val ∧ (y a).val < k0_off1 (grid0.coords t) a + S1x256x2048.size a := by
          intro hh
          have h0 := (hh 0).1
          rw [ho] at h0
          have h1 : t.val ≤ (y 0).val := h0
          omega
        unfold VecWindow.put
        rw [dif_neg hout]
        exact h.1 y (by omega)
    · rw [biasNext, if_neg (fun hc => ht ((cond2_iff t).mp hc))]
      have h8 : (y 0).val < 8 := (y 0).isLt
      exact h.1 y (by omega)
  · by_cases ht : t.val = 0
    · rw [wmNext, if_pos ((firstPoint_iff t).mpr ht)]
      exact wmPut_base _ _
    · rw [wmNext, if_neg (fun hc => ht ((firstPoint_iff t).mp hc))]
      exact h.2 (by omega) w'

/-- Two mask buffers that agree at a point's slot give the same window of that slot. -/
theorem window_slot {t : Fin cfg0.N} {b b' : Vec F S8x256x2048 .f32} (h : ∀ y : S8x256x2048.Idx, (y 0).val < t.val + 1 → b y = b' y)
    {off size : Fin 3 → ℕ} (inb : ∀ a, off a + size a ≤ S8x256x2048.size a) (ho : off = ![((grid0.coords t) 1).val, 0, 0]) (hs : size 0 = 1) :
    VecWindow.window b off size inb = VecWindow.window b' off size inb := by
  funext y
  refine h _ ?_
  have h1 : ((Rect.unit (s := S8x256x2048) off size inb).emb y 0).val = off 0 + 1 * (y 0).val := rfl
  have h2 : (y 0).val < size 0 := (y 0).isLt
  have h3 : off 0 = t.val % 8 := by rw [ho, ← coords_1 t]; rfl
  have h4 := Nat.mod_le t.val 8
  rw [h1]
  omega

/-- The selected-block attention of a point reads only that point's slot of the mask buffer. -/
theorem fineOut_slot {t : Fin cfg0.N} {b b' : Vec F S8x256x2048 .f32} (h : ∀ y : S8x256x2048.Idx, (y 0).val < t.val + 1 → b y = b' y)
    (x1 : Vec F S1x256x64 .f32) (x2 x3 : Vec F S1x2048x64 .f32) :
    fineOut (grid0.coords t) x1 x2 x3 b = fineOut (grid0.coords t) x1 x2 x3 b' := by
  unfold fineOut
  split_ifs with h3 h4 h5 h6
  · rw [window_slot h (k0_off2_inb _ h3) (k0_off2_eq _) rfl]
  · rw [window_slot h (k0_off3_inb _ h4) (k0_off3_eq _) rfl]
  · rw [window_slot h (k0_off4_inb _ h5) (k0_off4_eq _) rfl]
  · rw [window_slot h (k0_off5_inb _ h6) (k0_off5_eq _) rfl]
  · rfl

/-! ## The pipeline's proof data -/

/-- The window-mask buffer once stored. -/
def wmAll : Vec F S2x256x384 .f32 := wmPut (constant S2x256x384 .f32 0x00000000#32)

/-- What the point leaves in the selected-block output's block. -/
def fineAt (c : Dev nD) (t : Fin cfg0.N) : Vec F S1x256x64 .f32 :=
  fineOut (grid0.coords t) (iblk m c 1 t) (iblk m c 2 t) (iblk m c 3 t) (biasAll m c)

/-- What the point leaves in the sliding-window output's block. -/
def winAt (c : Dev nD) (t : Fin cfg0.N) : Vec F S1x256x64 .f32 :=
  winOut (grid0.coords t) (iblk m c 1 t) (iblk m c 2 t) (iblk m c 3 t) wmAll

/-- The scratch operands as memrefs. -/
abbrev scM0 : Memref sig .tc .vmem S8x256x2048 .f32 := Memref.whole cc0_scratch0
abbrev scM1 : Memref sig .tc .vmem S2x256x384 .f32 := Memref.whole cc0_scratch1

/-- The proof data: inputs stay, the two outputs as computed, the scratch buffers tracked by `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fineAt m c t
    | ⟨5, _⟩ => winAt m c t
  Φ t := iprop(∃ b, ∃ w, ⌜Inv m c t.val b w⌝ ∗ owns (c : Thread nD τ) scM0 fullShare b ∗ owns (c : Thread nD τ) scM1 fullShare w ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = fineAt m c t := by dsimp only [dats]
theorem after_5 (c : Dev nD) (t : Fin cfg0.N) : (dats m 0 c).after 5 t = winAt m c t := by dsimp only [dats]

/-- A window's staging memref at a point. -/
abbrev ms0 (t : Fin cfg0.N) : Memref sig .tc .vmem S256x512 .f32 := win0_0.stage (cfg0.slots t 0)
abbrev ms1 (t : Fin cfg0.N) : Memref sig .tc .vmem S1x256x64 .f32 := win0_1.stage (cfg0.slots t 1)
abbrev ms2 (t : Fin cfg0.N) : Memref sig .tc .vmem S1x2048x64 .f32 := win0_2.stage (cfg0.slots t 2)
abbrev ms3 (t : Fin cfg0.N) : Memref sig .tc .vmem S1x2048x64 .f32 := win0_3.stage (cfg0.slots t 3)
abbrev ms4 (t : Fin cfg0.N) : Memref sig .tc .vmem S1x256x64 .f32 := win0_4.stage (cfg0.slots t 4)
abbrev ms5 (t : Fin cfg0.N) : Memref sig .tc .vmem S1x256x64 .f32 := win0_5.stage (cfg0.slots t 5)

/-- What the body is run on at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The output windows are stored at every point. -/
theorem live_4 : ∀ t : Fin cfg0.N, cfg0.idle 4 (grid0.coords t) = false := (by decide +kernel : ∀ t : Fin grid0.N, cfg0.idle 4 (grid0.coords t) = false)
theorem live_5 : ∀ t : Fin cfg0.N, cfg0.idle 5 (grid0.coords t) = false := (by decide +kernel : ∀ t : Fin grid0.N, cfg0.idle 5 (grid0.coords t) = false)

/-- A live window's `leavesExact` is ownership of its staging memref at the contents the proof data names. -/
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (fineAt m c t) := by
  unfold Dat.leavesExact; rw [live_4 t, after_4]
theorem leaves_5 (c : Dev nD) (t : Fin cfg0.N) : (dats m 0 c).leavesExact 5 t = owns (c : Thread nD τ) (ms5 t) fullShare (winAt m c t) := by
  unfold Dat.leavesExact; rw [live_5 t, after_5]

set_option maxHeartbeats 1600000 in
/-- The body at a point takes what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).owesAt () t.succ = (dats m 0 c).owesAt () t.castSucc from rfl, leaves_0, leaves_1, leaves_2, leaves_3, leaves_4, leaves_5]
  rw [show (dats m 0 c).Φ t.castSucc = iprop(∃ b, ∃ w, ⌜Inv m c t.val b w⌝ ∗ owns (c : Thread nD τ) scM0 fullShare b ∗ owns (c : Thread nD τ) scM1 fullShare w ∗ (∃ r, prngReg c r)) from rfl,
    show (dats m 0 c).Φ t.succ = iprop(∃ b, ∃ w, ⌜Inv m c (t.val + 1) b w⌝ ∗ owns (c : Thread nD τ) scM0 fullShare b ∗ owns (c : Thread nD τ) scM1 fullShare w ∗ (∃ r, prngReg c r)) from rfl]
  iintro ⟨⟨%b, %w, %hI, HS0, HS1, Hg⟩, Ho, ⟨%d0, H0⟩, ⟨%d1, H1⟩, ⟨%d2, H2⟩, ⟨%d3, H3⟩, ⟨%d4, H4⟩, ⟨%d5, H5⟩⟩
  have hN := Inv_next m c t hI
  have e4 : fineOut (grid0.coords t) (iblk m c 1 t) (iblk m c 2 t) (iblk m c 3 t) (biasNext (grid0.coords t) (iblk m c 0 t) b) = fineAt m c t := fineOut_slot hN.1 _ _ _
  have e5 : winOut (grid0.coords t) (iblk m c 1 t) (iblk m c 2 t) (iblk m c 3 t) (wmNext (grid0.coords t) w) = winAt m c t := by
    rw [hN.2 (Nat.succ_pos _) (constant S2x256x384 .f32 0x00000000#32)]; rfl
  rw [← e4, ← e5]
  iapply ((bodyRun c (grid0.coords t) (cases_all t) _ _ _ _ _ _ _ _ _ _ _ _ _ _ _ _ (iblk m c 0 t) (iblk m c 1 t) (iblk m c 2 t) (iblk m c 3 t) b w) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, H4, H5, HS0, HS1⟩
  isplitl [HS0 HS1 Hg]
  · iexists _; iexists _
    isplitr; · ipureintro; exact hN
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body's row of the table is the body at the point. -/
theorem row_at (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- What the region hands the body before the first point: the scratch buffers at any contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before the first point the invariant says nothing of the scratch buffers. -/
theorem hin (c : Dev nD) : (Pipeline.ΦA spec0 c : sProp 𝕄) ⊢ (dats m 0 c).Φ 0 := by
  rw [PhiA_eq, show (dats m 0 c).Φ 0 = iprop(∃ b, ∃ w, ⌜Inv m c 0 b w⌝ ∗ owns (c : Thread nD τ) scM0 fullShare b ∗ owns (c : Thread nD τ) scM1 fullShare w ∗ (∃ r, prngReg c r)) from rfl]
  iintro ⟨⟨⟨%b, HS0⟩, ⟨%w, HS1⟩⟩, Hg⟩
  iexists b; iexists w
  isplitr
  · ipureintro; exact ⟨fun y hy => absurd hy (Nat.not_lt_zero _), fun hy => absurd hy (Nat.lt_irrefl _)⟩
  isplitl [HS0]; · iexact HS0
  isplitl [HS1]; · iexact HS1
  iexact Hg

/-- After the last point the scratch buffers are given back at any contents. -/
theorem hout (c : Dev nD) : (dats m 0 c).Φ (Fin.last cfg0.N) ⊢ (Pipeline.ΦA spec0 c : sProp 𝕄) := by
  rw [PhiA_eq, show (dats m 0 c).Φ (Fin.last cfg0.N) = iprop(∃ b, ∃ w, ⌜Inv m c cfg0.N b w⌝ ∗ owns (c : Thread nD τ) scM0 fullShare b ∗ owns (c : Thread nD τ) scM1 fullShare w ∗ (∃ r, prngReg c r)) from rfl]
  iintro ⟨%b, %w, %hI, HS0, HS1, Hg⟩
  isplitl [HS0 HS1]
  · isplitl [HS0]
    · iexists _; iexact HS0
    iexists _; iexact HS1
  iexact Hg

/-! ## The run and the frame -/

set_option backward.isDefEq.respectTransparency.types false in
/-- Every run ends with the output arrays at the proof data's contents, every other buffer unchanged and every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every run terminates with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FineIdeal.Hand

end
-- ==== Proof.FineEntry.lean ====
module

public import proofs.«01_k».proof.Proof.FineMask
public import proofs.«01_k».proof.Proof.FineFrame

@[expose] public section

set_option maxRecDepth 16384

noncomputable section

namespace Cert.FineIdeal.Hand

open Cert.FineIdeal.Gen Cert.FinePure
open Idealize.ShloMosaic Idealize.ShloMosaic.TcCoe

/-- The kernel's masked attention of one row and lane: exponentials of the scaled scores, masked, weighted by the values and divided by their total. -/
def att {w : ℕ} (s M v : Fin w → EReal) : EReal :=
  Ideal.div (∑ k, Ideal.exp (s k * Ideal.ofBits FTy.f32 1039516303#32) * M k * v k) (∑ k, Ideal.exp (s k * Ideal.ofBits FTy.f32 1039516303#32) * M k)

/-- Keys outside a window that the mask leaves out do not matter. -/
theorem att_window {n w : ℕ} (b : ℕ) (h : b + w ≤ n) (s M v : Fin w → EReal) (S N V : Fin n → EReal)
    (hs : ∀ k : Fin w, s k = S ⟨b + k.val, by have := k.isLt; omega⟩) (hM : ∀ k : Fin w, M k = N ⟨b + k.val, by have := k.isLt; omega⟩)
    (hv : ∀ k : Fin w, v k = V ⟨b + k.val, by have := k.isLt; omega⟩) (h0 : ∀ j : Fin n, (j.val < b ∨ b + w ≤ j.val) → N j = 0) :
    att s M v = att S N V := by
  unfold att
  rw [← sum_window b h (fun k => Ideal.exp (S k * Ideal.ofBits FTy.f32 1039516303#32) * N k * V k) (fun j hj => by rw [h0 j hj, mul_zero, zero_mul]),
    ← sum_window b h (fun k => Ideal.exp (S k * Ideal.ofBits FTy.f32 1039516303#32) * N k) (fun j hj => by rw [h0 j hj, mul_zero])]
  congr 1
  · exact Finset.sum_congr rfl fun k _ => by rw [hs, hM, hv]
  · exact Finset.sum_congr rfl fun k _ => by rw [hs, hM]

theorem pay18_at (x1 : Vec Ideal S1x256x64 .f32) (K V : Vec Ideal S1x512x64 .f32) (M : Vec Ideal S1x256x512 .f32) (r : Fin 256) (l : Fin 64) :
    k0_pay18 (F := Ideal) x1 K M V (ix3 0 r l) = att (fun k : Fin 512 => ∑ d : Fin 64, x1 (ix3 0 r d) * K (ix3 0 k d)) (fun k => M (ix3 0 r k)) (fun k => V (ix3 0 k l)) := by
  pointwise [k0_pay18, k0_pay17]
  rfl

theorem pay19_at (x1 : Vec Ideal S1x256x64 .f32) (K V : Vec Ideal S1x1024x64 .f32) (M : Vec Ideal S1x256x1024 .f32) (r : Fin 256) (l : Fin 64) :
    k0_pay19 (F := Ideal) (k0_pay17 x1) K M V (ix3 0 r l) = att (fun k : Fin 1024 => ∑ d : Fin 64, x1 (ix3 0 r d) * K (ix3 0 k d)) (fun k => M (ix3 0 r k)) (fun k => V (ix3 0 k l)) := by
  pointwise [k0_pay19, k0_pay17]
  rfl

theorem pay20_at (x1 : Vec Ideal S1x256x64 .f32) (K V : Vec Ideal S1x1536x64 .f32) (M : Vec Ideal S1x256x1536 .f32) (r : Fin 256) (l : Fin 64) :
    k0_pay20 (F := Ideal) (k0_pay17 x1) K M V (ix3 0 r l) = att (fun k : Fin 1536 => ∑ d : Fin 64, x1 (ix3 0 r d) * K (ix3 0 k d)) (fun k => M (ix3 0 r k)) (fun k => V (ix3 0 k l)) := by
  pointwise [k0_pay20, k0_pay17]
  rfl

theorem pay21_at (x1 : Vec Ideal S1x256x64 .f32) (K V : Vec Ideal S1x2048x64 .f32) (M : Vec Ideal S1x256x2048 .f32) (r : Fin 256) (l : Fin 64) :
    k0_pay21 (F := Ideal) (k0_pay17 x1) K M V (ix3 0 r l) = att (fun k : Fin 2048 => ∑ d : Fin 64, x1 (ix3 0 r d) * K (ix3 0 k d)) (fun k => M (ix3 0 r k)) (fun k => V (ix3 0 k l)) := by
  pointwise [k0_pay21, k0_pay17]
  rfl

theorem pay1_at (x1 : Vec Ideal S1x256x64 .f32) (K V : Vec Ideal S1x384x64 .f32) (M : Vec Ideal S1x256x384 .f32) (r : Fin 256) (l : Fin 64) :
    k0_pay1 (F := Ideal) (k0_pay23 (k0_pay17 x1) K M) (k0_pay24 (k0_pay17 x1) K M) (k0_pay25 V) (constant S256x64 .f32 0x00000000#32) (ix3 0 r l)
      = att (fun k : Fin 384 => ∑ d : Fin 64, x1 (ix3 0 r d) * K (ix3 0 k d)) (fun k => M (ix3 0 r k)) (fun k => V (ix3 0 k l)) := by
  pointwise [k0_pay1, k0_pay23, k0_pay24, k0_pay25, k0_pay22, k0_pay17]
  rfl

/-- A window of a vector read at an index is the vector at the index the offset moves it to. -/
theorem window_at {F : FTy → Type} [FloatOps F] {s : Shape} {e : EltTy} (x : Vec F s e) (off size : Fin s.rank → ℕ) (inb : ∀ a, off a + size a ≤ s.size a)
    (y : (Rect.unit (s := s) off size inb).shape.Idx) (z : s.Idx) (hz : ∀ a, off a + (y a).val = (z a).val) : VecWindow.window x off size inb y = x z :=
  congrArg x (funext fun a => Fin.ext (by rw [← hz a]; show off a + 1 * (y a).val = _; rw [one_mul]))

variable (m : (ℓ : Loc nD τ sig) → Buf (Elt Ideal) ℓ)

theorem idx0 : ∀ t : Fin grid0.N, t.val < 8 → win0_0.index t 0 = t.val ∧ win0_0.index t 1 = 0 := by decide +kernel
theorem idx1 : ∀ t : Fin grid0.N, win0_1.index t 0 = t.val / 8 ∧ win0_1.index t 1 = t.val % 8 ∧ win0_1.index t 2 = 0 := by decide +kernel
theorem idx2 : ∀ t : Fin grid0.N, win0_2.index t 0 = t.val / 8 ∧ win0_2.index t 1 = 0 ∧ win0_2.index t 2 = 0 := by decide +kernel
theorem idx3 : ∀ t : Fin grid0.N, win0_3.index t 0 = t.val / 8 ∧ win0_3.index t 1 = 0 ∧ win0_3.index t 2 = 0 := by decide +kernel

/-- The importance block of row block `a` holds its 256 rows. -/
theorem iblk0_at (c : Dev nD) (a : Fin 8) (r : Fin 256) (k : Fin 512) (R : Fin 2048) (hR : R.val = 256 * a.val + r.val) :
    (iblk m c 0 (pt a) : Vec Ideal S256x512 .f32) (ix2 r k) = m ((c.tc : Thread nD τ).loc main_arg0) (ix2 R k) := by
  obtain ⟨h0, h1⟩ := idx0 (pt a) a.isLt
  unfold iblk
  rw [View.read_apply]
  show V m c main_arg0 _ = m (c.tc.loc main_arg0) _
  unfold V
  congr 1
  funext b
  apply Fin.ext
  match b with
  | ⟨0, _⟩ => show win0_0.index (pt a) 0 * 256 + 1 * r.val = R.val; rw [h0, hR]; show a.val * 256 + 1 * r.val = _; omega
  | ⟨1, _⟩ => show win0_0.index (pt a) 1 * 512 + 1 * k.val = k.val; rw [h1]; omega

/-- The query block of a point holds its head's 256 rows. -/
theorem iblk1_at (c : Dev nD) (t : Fin cfg0.N) (r : Fin 256) (d : Fin 64) (h : Fin 12) (R : Fin 2048) (hh : h.val = t.val / 8) (hR : R.val = 256 * (t.val % 8) + r.val) :
    (iblk m c 1 t : Vec Ideal S1x256x64 .f32) (ix3 0 r d) = m ((c.tc : Thread nD τ).loc main_arg1) (ix3 h R d) := by
  obtain ⟨h0, h1, h2⟩ := idx1 t
  unfold iblk
  rw [View.read_apply]
  show V m c main_arg1 _ = m (c.tc.loc main_arg1) _
  unfold V
  congr 1
  funext b
  apply Fin.ext
  match b with
  | ⟨0, _⟩ => show win0_1.index t 0 * 1 + 1 * 0 = h.val; rw [h0, hh]; omega
  | ⟨1, _⟩ => show win0_1.index t 1 * 256 + 1 * r.val = R.val; rw [h1, hR]; omega
  | ⟨2, _⟩ => show win0_1.index t 2 * 64 + 1 * d.val = d.val; rw [h2]; omega

/-- The key block of a point is its head's keys. -/
theorem iblk2_at (c : Dev nD) (t : Fin cfg0.N) (k : Fin 2048) (d : Fin 64) (h : Fin 12) (hh : h.val = t.val / 8) :
    (iblk m c 2 t : Vec Ideal S1x2048x64 .f32) (ix3 0 k d) = m ((c.tc : Thread nD τ).loc main_arg2) (ix3 h k d) := by
  obtain ⟨h0, h1, h2⟩ := idx2 t
  unfold iblk
  rw [View.read_apply]
  show V m c main_arg2 _ = m (c.tc.loc main_arg2) _
  unfold V
  congr 1
  funext b
  apply Fin.ext
  match b with
  | ⟨0, _⟩ => show win0_2.index t 0 * 1 + 1 * 0 = h.val; rw [h0, hh]; omega
  | ⟨1, _⟩ => show win0_2.index t 1 * 2048 + 1 * k.val = k.val; rw [h1]; omega
  | ⟨2, _⟩ => show win0_2.index t 2 * 64 + 1 * d.val = d.val; rw [h2]; omega

/-- The value block of a point is its head's values. -/
theorem iblk3_at (c : Dev nD) (t : Fin cfg0.N) (k : Fin 2048) (d : Fin 64) (h : Fin 12) (hh : h.val = t.val / 8) :
    (iblk m c 3 t : Vec Ideal S1x2048x64 .f32) (ix3 0 k d) = m ((c.tc : Thread nD τ).loc main_arg3) (ix3 h k d) := by
  obtain ⟨h0, h1, h2⟩ := idx3 t
  unfold iblk
  rw [View.read_apply]
  show V m c main_arg3 _ = m (c.tc.loc main_arg3) _
  unfold V
  congr 1
  funext b
  apply Fin.ext
  match b with
  | ⟨0, _⟩ => show win0_3.index t 0 * 1 + 1 * 0 = h.val; rw [h0, hh]; omega
  | ⟨1, _⟩ => show win0_3.index t 1 * 2048 + 1 * k.val = k.val; rw [h1]; omega
  | ⟨2, _⟩ => show win0_3.index t 2 * 64 + 1 * d.val = d.val; rw [h2]; omega

/-- The score of a query row against a key. -/
def score (q k : Vec Ideal S12x2048x64 .f32) (h : Fin 12) (R j : Fin 2048) : EReal := ∑ d : Fin 64, q (ix3 h R d) * k (ix3 h j d)

/-- The keys the selected-block branch admits for a row. -/
def seen (σ : Fin 4 → Fin 512) (R k : Fin 2048) : Prop := (k.val / 4 = R.val / 4 ∨ ∃ j, (σ j).val = k.val / 4) ∧ k.val ≤ R.val

instance (σ : Fin 4 → Fin 512) (R : Fin 2048) : DecidablePred (seen σ R) := fun k => by unfold seen; infer_instance

/-- The selected-block attention the kernel writes, entry by entry. -/
theorem fineAt_at (c : Dev nD) (t : Fin cfg0.N) (r : Fin 256) (l : Fin 64) (h : Fin 12) (R : Fin 2048) (hh : h.val = t.val / 8)
    (hR : R.val = 256 * (t.val % 8) + r.val) (σ : Fin 4 → Fin 512) (hσ : Rounds4 (fun k : Fin 512 => m ((c.tc : Thread nD τ).loc main_arg0) (ix2 R k)) σ) :
    fineAt m c t (ix3 0 r l) = att (score (m ((c.tc : Thread nD τ).loc main_arg1)) (m ((c.tc : Thread nD τ).loc main_arg2)) h R)
      (fun k => if seen σ R k then 1 else 0) (fun k => m ((c.tc : Thread nD τ).loc main_arg3) (ix3 h k l)) := by
  have ha : t.val % 8 < 8 := Nat.mod_lt _ (by norm_num)
  have hr := r.isLt
  have key : ∀ (w : ℕ) (hw : 256 * (t.val % 8 + 1) ≤ w) (hw2 : w ≤ 2048) (s M v : Fin w → EReal)
      (hs : ∀ k : Fin w, s k = ∑ d : Fin 64, @HMul.hMul EReal EReal EReal _ ((iblk m c 1 t : Vec Ideal S1x256x64 .f32) (ix3 0 r d)) ((iblk m c 2 t : Vec Ideal S1x2048x64 .f32) (ix3 0 (k.castLE hw2) d)))
      (hM : ∀ k : Fin w, M k = biasAll m c (ix3 (⟨t.val % 8, ha⟩ : Fin 8) r (k.castLE hw2)))
      (hv : ∀ k : Fin w, v k = (iblk m c 3 t : Vec Ideal S1x2048x64 .f32) (ix3 0 (k.castLE hw2) l)),
      att s M v = att (score (m ((c.tc : Thread nD τ).loc main_arg1)) (m ((c.tc : Thread nD τ).loc main_arg2)) h R)
        (fun k => if seen σ R k then 1 else 0) (fun k => m ((c.tc : Thread nD τ).loc main_arg3) (ix3 h k l)) := by
    intro w hw hw2 s M v hs hM hv
    have hc : ∀ k : Fin w, (⟨0 + k.val, by have := k.isLt; omega⟩ : Fin 2048) = k.castLE hw2 := fun k => Fin.ext (Nat.zero_add _)
    refine att_window 0 (by omega) _ _ _ _ _ _ (fun k => ?_) (fun k => ?_) (fun k => ?_) (fun j hj => ?_)
    · rw [hs, hc]
      exact Finset.sum_congr rfl fun d _ => by rw [iblk1_at m c t r d h R hh hR, iblk2_at m c t _ d h hh]
    · rw [hM, hc]
      show biasPay (grid0.coords (pt ⟨t.val % 8, ha⟩)) (iblk m c 0 (pt ⟨t.val % 8, ha⟩)) (ix3 0 r (k.castLE hw2)) = _
      rw [biasPay_at _ ⟨t.val % 8, ha⟩ (by rw [coords_1]; exact Nat.mod_eq_of_lt ha) _ r _ σ (by
        have e : (fun k : Fin 512 => (iblk m c 0 (pt ⟨t.val % 8, ha⟩) : Vec Ideal S256x512 .f32) (ix2 r k)) = fun k : Fin 512 => m ((c.tc : Thread nD τ).loc main_arg0) (ix2 R k) :=
          funext fun k => iblk0_at m c _ r k R hR
        rw [e]; exact hσ)]
      exact if_congr (by unfold seen; rw [hR]) rfl rfl
    · rw [hv, hc]
      exact iblk3_at m c t _ l h hh
    · refine if_neg fun hs => ?_
      have := hs.2
      have := j.isLt
      omega
  have hb : ((grid0.coords t) 1).val = t.val % 8 := coords_1 t
  unfold fineAt fineOut
  have hK : ∀ (w : ℕ) (hw2 : w ≤ 2048) (k : Fin w) (d : Fin 64) (a : Fin 3), (![0, 0, 0] : Fin 3 → ℕ) a + ((ix3 (0 : Fin 1) k d : Shape.Idx _) a).val = ((ix3 (0 : Fin 1) (k.castLE hw2) d : Shape.Idx _) a).val := by
    intro w hw2 k d a
    match a with
    | ⟨0, _⟩ => rfl
    | ⟨1, _⟩ => exact Nat.zero_add _
    | ⟨2, _⟩ => exact Nat.zero_add _
  have hB : ∀ (w : ℕ) (hw2 : w ≤ 2048) (k : Fin w) (a : Fin 3), (![((grid0.coords t) 1).val, 0, 0] : Fin 3 → ℕ) a + ((ix3 (0 : Fin 1) r k : Shape.Idx _) a).val = ((ix3 (⟨t.val % 8, ha⟩ : Fin 8) r (k.castLE hw2) : Shape.Idx _) a).val := by
    intro w hw2 k a
    match a with
    | ⟨0, _⟩ => exact hb
    | ⟨1, _⟩ => exact Nat.zero_add _
    | ⟨2, _⟩ => exact Nat.zero_add _
  by_cases h3 : k0_cond3 (grid0.coords t) = 1#1
  · rw [dif_pos h3, pay18_at]
    have h3' := (cond3_iff t).mp h3
    refine key 512 (by omega) (by norm_num) _ _ _ (fun k => Finset.sum_congr rfl fun d _ => congrArg _ (window_at _ _ _ _ _ _ (hK 512 (by norm_num) k d))) (fun k => window_at _ _ _ _ _ _ ?_) (fun k => window_at _ _ _ _ _ _ (hK 512 (by norm_num) k l))
    exact fun a => (congrArg (· + _) (congrFun (k0_off2_eq _) a)).trans (hB 512 (by norm_num) k a)
  have n3 : ¬ t.val % 8 ≤ 1 := fun hx => h3 ((cond3_iff t).mpr hx)
  rw [dif_neg h3]
  by_cases h4 : k0_cond4 (grid0.coords t) = 1#1
  · rw [dif_pos h4, pay19_at]
    have h4' := (cond4_iff t).mp h4
    refine key 1024 (by omega) (by norm_num) _ _ _ (fun k => Finset.sum_congr rfl fun d _ => congrArg _ (window_at _ _ _ _ _ _ (hK 1024 (by norm_num) k d))) (fun k => window_at _ _ _ _ _ _ ?_) (fun k => window_at _ _ _ _ _ _ (hK 1024 (by norm_num) k l))
    exact fun a => (congrArg (· + _) (congrFun (k0_off3_eq _) a)).trans (hB 1024 (by norm_num) k a)
  have n4 : ¬ (2 ≤ t.val % 8 ∧ t.val % 8 ≤ 3) := fun hx => h4 ((cond4_iff t).mpr hx)
  rw [dif_neg h4]
  by_cases h5 : k0_cond5 (grid0.coords t) = 1#1
  · rw [dif_pos h5, pay20_at]
    have h5' := (cond5_iff t).mp h5
    refine key 1536 (by omega) (by norm_num) _ _ _ (fun k => Finset.sum_congr rfl fun d _ => congrArg _ (window_at _ _ _ _ _ _ (hK 1536 (by norm_num) k d))) (fun k => window_at _ _ _ _ _ _ ?_) (fun k => window_at _ _ _ _ _ _ (hK 1536 (by norm_num) k l))
    exact fun a => (congrArg (· + _) (congrFun (k0_off4_eq _) a)).trans (hB 1536 (by norm_num) k a)
  have n5 : ¬ (4 ≤ t.val % 8 ∧ t.val % 8 ≤ 5) := fun hx => h5 ((cond5_iff t).mpr hx)
  have h6 : k0_cond6 (grid0.coords t) = 1#1 := (cond6_iff t).mpr (by omega)
  rw [dif_neg h5, dif_pos h6, pay21_at]
  refine key 2048 (by omega) le_rfl _ _ _ (fun k => Finset.sum_congr rfl fun d _ => congrArg _ (window_at _ _ _ _ _ _ (hK 2048 le_rfl k d))) (fun k => window_at _ _ _ _ _ _ ?_) (fun k => window_at _ _ _ _ _ _ (hK 2048 le_rfl k l))
  exact fun a => (congrArg (· + _) (congrFun (k0_off5_eq _) a)).trans (hB 2048 le_rfl k a)

/-- Where the sliding window's keys start. -/
theorem off6_at : ∀ t : Fin grid0.N, ∀ a : Fin 3, k0_off6 (grid0.coords t) a = (![0, 256 * (t.val % 8) - 128, 0] : Fin 3 → ℕ) a := by decide +kernel

/-- The first window mask is the one of row block 0. -/
theorem wmAll_0 (r : Fin 256) (k : Fin 384) : wmAll (F := Ideal) (ix3 0 r k) = k0_pay14 (F := Ideal) (ix3 0 r k) := by
  have hr := r.isLt
  have hk := k.isLt
  unfold wmAll wmPut VecWindow.put
  rw [dif_neg (fun hh => absurd (hh 0).1 (by show ¬ (1 ≤ 0); omega)), dif_pos (by
    intro a
    match a with
    | ⟨0, _⟩ => exact ⟨le_rfl, by show 0 < 0 + 1; omega⟩
    | ⟨1, _⟩ => exact ⟨Nat.zero_le _, by show r.val < 0 + 256; omega⟩
    | ⟨2, _⟩ => exact ⟨Nat.zero_le _, by show k.val < 0 + 384; omega⟩)]
  refine congrArg _ (funext fun a => ?_)
  match a with
  | ⟨0, _⟩ => rfl
  | ⟨1, _⟩ => exact Fin.ext (Nat.sub_zero _)
  | ⟨2, _⟩ => exact Fin.ext (Nat.sub_zero _)

/-- The second window mask serves every later row block. -/
theorem wmAll_1 (r : Fin 256) (k : Fin 384) : wmAll (F := Ideal) (ix3 1 r k) = k0_pay15 (F := Ideal) (ix3 0 r k) := by
  have hr := r.isLt
  have hk := k.isLt
  unfold wmAll wmPut VecWindow.put
  rw [dif_pos (by
    intro a
    match a with
    | ⟨0, _⟩ => exact ⟨le_rfl, by show 1 < 1 + 1; omega⟩
    | ⟨1, _⟩ => exact ⟨Nat.zero_le _, by show r.val < 0 + 256; omega⟩
    | ⟨2, _⟩ => exact ⟨Nat.zero_le _, by show k.val < 0 + 384; omega⟩)]
  refine congrArg _ (funext fun a => ?_)
  match a with
  | ⟨0, _⟩ => rfl
  | ⟨1, _⟩ => exact Fin.ext (Nat.sub_zero _)
  | ⟨2, _⟩ => exact Fin.ext (Nat.sub_zero _)

/-- The sliding-window attention the kernel writes, entry by entry. -/
theorem winAt_at (c : Dev nD) (t : Fin cfg0.N) (r : Fin 256) (l : Fin 64) (h : Fin 12) (R : Fin 2048) (hh : h.val = t.val / 8)
    (hR : R.val = 256 * (t.val % 8) + r.val) :
    winAt m c t (ix3 0 r l) = att (score (m ((c.tc : Thread nD τ).loc main_arg1)) (m ((c.tc : Thread nD τ).loc main_arg2)) h R)
      (fun k => if k.val ≤ R.val ∧ R.val < k.val + 32 then 1 else 0) (fun k => m ((c.tc : Thread nD τ).loc main_arg3) (ix3 h k l)) := by
  have ha : t.val % 8 < 8 := Nat.mod_lt _ (by norm_num)
  have hr := r.isLt
  have hb : ((grid0.coords t) 1).val = t.val % 8 := coords_1 t
  have e7 : ∀ a : Fin 3, k0_off7 (grid0.coords t) a = (![min (t.val % 8) 1, 0, 0] : Fin 3 → ℕ) a := fun a => by rw [k0_off7_eq, hb]
  unfold winAt winOut
  rw [pay1_at]
  have hK : ∀ (k : Fin 384) (d : Fin 64) (a : Fin 3), k0_off6 (grid0.coords t) a + ((ix3 (0 : Fin 1) k d : Shape.Idx _) a).val
      = ((ix3 (0 : Fin 1) (⟨256 * (t.val % 8) - 128 + k.val, by have := k.isLt; omega⟩ : Fin 2048) d : Shape.Idx _) a).val := by
    intro k d a
    rw [off6_at t a]
    match a with
    | ⟨0, _⟩ => rfl
    | ⟨1, _⟩ => rfl
    | ⟨2, _⟩ => exact Nat.zero_add _
  refine att_window (256 * (t.val % 8) - 128) (by omega) _ _ _ _ _ _ (fun k => ?_) (fun k => ?_) (fun k => ?_) (fun j hj => ?_)
  · exact Finset.sum_congr rfl fun d _ => by
      rw [window_at _ _ _ _ _ _ (hK k d), iblk1_at m c t r d h R hh hR, iblk2_at m c t _ d h hh]
  · have hk := k.isLt
    by_cases h0 : t.val % 8 = 0
    · rw [window_at _ _ _ _ _ (ix3 (0 : Fin 2) r k) (by
        intro a
        rw [e7 a, h0]
        match a with
        | ⟨0, _⟩ => rfl
        | ⟨1, _⟩ => exact Nat.zero_add _
        | ⟨2, _⟩ => exact Nat.zero_add _), wmAll_0, pay14_at]
      exact if_congr (by show _ ↔ 256 * (t.val % 8) - 128 + k.val ≤ R.val ∧ R.val < 256 * (t.val % 8) - 128 + k.val + 32; omega) rfl rfl
    · rw [window_at _ _ _ _ _ (ix3 (1 : Fin 2) r k) (by
        intro a
        rw [e7 a, show min (t.val % 8) 1 = 1 by omega]
        match a with
        | ⟨0, _⟩ => rfl
        | ⟨1, _⟩ => exact Nat.zero_add _
        | ⟨2, _⟩ => exact Nat.zero_add _), wmAll_1, pay15_at]
      exact if_congr (by show _ ↔ 256 * (t.val % 8) - 128 + k.val ≤ R.val ∧ R.val < 256 * (t.val % 8) - 128 + k.val + 32; omega) rfl rfl
  · rw [window_at _ _ _ _ _ _ (hK k l)]
    exact iblk3_at m c t _ l h hh
  · refine if_neg fun hs => ?_
    have := j.isLt
    omega

end Cert.FineIdeal.Hand

end
-- ==== Proof.CattnBody.lean ====
module

public import proofs.«01_k».proof.Proof.Gen.CattnIdeal.Frame
public import proofs.«01_k».proof.Proof.Gen.CattnIdeal.Skeleton
public import Idealize.ShloMosaic.Lib.Claim
public import Idealize.ShloMosaic.Lib.Exec
public import Idealize.ShloMosaic.Lib.VecWindow
public import Idealize.ShloMosaic.Lib.Pointwise

@[expose] public section

set_option maxRecDepth 16384

noncomputable section

namespace Cert.CattnIdeal.Hand

open Cert.CattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, as functions of the blocks it reads -/

/-- The mask scratch after the point: one slot stored while the first head runs, unchanged afterwards. -/
def biasNext (i : grid0.Coords) (b : Vec F S8x256x512 .f32) : Vec F S8x256x512 .f32 :=
  if k0_cond1 i = 1#1 then VecWindow.put b (k0_off1 i) S1x256x512.size (k0_pay12 (F := F) i) else b

/-- The mask of the point's 256 query rows, read from its slot. -/
def biasAt (i : grid0.Coords) (b : Vec F S8x256x512 .f32) : Vec F S1x256x512 .f32 :=
  VecWindow.window b (k0_off2 i) S1x256x512.size (k0_off2_inb i)

/-- The accumulated attention after the point: the slot set by the first head and added to by the others. -/
def accNext (i : grid0.Coords) (p : FVec F S256x512 .f32) (a : Vec F S8x256x512 .f32) : Vec F S8x256x512 .f32 :=
  if h2 : k0_cond2 i = 1#1 then VecWindow.put a (k0_off3 i) S1x256x512.size (k0_pay2 (F := F) p)
  else if h3 : k0_cond3 i = 1#1 then
    VecWindow.put a (k0_off4 i) S1x256x512.size (k0_pay3 (F := F) p (VecWindow.window a (k0_off4 i) S1x256x512.size (k0_off4_inb i h3)))
  else a

/-- The compressed attention the point stores. -/
def coutOut (x0 : Vec F S1x256x64 .f32) (x1 x2 : Vec F S1x512x64 .f32) (x3 x4 : Vec F S1x1x64 .f32) (bb : Vec F S1x256x512 .f32) : Vec F S1x256x64 .f32 :=
  k0_pay1 (F := F) (k0_pay17 (F := F) x0 x1 x3 bb) (k0_pay18 (F := F) x0 x1 x3 bb) x4 x2

/-- The accumulated attention laid out by query row: row `256 n + r` is row `r` of slot `n`. -/
def impOf (a : Vec F S8x256x512 .f32) : Vec F S2048x512 .f32 := fun y =>
  a (ix3 (⟨(y 0).val / 256, by have h : (y 0).val < 2048 := (y 0).isLt; omega⟩ : Fin 8) (⟨(y 0).val % 256, Nat.mod_lt _ (by decide)⟩ : Fin 256) (⟨(y 1).val, (y 1).isLt⟩ : Fin 512))

/-- The importance block after the point: stored at the last point only. -/
def impNext (i : grid0.Coords) (a : Vec F S8x256x512 .f32) (d : Vec F S2048x512 .f32) : Vec F S2048x512 .f32 :=
  if k0_cond4 i = 1#1 then impOf a else d

/-! ## Reading what the run leaves -/

/-- A covered load inside the one store of the list reads what a load over any contents with that store put there would. -/
theorem readCov_inside {sg : RefSig} {κ : Kind} {sp : Space} {s : Shape} {e : EltTy} (v : View sg κ sp s e) (b : s.Idx → Elt F e)
    {off size off' size' : Fin s.rank → ℕ} (inb : ∀ a, off a + size a ≤ s.size a) (w : (Rect.unit off size inb).shape.Idx → Elt F e)
    (inb' : ∀ a, off' a + size' a ≤ s.size a) (h : ∀ a, off a ≤ off' a ∧ off' a + size' a ≤ off a + size a) :
    v.readCov [⟨Rect.unit off size inb, w⟩] (Rect.unit off' size' inb').toLoadRect = VecWindow.window (VecWindow.put b off size w) off' size' inb' := by
  rw [VecWindow.window_put_of_inside b off size off' size' inb' w h]
  rw [← VecWindow.window_put_of_inside (v.read (Elt F) v.junk) off size off' size' inb' w h]
  have e := View.read_writes_cons_put (Val := Elt F) v v.junk inb w [] rfl
  funext y
  exact congrFun e _

/-- Putting a slot into equal buffers gives equal buffers. -/
theorem put_slot (off : Fin 3 → ℕ) {b b' : Vec F S8x256x512 .f32} (p : Vec F S1x256x512 .f32) (h : b = b') :
    VecWindow.put b off S1x256x512.size p = VecWindow.put b' off S1x256x512.size p := by
  rw [h]

/-- A load at a unit-stride rectangle of a whole memref's contents reads the window of the values they stand for. -/
theorem readAt_win {sg : RefSig} {κ : Kind} {sp : Space} {s : Shape} {e : EltTy} (m : Memref sg κ sp s e) (hm : m.IsWhole) (x : s.Idx → Elt F e)
    {off size : Fin s.rank → ℕ} (inb : ∀ a, off a + size a ≤ s.size a) :
    m.view.readAt (Elt F) (Rect.unit off size inb).toLoadRect (hm.unread x) = VecWindow.window x off size inb := by
  rw [View.readAt_unit m.view (hm.unread x) inb rfl inb, hm.read_unread]

/-- A load of a whole memref's own sizes reads the values its contents stand for. -/
theorem readAt_all {sg : RefSig} {κ : Kind} {sp : Space} {s : Shape} {e : EltTy} (m : Memref sg κ sp s e) (hm : m.IsWhole) (x : s.Idx → Elt F e)
    {off : Fin s.rank → ℕ} (inb : ∀ a, off a + s.size a ≤ s.size a) :
    m.view.readAt (Elt F) (Rect.unit off s.size inb).toLoadRect (hm.unread x) = x := by
  rw [View.readAt_full, hm.read_unread]

/-- Putting 256 rows at row `k` into a 2048-row buffer, read at an index. -/
theorem put_rows (f : Vec F S2048x512 .f32) (k : ℕ) (w : Vec F S256x512 .f32) (y : S2048x512.Idx) :
    VecWindow.put f ![k, 0] S256x512.size w y
      = if h : k ≤ (y 0).val ∧ (y 0).val < k + 256 then w (ix2 (⟨(y 0).val - k, by omega⟩ : Fin 256) (⟨(y 1).val, (y 1).isLt⟩ : Fin 512)) else f y := by
  unfold VecWindow.put
  by_cases h : k ≤ (y 0).val ∧ (y 0).val < k + 256
  · have hh : ∀ a, (![k, 0] : Fin 2 → ℕ) a ≤ (y a).val ∧ (y a).val < (![k, 0] : Fin 2 → ℕ) a + S256x512.size a := by
      intro a
      fin_cases a
      · exact h
      · exact ⟨Nat.zero_le _, lt_of_lt_of_eq (y 1).isLt (Nat.zero_add _).symm⟩
    rw [dif_pos hh, dif_pos h]
    refine congrArg w ?_
    funext a
    fin_cases a
    · rfl
    · exact Fin.ext (Nat.sub_zero _)
  · rw [dif_neg h, dif_neg (fun hh => h (hh 0))]

/-- A slot of the accumulator as a 256-row matrix. -/
theorem slot_at (a : Vec F S8x256x512 .f32) (n : ℕ) (inb : ∀ d, (![n, 0, 0] : Fin 3 → ℕ) d + S1x256x512.size d ≤ S8x256x512.size d) (hn : n < 8) (r : Fin 256) (c : Fin 512) :
    k0_pay4 (F := F) (VecWindow.window a ![n, 0, 0] S1x256x512.size inb) (ix2 r c) = a (ix3 (⟨n, hn⟩ : Fin 8) r c) := by
  pointwise [k0_pay4]
  unfold VecWindow.window
  refine congrArg a ?_
  funext d
  fin_cases d
  · exact Fin.ext (by show n + 1 * 0 = n; omega)
  · exact Fin.ext (by show 0 + 1 * r.val = r.val; omega)
  · exact Fin.ext (by show 0 + 1 * c.val = c.val; omega)

/-- The combinations of the body's four branch conditions that occur. -/
def Cases (i : grid0.Coords) : Prop :=
  (k0_cond1 i = 1#1 ∧ k0_cond2 i = 1#1 ∧ ¬ k0_cond3 i = 1#1 ∧ ¬ k0_cond4 i = 1#1)
  ∨ (¬ k0_cond1 i = 1#1 ∧ ¬ k0_cond2 i = 1#1 ∧ k0_cond3 i = 1#1 ∧ ¬ k0_cond4 i = 1#1)
  ∨ (¬ k0_cond1 i = 1#1 ∧ ¬ k0_cond2 i = 1#1 ∧ k0_cond3 i = 1#1 ∧ k0_cond4 i = 1#1)

/-- The mask is stored during the first head's eight points only. -/
theorem cond1_iff : ∀ t : Fin grid0.N, k0_cond1 (grid0.coords t) = 1#1 ↔ t.val < 8 := by decide +kernel

/-- The first head sets the accumulator. -/
theorem cond2_iff : ∀ t : Fin grid0.N, k0_cond2 (grid0.coords t) = 1#1 ↔ t.val < 8 := by decide +kernel

/-- The later heads add to it. -/
theorem cond3_iff : ∀ t : Fin grid0.N, k0_cond3 (grid0.coords t) = 1#1 ↔ 8 ≤ t.val := by decide +kernel

/-- The importance block is stored at the last point. -/
theorem cond4_iff : ∀ t : Fin grid0.N, k0_cond4 (grid0.coords t) = 1#1 ↔ t.val = 95 := by decide +kernel

/-- Every grid point is in one of those cases. -/
theorem cases_all (t : Fin grid0.N) : Cases (grid0.coords t) := by
  unfold Cases
  rw [cond1_iff, cond2_iff, cond3_iff, cond4_iff]
  omega

/-- The eight slots stored one after another read as the accumulator by query row. -/
theorem read_imp {sg : RefSig} {κ : Kind} {sp : Space} (v : View sg κ sp S2048x512 .f32) (f : v.ty.Contents (Elt F)) (a : Vec F S8x256x512 .f32)
    (w0 w1 w2 w3 w4 w5 w6 w7 : Vec F S1x256x512 .f32)
    (h0 : w0 = VecWindow.window a ![0, 0, 0] S1x256x512.size inb_S8x256x512_S1x256x512_0_0_0)
    (h1 : w1 = VecWindow.window a ![1, 0, 0] S1x256x512.size inb_S8x256x512_S1x256x512_1_0_0)
    (h2 : w2 = VecWindow.window a ![2, 0, 0] S1x256x512.size inb_S8x256x512_S1x256x512_2_0_0)
    (h3 : w3 = VecWindow.window a ![3, 0, 0] S1x256x512.size inb_S8x256x512_S1x256x512_3_0_0)
    (h4 : w4 = VecWindow.window a ![4, 0, 0] S1x256x512.size inb_S8x256x512_S1x256x512_4_0_0)
    (h5 : w5 = VecWindow.window a ![5, 0, 0] S1x256x512.size inb_S8x256x512_S1x256x512_5_0_0)
    (h6 : w6 = VecWindow.window a ![6, 0, 0] S1x256x512.size inb_S8x256x512_S1x256x512_6_0_0)
    (h7 : w7 = VecWindow.window a ![7, 0, 0] S1x256x512.size inb_S8x256x512_S1x256x512_7_0_0) :
    v.read (Elt F) (v.writes (Elt F) f [⟨Rect.unit ![1792, 0] S256x512.size inb_S2048x512_S256x512_1792_0, k0_pay4 (F := F) w7⟩,
      ⟨Rect.unit ![1536, 0] S256x512.size inb_S2048x512_S256x512_1536_0, k0_pay11 (F := F) w6⟩,
      ⟨Rect.unit ![1280, 0] S256x512.size inb_S2048x512_S256x512_1280_0, k0_pay10 (F := F) w5⟩,
      ⟨Rect.unit ![1024, 0] S256x512.size inb_S2048x512_S256x512_1024_0, k0_pay9 (F := F) w4⟩,
      ⟨Rect.unit ![768, 0] S256x512.size inb_S2048x512_S256x512_768_0, k0_pay8 (F := F) w3⟩,
      ⟨Rect.unit ![512, 0] S256x512.size inb_S2048x512_S256x512_512_0, k0_pay7 (F := F) w2⟩,
      ⟨Rect.unit ![256, 0] S256x512.size inb_S2048x512_S256x512_256_0, k0_pay6 (F := F) w1⟩,
      ⟨Rect.unit ![0, 0] S256x512.size inb_S2048x512_S256x512_0_0, k0_pay5 (F := F) w0⟩]) = impOf a := by
  subst h0 h1 h2 h3 h4 h5 h6 h7
  rw [View.read_writes_cons_put (Val := Elt F) v f _ _ _ rfl, View.read_writes_cons_put (Val := Elt F) v f _ _ _ rfl,
    View.read_writes_cons_put (Val := Elt F) v f _ _ _ rfl, View.read_writes_cons_put (Val := Elt F) v f _ _ _ rfl,
    View.read_writes_cons_put (Val := Elt F) v f _ _ _ rfl, View.read_writes_cons_put (Val := Elt F) v f _ _ _ rfl,
    View.read_writes_cons_put (Val := Elt F) v f _ _ _ rfl, View.read_writes_cons_put (Val := Elt F) v f _ _ _ rfl]
  funext y
  have hy : (y 0).val < 2048 := (y 0).isLt
  have step : ∀ (n : ℕ) (hn : n < 8) (hk : 256 * n ≤ (y 0).val ∧ (y 0).val < 256 * n + 256) (hr : (y 0).val - 256 * n < 256),
      a (ix3 (⟨n, hn⟩ : Fin 8) (⟨(y 0).val - 256 * n, hr⟩ : Fin 256) (⟨(y 1).val, (y 1).isLt⟩ : Fin 512)) = impOf a y := by
    intro n hn hk hr
    unfold impOf
    refine congrArg a ?_
    funext d
    fin_cases d
    · exact Fin.ext (by show n = (y 0).val / 256; omega)
    · exact Fin.ext (by show (y 0).val - 256 * n = (y 0).val % 256; omega)
    · rfl
  rw [put_rows]
  split_ifs with g7
  · exact (slot_at a 7 _ (by decide) _ _).trans (step 7 (by decide) (by omega) (by omega))
  rw [put_rows]
  split_ifs with g6
  · exact (slot_at a 6 _ (by decide) _ _).trans (step 6 (by decide) (by omega) (by omega))
  rw [put_rows]
  split_ifs with g5
  · exact (slot_at a 5 _ (by decide) _ _).trans (step 5 (by decide) (by omega) (by omega))
  rw [put_rows]
  split_ifs with g4
  · exact (slot_at a 4 _ (by decide) _ _).trans (step 4 (by decide) (by omega) (by omega))
  rw [put_rows]
  split_ifs with g3
  · exact (slot_at a 3 _ (by decide) _ _).trans (step 3 (by decide) (by omega) (by omega))
  rw [put_rows]
  split_ifs with g2
  · exact (slot_at a 2 _ (by decide) _ _).trans (step 2 (by decide) (by omega) (by omega))
  rw [put_rows]
  split_ifs with g1
  · exact (slot_at a 1 _ (by decide) _ _).trans (step 1 (by decide) (by omega) (by omega))
  rw [put_rows]
  split_ifs with g0
  · exact (slot_at a 0 _ (by decide) _ _).trans (step 0 (by decide) (by omega) (by omega))
  exfalso; omega

/-- The attention payload of equal operands is equal. -/
theorem attn_congr {x0 x0' : Vec F S1x256x64 .f32} {x1 x1' : Vec F S1x512x64 .f32} {x3 x3' : Vec F S1x1x64 .f32} {b b' : Vec F S1x256x512 .f32}
    (h0 : x0 = x0') (h1 : x1 = x1') (h3 : x3 = x3') (hb : b = b') : k0_pay17 (F := F) x0 x1 x3 b = k0_pay17 (F := F) x0' x1' x3' b' := by
  rw [h0, h1, h3, hb]

/-- The compressed attention of equal operands is equal. -/
theorem cout_congr {x0 x0' : Vec F S1x256x64 .f32} {x1 x1' x2 x2' : Vec F S1x512x64 .f32} {x3 x3' x4 x4' : Vec F S1x1x64 .f32} {b b' : Vec F S1x256x512 .f32}
    (h0 : x0 = x0') (h1 : x1 = x1') (h2 : x2 = x2') (h3 : x3 = x3') (h4 : x4 = x4') (hb : b = b') :
    k0_pay1 (F := F) (k0_pay17 (F := F) x0 x1 x3 b) (k0_pay18 (F := F) x0 x1 x3 b) x4 x2 = coutOut x0' x1' x2' x3' x4' b' := by
  rw [h0, h1, h2, h3, h4, hb]; rfl

/-- A load of the mask slot stored at this point reads the mask just computed. -/
theorem bias_fresh {i : grid0.Coords} (hc1 : k0_cond1 i = 1#1) (arg9 : Memref sig .tc .vmem S8x256x512 .f32) (b0 : Vec F S8x256x512 .f32) :
    arg9.view.readCov [⟨Rect.unit (k0_off1 i) S1x256x512.size (k0_off1_inb i hc1), k0_pay12 (F := F) i⟩]
      (Rect.unit (s := S8x256x512) (k0_off2 i) S1x256x512.size (k0_off2_inb i)).toLoadRect = biasAt i (biasNext i b0) := by
  rw [biasAt, biasNext, if_pos hc1]
  exact readCov_inside arg9.view b0 (k0_off1_inb i hc1) (k0_pay12 (F := F) i) (k0_off2_inb i) fun a => ⟨le_refl _, le_refl _⟩

/-- A load of a mask slot that this point does not store reads what was there. -/
theorem bias_old {i : grid0.Coords} (hc1 : ¬ k0_cond1 i = 1#1) (arg9 : Memref sig .tc .vmem S8x256x512 .f32) (harg9 : arg9.IsWhole) (b0 : Vec F S8x256x512 .f32) :
    View.readAt (Elt F) arg9.view (Rect.unit (s := S8x256x512) (k0_off2 i) S1x256x512.size (k0_off2_inb i)).toLoadRect (harg9.unread b0) = biasAt i (biasNext i b0) := by
  rw [biasAt, biasNext, if_neg hc1]
  exact readAt_win arg9 harg9 b0 _

/-- The accumulator after the first head's store. -/
theorem acc_set {i : grid0.Coords} (hc2 : k0_cond2 i = 1#1) (arg10 : Memref sig .tc .vmem S8x256x512 .f32) (harg10 : arg10.IsWhole) (a0 : Vec F S8x256x512 .f32)
    {p p' : FVec F S256x512 .f32} (hp : p = p') :
    arg10.view.read (Elt F) (arg10.view.writes (Elt F) (harg10.unread a0) [⟨Rect.unit (k0_off3 i) S1x256x512.size (k0_off3_inb i hc2), k0_pay2 (F := F) p⟩]) = accNext i p' a0 := by
  subst hp
  rw [accNext, dif_pos hc2]
  refine (View.read_writes_cons_put (Val := Elt F) arg10.view _ (k0_off3_inb i hc2) _ [] rfl).trans ?_
  exact put_slot (k0_off3 i) _ (harg10.read_unread a0)

/-- The accumulator after a later head's store. -/
theorem acc_add {i : grid0.Coords} (hc2 : ¬ k0_cond2 i = 1#1) (hc3 : k0_cond3 i = 1#1) (arg10 : Memref sig .tc .vmem S8x256x512 .f32) (harg10 : arg10.IsWhole) (a0 : Vec F S8x256x512 .f32)
    {p p' : FVec F S256x512 .f32} (hp : p = p') :
    arg10.view.read (Elt F) (arg10.view.writes (Elt F) (harg10.unread a0) [⟨Rect.unit (k0_off4 i) S1x256x512.size (k0_off4_inb i hc3), k0_pay3 (F := F) p
      (View.readAt (Elt F) arg10.view (Rect.unit (s := S8x256x512) (k0_off4 i) S1x256x512.size (k0_off4_inb i hc3)).toLoadRect (harg10.unread a0))⟩]) = accNext i p' a0 := by
  subst hp
  rw [accNext, dif_neg hc2, dif_pos hc3, readAt_win arg10 harg10 a0 (k0_off4_inb i hc3)]
  refine (View.read_writes_cons_put (Val := Elt F) arg10.view _ (k0_off4_inb i hc3) _ [] rfl).trans ?_
  exact put_slot (k0_off4 i) _ (harg10.read_unread a0)

/-- A load of a slot from contents that read as `a` is the window of `a`. -/
theorem slot_read (arg10 : Memref sig .tc .vmem S8x256x512 .f32) {f : arg10.view.ty.Contents (Elt F)} {a : Vec F S8x256x512 .f32} (hf : arg10.view.read (Elt F) f = a)
    {off : Fin 3 → ℕ} (inb : ∀ d, off d + S1x256x512.size d ≤ S8x256x512.size d) :
    View.readAt (Elt F) arg10.view (Rect.unit (s := S8x256x512) off S1x256x512.size inb).toLoadRect f = VecWindow.window a off S1x256x512.size inb := by
  rw [View.readAt_unit arg10.view f inb rfl inb, hf]

set_option maxHeartbeats 4000000 in
/-- The body at any grid point: from the five input blocks and the two scratch buffers it leaves the compressed
    attention in its output block, the two scratch buffers updated, and at the last point the importance. -/
theorem bodyRun (c : Dev nD) (i : grid0.Coords) (hi : Cases i) (arg2 : Memref sig .tc .vmem S1x256x64 .f32) (harg2 : arg2.IsWhole) (arg3 : Memref sig .tc .vmem S1x512x64 .f32) (harg3 : arg3.IsWhole) (arg4 : Memref sig .tc .vmem S1x512x64 .f32) (harg4 : arg4.IsWhole) (arg5 : Memref sig .tc .vmem S1x1x64 .f32) (harg5 : arg5.IsWhole) (arg6 : Memref sig .tc .vmem S1x1x64 .f32) (harg6 : arg6.IsWhole) (arg7 : Memref sig .tc .vmem S1x256x64 .f32) (harg7 : arg7.IsWhole) (arg8 : Memref sig .tc .vmem S2048x512 .f32) (harg8 : arg8.IsWhole) (arg9 : Memref sig .tc .vmem S8x256x512 .f32) (harg9 : arg9.IsWhole) (arg10 : Memref sig .tc .vmem S8x256x512 .f32) (harg10 : arg10.IsWhole)
    (x0 : Vec F S1x256x64 .f32) (x1 x2 : Vec F S1x512x64 .f32) (x3 x4 : Vec F S1x1x64 .f32) (d6 : Vec F S2048x512 .f32) (b0 a0 : Vec F S8x256x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d6 ∗ owns (c : Thread nD τ) arg9 fullShare b0 ∗ owns (c : Thread nD τ) arg10 fullShare a0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
                ∗ owns (c : Thread nD τ) arg7 fullShare (coutOut x0 x1 x2 x3 x4 (biasAt i (biasNext i b0)))
                ∗ owns (c : Thread nD τ) arg8 fullShare (impNext i (accNext i (k0_pay17 (F := F) x0 x1 x3 (biasAt i (biasNext i b0))) a0) d6)
                ∗ owns (c : Thread nD τ) arg9 fullShare (biasNext i b0) ∗ owns (c : Thread nD τ) arg10 fullShare (accNext i (k0_pay17 (F := F) x0 x1 x3 (biasAt i (biasNext i b0))) a0)) -∗ K ⟨⟩))
          ⊢ wp frame (wpE (defs₀ (F := F)) Variants.none c none) E (cc0__cattn_kernel i arg2 harg2 arg3 harg3 arg4 harg4 arg5 harg5 arg6 harg6 arg7 harg7 arg8 harg8 arg9 harg9 arg10 harg10) K := by
    intro E K
    simp only [cc0__cattn_kernel_eq_skeleton]; unfold cc0__cattn_kernel_skel
    simp only [k0_part1_eq_skeleton, k0_part2_eq_skeleton]; unfold k0_part1_skel k0_part2_skel
    unfold owns
    rcases hi with ⟨hc1, hc2, hc3, hc4⟩ | ⟨hc1, hc2, hc3, hc4⟩ | ⟨hc1, hc2, hc3, hc4⟩
    all_goals
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hs0, HS0⟩, ⟨%fs1, %hs1, HS1⟩, Hk⟩
      obtain rfl := harg2.eq_unread hf0; obtain rfl := harg3.eq_unread hf1; obtain rfl := harg4.eq_unread hf2; obtain rfl := harg5.eq_unread hf3
      obtain rfl := harg6.eq_unread hf4; obtain rfl := harg8.eq_unread hf6
      obtain rfl := harg9.eq_unread hs0; obtain rfl := harg10.eq_unread hs1
      sl_exec (disch := first | sl_exact hc1 | sl_exact hc2 | sl_exact hc3 | sl_exact hc4)
      sl_step
      have hx0 := readAt_all arg2 harg2 x0 inb_S1x256x64_S1x256x64_0_0_0
      have hx1 := readAt_all arg3 harg3 x1 inb_S1x512x64_S1x512x64_0_0_0
      have hx2 := readAt_all arg4 harg4 x2 inb_S1x512x64_S1x512x64_0_0_0
      have hx3 := readAt_all arg5 harg5 x3 inb_S1x1x64_S1x1x64_0_0_0
      have hx4 := readAt_all arg6 harg6 x4 inb_S1x1x64_S1x1x64_0_0_0
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; swap; · iexact H5
        ipureintro
        refine (View.read_writes_full _ _ inb_S1x256x64_S1x256x64_0_0_0 _ _).trans ?_
        first
          | exact cout_congr hx0 hx1 hx2 hx3 hx4 (bias_old hc1 arg9 harg9 b0)
          | exact cout_congr hx0 hx1 hx2 hx3 hx4 (bias_fresh hc1 arg9 b0)
      isplitl [H6]
      · iexists _; isplitr; swap; · iexact H6
        ipureintro
        first
          | rw [impNext, if_neg hc4]; exact harg8.read_unread _
          | rw [impNext, if_pos hc4]
            have hA := acc_add (F := F) hc2 hc3 arg10 harg10 a0 (attn_congr hx0 hx1 hx3 (bias_old hc1 arg9 harg9 b0))
            exact read_imp arg8.view _ _ _ _ _ _ _ _ _ _ (slot_read arg10 hA inb_S8x256x512_S1x256x512_0_0_0) (slot_read arg10 hA inb_S8x256x512_S1x256x512_1_0_0)
              (slot_read arg10 hA inb_S8x256x512_S1x256x512_2_0_0) (slot_read arg10 hA inb_S8x256x512_S1x256x512_3_0_0)
              (slot_read arg10 hA inb_S8x256x512_S1x256x512_4_0_0) (slot_read arg10 hA inb_S8x256x512_S1x256x512_5_0_0)
              (slot_read arg10 hA inb_S8x256x512_S1x256x512_6_0_0) (slot_read arg10 hA inb_S8x256x512_S1x256x512_7_0_0)
      isplitl [HS0]
      · iexists _; isplitr; swap; · iexact HS0
        ipureintro
        first
          | rw [biasNext, if_neg hc1]; exact harg9.read_unread _
          | rw [biasNext, if_pos hc1]
            refine (View.read_writes_cons_put (Val := Elt F) arg9.view _ (k0_off1_inb i hc1) _ [] rfl).trans ?_
            exact put_slot (k0_off1 i) _ (harg9.read_unread b0)
      iexists _; isplitr; swap; · iexact HS1
      ipureintro
      first
        | exact acc_set hc2 arg10 harg10 a0 (attn_congr hx0 hx1 hx3 (bias_fresh hc1 arg9 b0))
        | exact acc_add hc2 hc3 arg10 harg10 a0 (attn_congr hx0 hx1 hx3 (bias_old hc1 arg9 harg9 b0))

end Cert.CattnIdeal.Hand

end
-- ==== Proof.CattnFrame.lean ====
module

public import proofs.«01_k».proof.Proof.CattnBody
public import Idealize.ShloMosaic.Lib.Claim

@[expose] public section

set_option maxRecDepth 16384

noncomputable section

namespace Cert.CattnIdeal.Hand

open Cert.CattnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The grid point numbered `n` (the first one for a number beyond the grid). -/
def ptn (n : ℕ) : Fin cfg0.N := if h : n < 96 then ⟨n, by rw [show cfg0.N = 96 from N_0]; exact h⟩ else ⟨0, by rw [show cfg0.N = 96 from N_0]; decide⟩

theorem ptn_val (t : Fin cfg0.N) : ptn t.val = t := by
  have h : t.val < 96 := lt_of_lt_of_eq t.isLt N_0
  unfold ptn
  rw [dif_pos h]

/-- All eight row blocks' masks. -/
def biasAll : Vec F S8x256x512 .f32 := fun y =>
  k0_pay12 (F := F) (grid0.coords (ptn (y 0).val)) (ix3 (0 : Fin 1) (⟨(y 1).val, (y 1).isLt⟩ : Fin 256) (⟨(y 2).val, (y 2).isLt⟩ : Fin 512))

/-- The compressed attention weights of a point's 256 rows over the 512 blocks. -/
def attnAt (c : Dev nD) (t : Fin cfg0.N) : FVec F S256x512 .f32 :=
  k0_pay17 (F := F) (iblk m c 0 t) (iblk m c 1 t) (iblk m c 3 t) (biasAt (grid0.coords t) biasAll)

/-- What slot `j` of the accumulator holds once head `h` has passed it. -/
def accS (c : Dev nD) (j : ℕ) : ℕ → Vec F S1x256x512 .f32
  | 0 => k0_pay2 (F := F) (attnAt m c (ptn j))
  | h + 1 => k0_pay3 (F := F) (attnAt m c (ptn (8 * (h + 1) + j))) (accS c j h)

/-- Before point `t` the mask scratch holds the masks of the row blocks visited, and each visited slot of the
    accumulator the sum over the heads that have passed it. -/
def Inv (c : Dev nD) (t : ℕ) (b a : Vec F S8x256x512 .f32) : Prop :=
  (∀ y : S8x256x512.Idx, (y 0).val < t → b y = biasAll y)
  ∧ (∀ (h : ℕ) (y : S8x256x512.Idx), 8 * h + (y 0).val < t → t ≤ 8 * (h + 1) + (y 0).val →
      a y = accS m c (y 0).val h (ix3 (0 : Fin 1) (⟨(y 1).val, (y 1).isLt⟩ : Fin 256) (⟨(y 2).val, (y 2).isLt⟩ : Fin 512)))

/-- The second grid coordinate of a point is its number within the head. -/
theorem coords_1 : ∀ t : Fin grid0.N, ((grid0.coords t) 1).val = t.val % 8 := by decide +kernel

/-- The slot a point stores and reads is its number within the head. -/
theorem off_eq : ∀ t : Fin grid0.N, k0_off1 (grid0.coords t) = ![t.val % 8, 0, 0] := by decide +kernel

/-- Putting a block into slot `j`, read at an index. -/
theorem put_slot_at (off : Fin 3 → ℕ) (j : ℕ) (ho : off = ![j, 0, 0]) (b : Vec F S8x256x512 .f32) (p : Vec F S1x256x512 .f32) (y : S8x256x512.Idx) :
    VecWindow.put b off S1x256x512.size p y
      = if (y 0).val = j then p (ix3 (0 : Fin 1) (⟨(y 1).val, (y 1).isLt⟩ : Fin 256) (⟨(y 2).val, (y 2).isLt⟩ : Fin 512)) else b y := by
  subst ho
  unfold VecWindow.put
  by_cases h : (y 0).val = j
  · have hin : ∀ a, (![j, 0, 0] : Fin 3 → ℕ) a ≤ (y a).val ∧ (y a).val < (![j, 0, 0] : Fin 3 → ℕ) a + S1x256x512.size a := by
      intro a
      fin_cases a
      · exact ⟨h.ge, by show (y 0).val < j + 1; omega⟩
      · exact ⟨Nat.zero_le _, lt_of_lt_of_eq (y 1).isLt (Nat.zero_add _).symm⟩
      · exact ⟨Nat.zero_le _, lt_of_lt_of_eq (y 2).isLt (Nat.zero_add _).symm⟩
    rw [dif_pos hin, if_pos h]
    refine congrArg p ?_
    funext a
    fin_cases a
    · exact Fin.ext (by show (y 0).val - j = 0; omega)
    · exact Fin.ext (Nat.sub_zero _)
    · exact Fin.ext (Nat.sub_zero _)
  · have hout : ¬ ∀ a, (![j, 0, 0] : Fin 3 → ℕ) a ≤ (y a).val ∧ (y a).val < (![j, 0, 0] : Fin 3 → ℕ) a + S1x256x512.size a := by
      intro hh
      have h1 : j ≤ (y 0).val := (hh 0).1
      have h2 : (y 0).val < j + 1 := (hh 0).2
      omega
    rw [dif_neg hout, if_neg h]

/-- A window of slot `j` that agrees with a block at every index is that block. -/
theorem window_slot_eq (off : Fin 3 → ℕ) (j : ℕ) (ho : off = ![j, 0, 0]) (inb : ∀ a, off a + S1x256x512.size a ≤ S8x256x512.size a) (b : Vec F S8x256x512 .f32) (p : Vec F S1x256x512 .f32)
    (h : ∀ y : S8x256x512.Idx, (y 0).val = j → b y = p (ix3 (0 : Fin 1) (⟨(y 1).val, (y 1).isLt⟩ : Fin 256) (⟨(y 2).val, (y 2).isLt⟩ : Fin 512))) :
    VecWindow.window b off S1x256x512.size inb = p := by
  subst ho
  funext z
  have hz : (z 0).val < 1 := (z 0).isLt
  unfold VecWindow.window
  refine (h _ (by show j + 1 * (z 0).val = j; omega)).trans (congrArg p ?_)
  funext a
  fin_cases a
  · exact Fin.ext (by show 0 = (z 0).val; omega)
  · exact Fin.ext (by show 0 + 1 * (z 1).val = (z 1).val; omega)
  · exact Fin.ext (by show 0 + 1 * (z 2).val = (z 2).val; omega)

/-- The mask half of the invariant passes from a point to the next. -/
theorem bias_next (t : Fin cfg0.N) {b : Vec F S8x256x512 .f32} (h : ∀ y : S8x256x512.Idx, (y 0).val < t.val → b y = biasAll y) :
    ∀ y : S8x256x512.Idx, (y 0).val < t.val + 1 → biasNext (grid0.coords t) b y = biasAll y := by
  intro y hy
  by_cases ht : t.val < 8
  · rw [biasNext, if_pos ((cond1_iff t).mpr ht), put_slot_at _ _ (off_eq t)]
    split_ifs with hj
    · unfold biasAll
      have e : ptn (y 0).val = t := by rw [hj, Nat.mod_eq_of_lt ht]; exact ptn_val t
      rw [e]
    · exact h y (by omega)
  · rw [biasNext, if_neg (fun hc => ht ((cond1_iff t).mp hc))]
    have h8 : (y 0).val < 8 := (y 0).isLt
    exact h y (by omega)

/-- The mask a point reads is the mask of its row block. -/
theorem biasAt_next (t : Fin cfg0.N) {b : Vec F S8x256x512 .f32} (h : ∀ y : S8x256x512.Idx, (y 0).val < t.val + 1 → b y = biasAll y) :
    biasAt (grid0.coords t) b = biasAt (grid0.coords t) (biasAll (F := F)) := by
  unfold biasAt
  refine window_slot_eq _ _ (off_eq t) _ b _ fun y hy => ?_
  have h4 := Nat.mod_le t.val 8
  rw [h y (by omega)]
  unfold VecWindow.window
  refine congrArg _ ?_
  have ho : k0_off2 (grid0.coords t) = ![t.val % 8, 0, 0] := off_eq t
  funext a
  fin_cases a
  · exact Fin.ext (by show (y 0).val = k0_off2 (grid0.coords t) 0 + 1 * 0; rw [ho]; show (y 0).val = t.val % 8 + 1 * 0; omega)
  · exact Fin.ext (by show (y 1).val = k0_off2 (grid0.coords t) 1 + 1 * (y 1).val; rw [ho]; show (y 1).val = 0 + 1 * (y 1).val; omega)
  · exact Fin.ext (by show (y 2).val = k0_off2 (grid0.coords t) 2 + 1 * (y 2).val; rw [ho]; show (y 2).val = 0 + 1 * (y 2).val; omega)

/-- The accumulator half of the invariant passes from a point to the next. -/
theorem acc_next (c : Dev nD) (t : Fin cfg0.N) {a : Vec F S8x256x512 .f32}
    (h : ∀ (h : ℕ) (y : S8x256x512.Idx), 8 * h + (y 0).val < t.val → t.val ≤ 8 * (h + 1) + (y 0).val →
      a y = accS m c (y 0).val h (ix3 (0 : Fin 1) (⟨(y 1).val, (y 1).isLt⟩ : Fin 256) (⟨(y 2).val, (y 2).isLt⟩ : Fin 512))) :
    ∀ (h : ℕ) (y : S8x256x512.Idx), 8 * h + (y 0).val < t.val + 1 → t.val + 1 ≤ 8 * (h + 1) + (y 0).val →
      accNext (grid0.coords t) (attnAt m c t) a y = accS m c (y 0).val h (ix3 (0 : Fin 1) (⟨(y 1).val, (y 1).isLt⟩ : Fin 256) (⟨(y 2).val, (y 2).isLt⟩ : Fin 512)) := by
  intro n y h1 h2
  have h8 : (y 0).val < 8 := (y 0).isLt
  unfold accNext
  by_cases ht : t.val < 8
  · rw [dif_pos ((cond2_iff t).mpr ht), put_slot_at (k0_off3 (grid0.coords t)) _ (off_eq t)]
    split_ifs with hj
    · have hn : n = 0 := by omega
      subst hn
      have e : ptn (y 0).val = t := by rw [hj, Nat.mod_eq_of_lt ht]; exact ptn_val t
      unfold accS
      rw [e]
    · exact h n y (by omega) (by omega)
  · rw [dif_neg (fun hc => ht ((cond2_iff t).mp hc)), dif_pos ((cond3_iff t).mpr (by omega)), put_slot_at (k0_off4 (grid0.coords t)) _ (off_eq t)]
    split_ifs with hj
    · obtain ⟨k, rfl⟩ : ∃ k, n = k + 1 := ⟨n - 1, by omega⟩
      have hw : VecWindow.window a (k0_off4 (grid0.coords t)) S1x256x512.size (k0_off4_inb (grid0.coords t) ((cond3_iff t).mpr (by omega))) = accS m c (y 0).val k := by
        refine window_slot_eq _ _ (off_eq t) _ a _ fun z hz => ?_
        have e : (z 0).val = (y 0).val := by omega
        rw [h k z (by omega) (by omega), e]
      rw [hw]
      have e : ptn (8 * (k + 1) + (y 0).val) = t := by
        rw [show 8 * (k + 1) + (y 0).val = t.val by omega]; exact ptn_val t
      conv_rhs => unfold accS
      rw [e]
    · exact h n y (by omega) (by omega)

/-! ## The pipeline's proof data -/

/-- What the point leaves in the compressed attention's block. -/
def coutAt (c : Dev nD) (t : Fin cfg0.N) : Vec F S1x256x64 .f32 :=
  coutOut (iblk m c 0 t) (iblk m c 1 t) (iblk m c 2 t) (iblk m c 3 t) (iblk m c 4 t) (biasAt (grid0.coords t) biasAll)

/-- The accumulator after the last point: every slot summed over the twelve heads. -/
def accAll (c : Dev nD) : Vec F S8x256x512 .f32 := fun y =>
  accS m c (y 0).val 11 (ix3 (0 : Fin 1) (⟨(y 1).val, (y 1).isLt⟩ : Fin 256) (⟨(y 2).val, (y 2).isLt⟩ : Fin 512))

/-- What the last point leaves in the importance block. -/
def impAll (c : Dev nD) : Vec F S2048x512 .f32 := impOf (accAll m c)

/-- The scratch operands as memrefs. -/
abbrev scM0 : Memref sig .tc .vmem S8x256x512 .f32 := Memref.whole cc0_scratch0
abbrev scM1 : Memref sig .tc .vmem S8x256x512 .f32 := Memref.whole cc0_scratch1

/-- The proof data: inputs stay, the two outputs as computed, the scratch buffers tracked by `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => coutAt m c t
    | ⟨6, _⟩ => impAll m c
  Φ t := iprop(∃ b, ∃ a, ⌜Inv m c t.val b a⌝ ∗ owns (c : Thread nD τ) scM0 fullShare b ∗ owns (c : Thread nD τ) scM1 fullShare a ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = coutAt m c t := by dsimp only [dats]
theorem after_6 (c : Dev nD) (t : Fin cfg0.N) : (dats m 0 c).after 6 t = impAll m c := by dsimp only [dats]

/-- A window's staging memref at a point. -/
abbrev ms0 (t : Fin cfg0.N) : Memref sig .tc .vmem S1x256x64 .f32 := win0_0.stage (cfg0.slots t 0)
abbrev ms1 (t : Fin cfg0.N) : Memref sig .tc .vmem S1x512x64 .f32 := win0_1.stage (cfg0.slots t 1)
abbrev ms2 (t : Fin cfg0.N) : Memref sig .tc .vmem S1x512x64 .f32 := win0_2.stage (cfg0.slots t 2)
abbrev ms3 (t : Fin cfg0.N) : Memref sig .tc .vmem S1x1x64 .f32 := win0_3.stage (cfg0.slots t 3)
abbrev ms4 (t : Fin cfg0.N) : Memref sig .tc .vmem S1x1x64 .f32 := win0_4.stage (cfg0.slots t 4)
abbrev ms5 (t : Fin cfg0.N) : Memref sig .tc .vmem S1x256x64 .f32 := win0_5.stage (cfg0.slots t 5)
abbrev ms6 (t : Fin cfg0.N) : Memref sig .tc .vmem S2048x512 .f32 := win0_6.stage (cfg0.slots t 6)

/-- What the body is run on at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- What it leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The compressed attention's window is stored at every point, the importance at the last only. -/
theorem live_5 : ∀ t : Fin cfg0.N, cfg0.idle 5 (grid0.coords t) = false := (by decide +kernel : ∀ t : Fin grid0.N, cfg0.idle 5 (grid0.coords t) = false)
theorem live_6 : ∀ t : Fin cfg0.N, t.val = 95 → cfg0.idle 6 (grid0.coords t) = false := (by decide +kernel : ∀ t : Fin grid0.N, t.val = 95 → cfg0.idle 6 (grid0.coords t) = false)
theorem idle_6 : ∀ t : Fin cfg0.N, ¬ t.val = 95 → cfg0.idle 6 (grid0.coords t) = true := (by decide +kernel : ∀ t : Fin grid0.N, ¬ t.val = 95 → cfg0.idle 6 (grid0.coords t) = true)

/-- A live window's `leavesExact` is ownership of its staging memref at the contents the proof data names. -/
theorem leaves_0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (ms5 t) fullShare (coutAt m c t) := by
  unfold Dat.leavesExact; rw [live_5 t, after_5]
theorem leaves_6 (c : Dev nD) (t : Fin cfg0.N) (h : t.val = 95) : (dats m 0 c).leavesExact 6 t = owns (c : Thread nD τ) (ms6 t) fullShare (impAll m c) := by
  unfold Dat.leavesExact; rw [live_6 t h, after_6]
theorem leaves_6_idle (c : Dev nD) (t : Fin cfg0.N) (h : ¬ t.val = 95) :
    (dats m 0 c).leavesExact 6 t = iprop(∃ d, owns (c : Thread nD τ) (ms6 t) fullShare ((dats m 0 c).before 6 t d)) := by
  refine (dats m 0 c).leavesExact_idle 6 t (idle_6 t h) ?_
  have h96 : t.val < 96 := lt_of_lt_of_eq t.isLt N_0
  rw [Bool.eq_false_iff]
  intro hf
  exact h (by have := (flush0_6 t).mp hf; omega)

/-- What the body leaves in the importance window is what the proof data says. -/
theorem imp_leaves (c : Dev nD) (t : Fin cfg0.N) (a : Vec F S8x256x512 .f32)
    (h : ∀ (h : ℕ) (y : S8x256x512.Idx), 8 * h + (y 0).val < t.val + 1 → t.val + 1 ≤ 8 * (h + 1) + (y 0).val →
      a y = accS m c (y 0).val h (ix3 (0 : Fin 1) (⟨(y 1).val, (y 1).isLt⟩ : Fin 256) (⟨(y 2).val, (y 2).isLt⟩ : Fin 512))) (d) :
    (owns (c : Thread nD τ) (ms6 t) fullShare (impNext (grid0.coords t) a ((dats m 0 c).before 6 t d)) : sProp 𝕄) ⊢ (dats m 0 c).leavesExact 6 t := by
  by_cases ht : t.val = 95
  · rw [leaves_6 m c t ht, impNext, if_pos ((cond4_iff t).mpr ht)]
    have e : a = accAll m c := by
      funext y
      have h8 : (y 0).val < 8 := (y 0).isLt
      exact h 11 y (by omega) (by omega)
    rw [e]
    exact .rfl
  · rw [leaves_6_idle m c t ht, impNext, if_neg (fun hc => ht ((cond4_iff t).mp hc))]
    iintro H
    iexists d
    iexact H

set_option maxHeartbeats 1600000 in
/-- The body at a point takes what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  rw [show (dats m 0 c).owesAt () t.succ = (dats m 0 c).owesAt () t.castSucc from rfl, leaves_0, leaves_1, leaves_2, leaves_3, leaves_4, leaves_5]
  rw [show (dats m 0 c).Φ t.castSucc = iprop(∃ b, ∃ w, ⌜Inv m c t.val b w⌝ ∗ owns (c : Thread nD τ) scM0 fullShare b ∗ owns (c : Thread nD τ) scM1 fullShare w ∗ (∃ r, prngReg c r)) from rfl,
    show (dats m 0 c).Φ t.succ = iprop(∃ b, ∃ w, ⌜Inv m c (t.val + 1) b w⌝ ∗ owns (c : Thread nD τ) scM0 fullShare b ∗ owns (c : Thread nD τ) scM1 fullShare w ∗ (∃ r, prngReg c r)) from rfl]
  iintro ⟨⟨%b, %a, %hI, HS0, HS1, Hg⟩, Ho, ⟨%d0, H0⟩, ⟨%d1, H1⟩, ⟨%d2, H2⟩, ⟨%d3, H3⟩, ⟨%d4, H4⟩, ⟨%d5, H5⟩, ⟨%d6, H6⟩⟩
  have hB := bias_next t hI.1
  have hb := biasAt_next t hB
  have hA := acc_next m c t hI.2
  have e5 : coutOut (iblk m c 0 t) (iblk m c 1 t) (iblk m c 2 t) (iblk m c 3 t) (iblk m c 4 t) (biasAt (grid0.coords t) (biasNext (grid0.coords t) b)) = coutAt m c t := by
    rw [hb]; rfl
  have eA : k0_pay17 (F := F) (iblk m c 0 t) (iblk m c 1 t) (iblk m c 3 t) (biasAt (grid0.coords t) (biasNext (grid0.coords t) b)) = attnAt m c t := by
    rw [hb]; rfl
  rw [← eA] at hA
  have h6 := imp_leaves m c t _ hA d6
  rw [← e5]
  iapply ((bodyRun c (grid0.coords t) (cases_all t) _ _ _ _ _ _ _ _ _ _ _ _ _ _ _ _ _ _ (iblk m c 0 t) (iblk m c 1 t) (iblk m c 2 t) (iblk m c 3 t) (iblk m c 4 t) ((dats m 0 c).before 6 t d6) b a) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  isplitl [HS1]; · iexact HS1
  iintro ⟨H0, H1, H2, H3, H4, H5, H6, HS0, HS1⟩
  isplitl [HS0 HS1 Hg]
  · iexists _; iexists _
    isplitr; · ipureintro; exact ⟨hB, hA⟩
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply h6
  iexact H6

/-- The body's row of the table is the body at the point. -/
theorem row_at (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, row_at]
  exact triple_restated (sound_body m c t) rfl .rfl fun _ => .rfl

/-- What the region hands the body before the first point: the scratch buffers at any contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before the first point the invariant says nothing of the scratch buffers. -/
theorem hin (c : Dev nD) : (Pipeline.ΦA spec0 c : sProp 𝕄) ⊢ (dats m 0 c).Φ 0 := by
  rw [PhiA_eq, show (dats m 0 c).Φ 0 = iprop(∃ b, ∃ w, ⌜Inv m c 0 b w⌝ ∗ owns (c : Thread nD τ) scM0 fullShare b ∗ owns (c : Thread nD τ) scM1 fullShare w ∗ (∃ r, prngReg c r)) from rfl]
  iintro ⟨⟨⟨%b, HS0⟩, ⟨%w, HS1⟩⟩, Hg⟩
  iexists b; iexists w
  isplitr
  · ipureintro; exact ⟨fun y hy => absurd hy (Nat.not_lt_zero _), fun n y hy _ => absurd hy (Nat.not_lt_zero _)⟩
  isplitl [HS0]; · iexact HS0
  isplitl [HS1]; · iexact HS1
  iexact Hg

/-- After the last point the scratch buffers are given back at any contents. -/
theorem hout (c : Dev nD) : (dats m 0 c).Φ (Fin.last cfg0.N) ⊢ (Pipeline.ΦA spec0 c : sProp 𝕄) := by
  rw [PhiA_eq, show (dats m 0 c).Φ (Fin.last cfg0.N) = iprop(∃ b, ∃ w, ⌜Inv m c cfg0.N b w⌝ ∗ owns (c : Thread nD τ) scM0 fullShare b ∗ owns (c : Thread nD τ) scM1 fullShare w ∗ (∃ r, prngReg c r)) from rfl]
  iintro ⟨%b, %w, %hI, HS0, HS1, Hg⟩
  isplitl [HS0 HS1]
  · isplitl [HS0]
    · iexists _; iexact HS0
    iexists _; iexact HS1
  iexact Hg

/-! ## The run and the frame -/

set_option backward.isDefEq.respectTransparency.types false in
/-- Every run ends with the output arrays at the proof data's contents, every other buffer unchanged and every semaphore at zero. -/
theorem run_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same run without the semaphores. -/
theorem run_main : θ_run defs (onTc (τ := τ) (main (F := F))) (s₀ m ρ) (Pipeline.FramePost cfgs (dats m) 0 (V m)) :=
  (θ_run defs _ _).mono (fun _ h => h.1) (run_quiescent m ρ)

/-- The frame: every run terminates with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.CattnIdeal.Hand

end
-- ==== Proof.CattnEntry.lean ====
module

public import proofs.«01_k».proof.Proof.FineEntry
public import proofs.«01_k».proof.Proof.CattnFrame
public import Idealize.ShloMosaic.Lib.WordCmp

@[expose] public section

set_option maxRecDepth 16384

noncomputable section

namespace Cert.CattnIdeal.Hand

open Cert.CattnIdeal Cert.CattnIdeal.Gen Cert.FinePure
open Idealize.ShloMosaic Idealize.ShloMosaic.TcCoe
open Cert.FineIdeal.Hand (window_at)

/-! ## The weights of one row -/

/-- The total of a row: the masked exponentials of its block scores and the exponential of its memory score. -/
def tot {n : ℕ} (s M : Fin n → EReal) (g : EReal) : EReal := (∑ k, Ideal.exp (s k) * M k) + Ideal.exp g

/-- The weight of block `k`. -/
def wt {n : ℕ} (s M : Fin n → EReal) (g : EReal) (k : Fin n) : EReal := Ideal.div (Ideal.exp (s k) * M k) (tot s M g)

/-- The weight of the memory. -/
def wm {n : ℕ} (s M : Fin n → EReal) (g : EReal) : EReal := Ideal.div (Ideal.exp g) (tot s M g)

/-- The kernel's weights are the softmax weights of the scores masked by −∞, the memory first, with a real subtracted. -/
theorem weights_eq {n : ℕ} (s : Fin n → ℝ) (g : ℝ) (P : Fin n → Prop) [DecidablePred P] (m : ℝ) (x : Fin (n + 1) → EReal)
    (h0 : x 0 = (g : EReal)) (hx : ∀ k, x k.succ = if P k then (s k : EReal) else ⊥) :
    (∀ k, Ideal.div (Ideal.exp (x k.succ - (m : EReal))) (∑ j, Ideal.exp (x j - (m : EReal))) = wt (fun k => (s k : EReal)) (fun k => if P k then 1 else 0) (g : EReal) k)
    ∧ Ideal.div (Ideal.exp (x 0 - (m : EReal))) (∑ j, Ideal.exp (x j - (m : EReal))) = wm (fun k => (s k : EReal)) (fun k => if P k then 1 else 0) (g : EReal) := by
  set e : Fin n → ℝ := fun k => if P k then Real.exp (s k) else 0 with he
  have h1 : ∀ k, Ideal.exp (s k : EReal) * (if P k then (1 : EReal) else 0) = (e k : EReal) := by
    intro k
    rw [he]
    show (Real.exp (s k) : EReal) * _ = _
    by_cases h : P k <;> simp [h]
  have h2 : ∀ k : Fin n, Ideal.exp (x k.succ - (m : EReal)) = ((e k * Real.exp (-m) : ℝ) : EReal) := by
    intro k
    rw [hx, he]
    by_cases h : P k
    · simp only [h, if_true]
      rw [← EReal.coe_sub]
      show (Real.exp (s k - m) : EReal) = _
      rw [sub_eq_add_neg, Real.exp_add]
    · simp only [h, if_false]
      rw [EReal.bot_sub]
      show (0 : EReal) = _
      simp
  have h3 : Ideal.exp (x 0 - (m : EReal)) = ((Real.exp g * Real.exp (-m) : ℝ) : EReal) := by
    rw [h0, ← EReal.coe_sub]
    show (Real.exp (g - m) : EReal) = _
    rw [sub_eq_add_neg, Real.exp_add]
  have he0 : ∀ k, 0 ≤ e k := by
    intro k; rw [he]; dsimp only; split
    · exact (Real.exp_pos _).le
    · exact le_rfl
  have hD : 0 < (∑ k, e k) + Real.exp g := add_pos_of_nonneg_of_pos (Finset.sum_nonneg fun k _ => he0 k) (Real.exp_pos g)
  have hE : Real.exp (-m) ≠ 0 := (Real.exp_pos _).ne'
  have hT : tot (fun k => (s k : EReal)) (fun k => if P k then 1 else 0) (g : EReal) = (((∑ k, e k) + Real.exp g : ℝ) : EReal) := by
    unfold tot
    simp only [h1]
    rw [← coe_sum, EReal.coe_add]
    rfl
  have hS : ∑ j, Ideal.exp (x j - (m : EReal)) = ((((∑ k, e k) + Real.exp g) * Real.exp (-m) : ℝ) : EReal) := by
    rw [Fin.sum_univ_succ, h3]
    simp only [h2]
    rw [← coe_sum, ← EReal.coe_add, ← Finset.sum_mul]
    congr 1
    ring
  refine ⟨fun k => ?_, ?_⟩
  · rw [hS, h2]
    unfold wt
    rw [hT, h1, div_real _ _ hD.ne', div_real _ _ (mul_ne_zero hD.ne' hE), ← EReal.coe_mul, ← EReal.coe_mul]
    congr 1
    field_simp
  · rw [hS, h3]
    unfold wm
    rw [hT, show Ideal.exp (g : EReal) = ((Real.exp g : ℝ) : EReal) from rfl, div_real _ _ hD.ne', div_real _ _ (mul_ne_zero hD.ne' hE), ← EReal.coe_mul, ← EReal.coe_mul]
    congr 1
    field_simp

/-! ## What the body stores, entry by entry -/

/-- The attention weights of a point's rows. -/
theorem pay17_at (x0 : Vec Ideal S1x256x64 .f32) (x1 : Vec Ideal S1x512x64 .f32) (x3 : Vec Ideal S1x1x64 .f32) (b : Vec Ideal S1x256x512 .f32) (r : Fin 256) (k : Fin 512) :
    k0_pay17 (F := Ideal) x0 x1 x3 b (ix2 r k)
      = wt (fun k : Fin 512 => (∑ d : Fin 64, x0 (ix3 0 r d) * x1 (ix3 0 k d)) * Ideal.ofBits FTy.f32 1039516303#32) (fun k => b (ix3 0 r k))
          ((∑ d : Fin 64, x0 (ix3 0 r d) * x3 (ix3 0 0 d)) * Ideal.ofBits FTy.f32 1039516303#32) k := by
  pointwise [k0_pay17, k0_pay16, k0_pay15, k0_pay14, k0_pay13]
  rfl

/-- The compressed attention of a point's rows. -/
theorem cout_at (x0 : Vec Ideal S1x256x64 .f32) (x1 x2 : Vec Ideal S1x512x64 .f32) (x3 x4 : Vec Ideal S1x1x64 .f32) (b : Vec Ideal S1x256x512 .f32) (r : Fin 256) (l : Fin 64) :
    coutOut (F := Ideal) x0 x1 x2 x3 x4 b (ix3 0 r l)
      = (∑ k : Fin 512, wt (fun k : Fin 512 => (∑ d : Fin 64, x0 (ix3 0 r d) * x1 (ix3 0 k d)) * Ideal.ofBits FTy.f32 1039516303#32) (fun k => b (ix3 0 r k))
          ((∑ d : Fin 64, x0 (ix3 0 r d) * x3 (ix3 0 0 d)) * Ideal.ofBits FTy.f32 1039516303#32) k * x2 (ix3 0 k l))
        + wm (fun k : Fin 512 => (∑ d : Fin 64, x0 (ix3 0 r d) * x1 (ix3 0 k d)) * Ideal.ofBits FTy.f32 1039516303#32) (fun k => b (ix3 0 r k))
          ((∑ d : Fin 64, x0 (ix3 0 r d) * x3 (ix3 0 0 d)) * Ideal.ofBits FTy.f32 1039516303#32) * x4 (ix3 0 0 l) := by
  unfold coutOut
  pointwise [k0_pay1, k0_pay18, k0_pay17, k0_pay16, k0_pay15, k0_pay14, k0_pay13]
  rfl

/-- The mask of a row block: the blocks that end before the row. -/
theorem pay12_at (i : grid0.Coords) (r : Fin 256) (k : Fin 512) :
    k0_pay12 (F := Ideal) i (ix3 0 r k) = if 4 * k.val + 3 < 256 * (i 1).val + r.val then (1 : EReal) else 0 := by
  pointwise [k0_pay12]
  have h1 : (i 1).val < 8 := (i 1).isLt
  have hr := r.isLt
  have hk := k.isLt
  have hL : IntOp.subi (IntOp.addi (IntOp.muli (4#32) (BitVec.ofNat 32 k.val)) 4#32) 1#32 = BitVec.ofNat 32 (4 * k.val + 3) := by
    show (4#32 * BitVec.ofNat 32 k.val + 4#32) - 1#32 = _
    apply BitVec.eq_of_toNat_eq
    simp only [BitVec.toNat_sub, BitVec.toNat_add, BitVec.toNat_mul, BitVec.toNat_ofNat]
    omega
  have hB : IntOp.addi (Scalar.muli (BitVec.ofNat 32 (i 1).val) 256#32) (BitVec.ofNat 32 r.val) = BitVec.ofNat 32 (256 * (i 1).val + r.val) := by
    show BitVec.ofNat 32 (i 1).val * 256#32 + BitVec.ofNat 32 r.val = _
    apply BitVec.eq_of_toNat_eq
    simp only [BitVec.toNat_add, BitVec.toNat_mul, BitVec.toNat_ofNat]
    omega
  rw [hL, hB, WordCmp.cmpi_slt_ofNat (by omega) (by omega)]
  by_cases h : 4 * k.val + 3 < 256 * (i 1).val + r.val
  · rw [if_pos h, decide_eq_true h]; rfl
  · rw [if_neg h, decide_eq_false h]; rfl

/-- The first head's store of a slot. -/
theorem pay2_at (p : FVec Ideal S256x512 .f32) (r : Fin 256) (k : Fin 512) : k0_pay2 (F := Ideal) p (ix3 0 r k) = p (ix2 r k) := by
  pointwise [k0_pay2]

/-- A later head's store of a slot. -/
theorem pay3_at (p : FVec Ideal S256x512 .f32) (a : Vec Ideal S1x256x512 .f32) (r : Fin 256) (k : Fin 512) :
    k0_pay3 (F := Ideal) p a (ix3 0 r k) = @HAdd.hAdd EReal EReal EReal _ (a (ix3 0 r k)) (p (ix2 r k)) := by
  pointwise [k0_pay3]

/-! ## The blocks -/

variable (m : (ℓ : Loc nD τ sig) → Buf (Elt Ideal) ℓ)

theorem V_v1 (c : Dev nD) : V m c main_v1 = shapeCast S12x1x64 (extractStridedSlice S1x12x1x64 ![0, 0, 0, 0] (m ((c.tc : Thread nD τ).loc main_arg3)) slices_S2x12x1x64_S1x12x1x64_0_0_0_0) shapeCasts_S1x12x1x64_S12x1x64 := by
  unfold V; after_results_simp <;> rfl
theorem V_v3 (c : Dev nD) : V m c main_v3 = shapeCast S12x1x64 (extractStridedSlice S1x12x1x64 ![1, 0, 0, 0] (m ((c.tc : Thread nD τ).loc main_arg3)) slices_S2x12x1x64_S1x12x1x64_1_0_0_0) shapeCasts_S1x12x1x64_S12x1x64 := by
  unfold V; after_results_simp <;> rfl

theorem idx_in : ∀ t : Fin grid0.N,
    (win0_0.index t 0 = t.val / 8 ∧ win0_0.index t 1 = t.val % 8 ∧ win0_0.index t 2 = 0) ∧ (win0_1.index t 0 = t.val / 8 ∧ win0_1.index t 1 = 0 ∧ win0_1.index t 2 = 0)
    ∧ (win0_2.index t 0 = t.val / 8 ∧ win0_2.index t 1 = 0 ∧ win0_2.index t 2 = 0) ∧ (win0_3.index t 0 = t.val / 8 ∧ win0_3.index t 1 = 0 ∧ win0_3.index t 2 = 0)
    ∧ (win0_4.index t 0 = t.val / 8 ∧ win0_4.index t 1 = 0 ∧ win0_4.index t 2 = 0) ∧ (win0_5.index t 0 = t.val / 8 ∧ win0_5.index t 1 = t.val % 8 ∧ win0_5.index t 2 = 0)
    ∧ (win0_6.index t 0 = 0 ∧ win0_6.index t 1 = 0) := by decide +kernel

/-- The query block of a point holds its head's 256 rows. -/
theorem iblk0_at (c : Dev nD) (t : Fin cfg0.N) (r : Fin 256) (d : Fin 64) (h : Fin 12) (R : Fin 2048) (hh : h.val = t.val / 8) (hR : R.val = 256 * (t.val % 8) + r.val) :
    (iblk m c 0 t : Vec Ideal S1x256x64 .f32) (ix3 0 r d) = m ((c.tc : Thread nD τ).loc main_arg0) (ix3 h R d) := by
  obtain ⟨⟨h0, h1, h2⟩, -⟩ := idx_in t
  refine Eq.trans ?_ (congrFun (V_main_arg0 m c) (ix3 h R d))
  unfold iblk
  rw [View.read_apply]
  show V m c main_arg0 _ = V m c main_arg0 _
  congr 1
  funext b
  apply Fin.ext
  match b with
  | ⟨0, _⟩ => show win0_0.index t 0 * 1 + 1 * 0 = h.val; rw [h0, hh]; omega
  | ⟨1, _⟩ => show win0_0.index t 1 * 256 + 1 * r.val = R.val; rw [h1, hR]; omega
  | ⟨2, _⟩ => show win0_0.index t 2 * 64 + 1 * d.val = d.val; rw [h2]; omega

/-- The compressed keys of a point's head. -/
theorem iblk1_at (c : Dev nD) (t : Fin cfg0.N) (k : Fin 512) (d : Fin 64) (h : Fin 12) (hh : h.val = t.val / 8) :
    (iblk m c 1 t : Vec Ideal S1x512x64 .f32) (ix3 0 k d) = m ((c.tc : Thread nD τ).loc main_arg1) (ix3 h k d) := by
  obtain ⟨-, ⟨h0, h1, h2⟩, -⟩ := idx_in t
  refine Eq.trans ?_ (congrFun (V_main_arg1 m c) (ix3 h k d))
  unfold iblk
  rw [View.read_apply]
  show V m c main_arg1 _ = V m c main_arg1 _
  congr 1
  funext b
  apply Fin.ext
  match b with
  | ⟨0, _⟩ => show win0_1.index t 0 * 1 + 1 * 0 = h.val; rw [h0, hh]; omega
  | ⟨1, _⟩ => show win0_1.index t 1 * 512 + 1 * k.val = k.val; rw [h1]; omega
  | ⟨2, _⟩ => show win0_1.index t 2 * 64 + 1 * d.val = d.val; rw [h2]; omega

/-- The compressed values of a point's head. -/
theorem iblk2_at (c : Dev nD) (t : Fin cfg0.N) (k : Fin 512) (d : Fin 64) (h : Fin 12) (hh : h.val = t.val / 8) :
    (iblk m c 2 t : Vec Ideal S1x512x64 .f32) (ix3 0 k d) = m ((c.tc : Thread nD τ).loc main_arg2) (ix3 h k d) := by
  obtain ⟨-, -, ⟨h0, h1, h2⟩, -⟩ := idx_in t
  refine Eq.trans ?_ (congrFun (V_main_arg2 m c) (ix3 h k d))
  unfold iblk
  rw [View.read_apply]
  show V m c main_arg2 _ = V m c main_arg2 _
  congr 1
  funext b
  apply Fin.ext
  match b with
  | ⟨0, _⟩ => show win0_2.index t 0 * 1 + 1 * 0 = h.val; rw [h0, hh]; omega
  | ⟨1, _⟩ => show win0_2.index t 1 * 512 + 1 * k.val = k.val; rw [h1]; omega
  | ⟨2, _⟩ => show win0_2.index t 2 * 64 + 1 * d.val = d.val; rw [h2]; omega

/-- The memory key of a point's head. -/
theorem iblk3_at (c : Dev nD) (t : Fin cfg0.N) (d : Fin 64) (h : Fin 12) (hh : h.val = t.val / 8) :
    (iblk m c 3 t : Vec Ideal S1x1x64 .f32) (ix3 0 0 d) = m ((c.tc : Thread nD τ).loc main_arg3) (ix4 0 h 0 d) := by
  obtain ⟨-, -, -, ⟨h0, h1, h2⟩, -⟩ := idx_in t
  have e : ∀ x : Vec Ideal S2x12x1x64 .f32, shapeCast S12x1x64 (extractStridedSlice S1x12x1x64 ![0, 0, 0, 0] x slices_S2x12x1x64_S1x12x1x64_0_0_0_0) shapeCasts_S1x12x1x64_S12x1x64 (ix3 h 0 d) = x (ix4 0 h 0 d) := by
    intro x
    pointwise []
  refine Eq.trans ?_ ((congrFun (V_v1 m c) (ix3 h 0 d)).trans (e _))
  unfold iblk
  rw [View.read_apply]
  show V m c main_v1 _ = V m c main_v1 _
  congr 1
  funext a
  apply Fin.ext
  match a with
  | ⟨0, _⟩ => show win0_3.index t 0 * 1 + 1 * 0 = h.val; rw [h0, hh]; omega
  | ⟨1, _⟩ => show win0_3.index t 1 * 1 + 1 * 0 = 0; rw [h1]
  | ⟨2, _⟩ => show win0_3.index t 2 * 64 + 1 * d.val = d.val; rw [h2]; omega

/-- The memory value of a point's head. -/
theorem iblk4_at (c : Dev nD) (t : Fin cfg0.N) (d : Fin 64) (h : Fin 12) (hh : h.val = t.val / 8) :
    (iblk m c 4 t : Vec Ideal S1x1x64 .f32) (ix3 0 0 d) = m ((c.tc : Thread nD τ).loc main_arg3) (ix4 1 h 0 d) := by
  obtain ⟨-, -, -, -, ⟨h0, h1, h2⟩, -⟩ := idx_in t
  have e : ∀ x : Vec Ideal S2x12x1x64 .f32, shapeCast S12x1x64 (extractStridedSlice S1x12x1x64 ![1, 0, 0, 0] x slices_S2x12x1x64_S1x12x1x64_1_0_0_0) shapeCasts_S1x12x1x64_S12x1x64 (ix3 h 0 d) = x (ix4 1 h 0 d) := by
    intro x
    pointwise []
  refine Eq.trans ?_ ((congrFun (V_v3 m c) (ix3 h 0 d)).trans (e _))
  unfold iblk
  rw [View.read_apply]
  show V m c main_v3 _ = V m c main_v3 _
  congr 1
  funext a
  apply Fin.ext
  match a with
  | ⟨0, _⟩ => show win0_4.index t 0 * 1 + 1 * 0 = h.val; rw [h0, hh]; omega
  | ⟨1, _⟩ => show win0_4.index t 1 * 1 + 1 * 0 = 0; rw [h1]
  | ⟨2, _⟩ => show win0_4.index t 2 * 64 + 1 * d.val = d.val; rw [h2]; omega

/-! ## The stored arrays by row -/

/-- The scaled score of a query row against a compressed block. -/
def blockScore (q : Vec Ideal S12x2048x64 .f32) (ck : Vec Ideal S12x512x64 .f32) (h : Fin 12) (R : Fin 2048) (k : Fin 512) : EReal :=
  (∑ d : Fin 64, q (ix3 h R d) * ck (ix3 h k d)) * Ideal.ofBits FTy.f32 1039516303#32

/-- The scaled score of a query row against the memory. -/
def memScore (q : Vec Ideal S12x2048x64 .f32) (mem : Vec Ideal S2x12x1x64 .f32) (h : Fin 12) (R : Fin 2048) : EReal :=
  (∑ d : Fin 64, q (ix3 h R d) * mem (ix4 0 h 0 d)) * Ideal.ofBits FTy.f32 1039516303#32

/-- The blocks a row sees. -/
def vis (R : Fin 2048) (k : Fin 512) : EReal := if 4 * k.val + 3 < R.val then 1 else 0

/-- The mask of a point's rows. -/
theorem bias_at (t : Fin cfg0.N) (r : Fin 256) (k : Fin 512) (R : Fin 2048) (hR : R.val = 256 * (t.val % 8) + r.val) :
    biasAt (grid0.coords t) (biasAll (F := Ideal)) (ix3 0 r k) = vis R k := by
  have ha : t.val % 8 < 8 := Nat.mod_lt _ (by norm_num)
  have ho : k0_off2 (grid0.coords t) = ![t.val % 8, 0, 0] := off_eq t
  unfold biasAt
  rw [window_at _ _ _ _ _ (ix3 (⟨t.val % 8, ha⟩ : Fin 8) r k) (by
    intro a
    refine (congrArg (fun z => z + (ix3 (0 : Fin 1) r k a).val) (congrFun ho a)).trans ?_
    match a with
    | ⟨0, _⟩ => rfl
    | ⟨1, _⟩ => exact Nat.zero_add _
    | ⟨2, _⟩ => exact Nat.zero_add _)]
  show k0_pay12 (F := Ideal) (grid0.coords (ptn (t.val % 8))) (ix3 0 r k) = _
  have e : ((grid0.coords (ptn (t.val % 8))) 1).val = t.val % 8 := by
    rw [coords_1]
    unfold ptn
    rw [dif_pos (by omega)]
    show t.val % 8 % 8 = _
    omega
  rw [pay12_at, e]
  unfold vis
  rw [hR]

/-- The attention weights of a point's rows, by row and head. -/
theorem attnAt_at (c : Dev nD) (t : Fin cfg0.N) (r : Fin 256) (k : Fin 512) (h : Fin 12) (R : Fin 2048) (hh : h.val = t.val / 8) (hR : R.val = 256 * (t.val % 8) + r.val) :
    attnAt m c t (ix2 r k) = wt (blockScore (m ((c.tc : Thread nD τ).loc main_arg0)) (m ((c.tc : Thread nD τ).loc main_arg1)) h R) (vis R)
      (memScore (m ((c.tc : Thread nD τ).loc main_arg0)) (m ((c.tc : Thread nD τ).loc main_arg3)) h R) k := by
  unfold attnAt
  rw [pay17_at]
  simp only [iblk0_at m c t r _ h R hh hR, iblk1_at m c t _ _ h hh, iblk3_at m c t _ h hh, bias_at t r _ R hR]
  rfl

/-- The compressed attention of a point's rows, by row and head. -/
theorem coutAt_at (c : Dev nD) (t : Fin cfg0.N) (r : Fin 256) (l : Fin 64) (h : Fin 12) (R : Fin 2048) (hh : h.val = t.val / 8) (hR : R.val = 256 * (t.val % 8) + r.val) :
    coutAt m c t (ix3 0 r l)
      = @HAdd.hAdd EReal EReal EReal _ (∑ k : Fin 512, @HMul.hMul EReal EReal EReal _ (wt (blockScore (m ((c.tc : Thread nD τ).loc main_arg0)) (m ((c.tc : Thread nD τ).loc main_arg1)) h R) (vis R)
          (memScore (m ((c.tc : Thread nD τ).loc main_arg0)) (m ((c.tc : Thread nD τ).loc main_arg3)) h R) k) (m ((c.tc : Thread nD τ).loc main_arg2) (ix3 h k l)))
        (@HMul.hMul EReal EReal EReal _ (wm (blockScore (m ((c.tc : Thread nD τ).loc main_arg0)) (m ((c.tc : Thread nD τ).loc main_arg1)) h R) (vis R)
          (memScore (m ((c.tc : Thread nD τ).loc main_arg0)) (m ((c.tc : Thread nD τ).loc main_arg3)) h R)) (m ((c.tc : Thread nD τ).loc main_arg3) (ix4 1 h 0 l))) := by
  unfold coutAt
  rw [cout_at]
  simp only [iblk0_at m c t r _ h R hh hR, iblk1_at m c t _ _ h hh, iblk2_at m c t _ _ h hh, iblk3_at m c t _ h hh, iblk4_at m c t _ h hh, bias_at t r _ R hR]
  rfl

/-- A slot of the accumulator after head `n` is the sum of the weights of heads 0 to `n`. -/
theorem accS_at (c : Dev nD) (j : ℕ) (hj : j < 8) (r : Fin 256) (k : Fin 512) (R : Fin 2048) (hR : R.val = 256 * j + r.val) (n : ℕ) (hn : n < 12) :
    accS m c j n (ix3 0 r k) = ∑ h : Fin (n + 1), wt (blockScore (m ((c.tc : Thread nD τ).loc main_arg0)) (m ((c.tc : Thread nD τ).loc main_arg1)) (⟨h.val, by have := h.isLt; omega⟩ : Fin 12) R) (vis R)
      (memScore (m ((c.tc : Thread nD τ).loc main_arg0)) (m ((c.tc : Thread nD τ).loc main_arg3)) (⟨h.val, by have := h.isLt; omega⟩ : Fin 12) R) k := by
  have hp : ∀ a : ℕ, a < 96 → (ptn a).val = a := fun a ha => by unfold ptn; rw [dif_pos ha]
  induction n with
  | zero =>
    show k0_pay2 (F := Ideal) _ _ = _
    rw [pay2_at, Fin.sum_univ_one]
    exact attnAt_at m c _ r k _ R (by rw [hp j (by omega)]; show 0 = j / 8; omega) (by rw [hp j (by omega), hR]; omega)
  | succ n ih =>
    show k0_pay3 (F := Ideal) _ _ _ = _
    rw [pay3_at, Fin.sum_univ_castSucc, ih (by omega)]
    refine congrArg₂ (fun a b : EReal => a + b) rfl ?_
    exact attnAt_at m c _ r k _ R (by rw [hp _ (by omega)]; show n + 1 = _; omega) (by rw [hp _ (by omega), hR]; omega)

/-- The importance the last point stores: the weights summed over the twelve heads. -/
theorem impAll_at (c : Dev nD) (R : Fin 2048) (k : Fin 512) :
    impAll m c (ix2 R k) = ∑ h : Fin 12, wt (blockScore (m ((c.tc : Thread nD τ).loc main_arg0)) (m ((c.tc : Thread nD τ).loc main_arg1)) h R) (vis R)
      (memScore (m ((c.tc : Thread nD τ).loc main_arg0)) (m ((c.tc : Thread nD τ).loc main_arg3)) h R) k := by
  have hR := R.isLt
  exact accS_at m c (R.val / 256) (by omega) ⟨R.val % 256, Nat.mod_lt _ (by decide)⟩ k R (by show R.val = 256 * (R.val / 256) + R.val % 256; omega) 11 (by decide)

end Cert.CattnIdeal.Hand

end
-- ==== Proof.FineRefMask.lean ====
module

public import proofs.«01_k».proof.Proof.FineEntry
public import proofs.«01_k».proof.Proof.Gen.FineRefIdeal.Read
public import Idealize.ShloMosaic.Lib.Pointwise
public import Idealize.ShloMosaic.Lib.WordCmp
public import Idealize.ShloMosaic.Lib.ReduceAll

@[expose] public section

set_option maxRecDepth 16384
set_option pp.maxSteps 3000

noncomputable section

namespace Cert.FineRefIdeal.Hand

open Cert.FineRefIdeal Cert.FineRefIdeal.Read Cert.FinePure
open Idealize.ShloMosaic Idealize.ShloMosaic.TcCoe
open Cert.FineIdeal.Hand (Rounds4 exists_rounds seen)

/-- The four largest of a row: their positions and their values. -/
theorem topK_at (x : S1x1x2048x512.Idx → EReal) (hf : S1x1x2048x512.Slices (fun _ => 0) S1x1x2048x4) (R : Fin 2048) (j : Fin 4) (σ : Fin 4 → Fin 512)
    (hσ : Rounds4 (fun k => x (ix4 0 0 R k)) σ) (h0 : ∀ k, 0 ≤ x (ix4 0 0 R k)) :
    (Host.topK S1x1x2048x4 3 (FloatOps.cmpfTotal (F := Ideal) (φ := .f32) .gt) x hf).2 (ix4 0 0 R j) = BitVec.ofNat 32 (σ j).val
    ∧ (Host.topK S1x1x2048x4 3 (FloatOps.cmpfTotal (F := Ideal) (φ := .f32) .gt) x hf).1 (ix4 0 0 R j) = x (ix4 0 0 R (σ j)) := by
  have hs : ∀ {α : Type} (y : S1x1x2048x512.Idx → α), extractStridedSlice S1x1x2048x4 (fun _ => 0) y hf (ix4 0 0 R j) = y (ix4 0 0 R (j.castLE (show 4 ≤ 512 by norm_num))) := by
    intro α y
    unfold extractStridedSlice
    refine congrArg y (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  have hal : ∀ (i : Fin 512) (k : Fin 512), Shape.Idx.along (s := S1x1x2048x512) (ix4 0 0 R i) (3 : Fin 4) k = ix4 0 0 R k := by
    intro i k
    funext a
    match a with
    | ⟨0, _⟩ => rfl
    | ⟨1, _⟩ => rfl
    | ⟨2, _⟩ => rfl
    | ⟨3, _⟩ => rfl
  have hsort : ∀ (f : Fin 512 → Fin 512 → Bool) (i : Fin 512), (∀ k k', f k k' = decide (x (ix4 0 0 R k') < x (ix4 0 0 R k))) → i = j.castLE (show 4 ≤ 512 by norm_num) → sortedFrom f i = σ j := by
    intro f i hf hi
    rw [hi, show f = fun k k' => decide (x (ix4 0 0 R k') < x (ix4 0 0 R k)) from funext fun k => funext fun k' => hf k k']
    exact four_largest (by norm_num) (fun k => x (ix4 0 0 R k)) h0 σ hσ.m0 hσ.m1 hσ.m2 hσ.m3 j
  have hcmp : ∀ (i k k' : Fin 512), (FloatOps.cmpfTotal (F := Ideal) (φ := .f32) .gt (x (Shape.Idx.along (s := S1x1x2048x512) (ix4 0 0 R i) (3 : Fin 4) k)) (x (Shape.Idx.along (s := S1x1x2048x512) (ix4 0 0 R i) (3 : Fin 4) k')) == 1#1)
      = decide (x (ix4 0 0 R k') < x (ix4 0 0 R k)) := by
    intro i k k'
    rw [hal, hal, Ideal.cmpfTotal_def]
    show (BitVec.ofBool (decide (x (ix4 0 0 R k') < x (ix4 0 0 R k))) == 1#1) = decide (x (ix4 0 0 R k') < x (ix4 0 0 R k))
    cases decide (x (ix4 0 0 R k') < x (ix4 0 0 R k)) <;> rfl
  have hpos : ∀ (y : S1x1x2048x512.Idx → BitVec 32) (i : Fin 512) , i = j.castLE (show 4 ≤ 512 by norm_num) →
      (∀ a, y (ix4 0 0 R a) = BitVec.ofNat 32 a.val) →
      (Host.sort2 S1x1x2048x512 3 (fun (l r : EReal × BitVec 32) => FloatOps.cmpfTotal (F := Ideal) (φ := .f32) .gt l.1 r.1) x y).2 (ix4 0 0 R i) = BitVec.ofNat 32 (σ j).val
      ∧ (Host.sort2 S1x1x2048x512 3 (fun (l r : EReal × BitVec 32) => FloatOps.cmpfTotal (F := Ideal) (φ := .f32) .gt l.1 r.1) x y).1 (ix4 0 0 R i) = x (ix4 0 0 R (σ j)) := by
    intro y i hi hy
    unfold Host.sort2
    rw [dif_pos (show 3 < S1x1x2048x512.rank from by decide)]
    constructor
    · refine (congrArg y (hal i _)).trans ((hy _).trans (congrArg (fun z : Fin 512 => BitVec.ofNat 32 z.val) (hsort _ _ (fun k k' => hcmp i k k') hi)))
    · exact (congrArg x (hal i _)).trans (congrArg (fun z : Fin 512 => x (ix4 0 0 R z)) (hsort _ _ (fun k k' => hcmp i k k') hi))
  unfold Host.topK
  dsimp only
  rw [hs, hs]
  exact hpos _ _ rfl (fun a => rfl)

variable (x0 : (⟨S2048x512, .f32⟩ : BufTy).Contents (Elt Ideal))

theorem v0_at (R : Fin 2048) (k : Fin 512) : val_main_v0 (F := Ideal) x0 (ix4 0 0 R k) = x0 (ix2 R k) := by
  pointwise [val_main_v0]

section row
variable (hx : ∀ i, (0 : EReal) ≤ x0 i ∧ (x0 i : EReal) < ⊤) (R : Fin 2048) (σ : Fin 4 → Fin 512) (hσ : Rounds4 (fun k => x0 (ix2 R k)) σ)
include hx hσ

/-- The positions of the four largest importances of a row. -/
theorem indices_at (j : Fin 4) : val_main_indices (F := Ideal) x0 (ix4 0 0 R j) = BitVec.ofNat 32 (σ j).val :=
  (topK_at (val_main_v0 (F := Ideal) x0) _ R j σ (by simpa only [v0_at] using hσ) (fun k => by rw [v0_at]; exact (hx _).1)).1

/-- The four largest importances of a row. -/
theorem values_at (j : Fin 4) : val_main_values (F := Ideal) x0 (ix4 0 0 R j) = x0 (ix2 R (σ j)) :=
  ((topK_at (val_main_v0 (F := Ideal) x0) _ R j σ (by simpa only [v0_at] using hσ) (fun k => by rw [v0_at]; exact (hx _).1)).2).trans (v0_at x0 R (σ j))

omit hx hσ in
/-- An entry of the one-hot rows. -/
theorem onehot (a b : Fin 512) : (FloatOps.uitofp .f32 (IntOp.cmpi CmpIPredicate.eq (BitVec.ofNat 32 a.val) (BitVec.ofNat 32 b.val)) : Ideal .f32) = if a = b then (1 : EReal) else 0 := by
  have ha := a.isLt
  have hb := b.isLt
  rw [WordCmp.cmpi_eq_ofNat (by omega) (by omega)]
  by_cases h : a = b
  · subst h
    rw [if_pos rfl]
    show (((BitVec.ofBool (decide (a.val = a.val))).toNat : ℝ) : EReal) = 1
    simp
  · rw [if_neg h]
    show (((BitVec.ofBool (decide (a.val = b.val))).toNat : ℝ) : EReal) = 0
    rw [decide_eq_false (fun e => h (Fin.ext e))]
    simp

/-- A block is selected when it is one of the four. -/
theorem isSel_at (b : Fin 512) : val_main_v10 (F := Ideal) x0 (ix4 0 0 R b) = BitVec.ofBool (decide (∃ j, σ j = b)) := by
  pointwise [val_main_v10, val_main_v9, val_main_cst_1, val_main_v8, val_main_cst_0, val_main_v7, val_main_call0_v4, val_main_call0_v3, val_main_call0_v2, val_main_call0_v1, val_main_call0_v0]
  simp only [indices_at x0 hx R σ hσ, onehot]
  congr 1
  refine decide_eq_decide.mpr ⟨fun h => ?_, fun ⟨j, hj⟩ => ?_⟩
  · by_contra hn
    push Not at hn
    rw [Finset.sum_eq_zero (fun j _ => if_neg (hn j))] at h
    exact lt_irrefl _ h
  · refine lt_of_lt_of_le (zero_lt_one : (0 : EReal) < 1) ?_
    have := Finset.single_le_sum (f := fun j => if σ j = b then (1 : EReal) else 0) (fun j _ => by split_ifs <;> simp) (Finset.mem_univ j)
    simpa only [if_pos hj] using this

/-- The straight-through gate of every block is 1. -/
theorem gate_at (b : Fin 512) : val_main_v18 (F := Ideal) x0 (ix4 0 0 R b) = (1 : EReal) := by
  pointwise [val_main_v18, val_main_v17, val_main_cst_4, val_main_v16, val_main_cst_3, val_main_v15, val_main_v14, val_main_v13, val_main_v12, val_main_v11, val_main_cst_2, val_main_v6, val_main_v5, val_main_v4, val_main_cst, val_main_v7, val_main_call0_v4, val_main_call0_v3, val_main_call0_v2, val_main_call0_v1, val_main_call0_v0]
  rw [Finset.sum_eq_zero, add_zero]
  intro j _
  rw [values_at x0 hx R σ hσ j]
  have hv := hx (ix2 R (σ j))
  have : (1 + x0 (ix2 R (σ j)) - x0 (ix2 R (σ j)) - 1 : EReal) = 0 := by
    generalize (x0 (ix2 R (σ j)) : EReal) = v at hv
    lift v to ℝ using ⟨hv.2.ne, (lt_of_lt_of_le (EReal.bot_lt_zero) hv.1).ne'⟩
    rw [← EReal.coe_one, ← EReal.coe_add, ← EReal.coe_sub, ← EReal.coe_sub, show (1 + v - v - 1 : ℝ) = 0 by ring, EReal.coe_zero]
  exact (congrArg _ this).trans (mul_zero _)

end row

/-- The block of a key: its number divided by 4. -/
theorem blk_at (k : Fin 2048) : val_main_v20 (F := Ideal) (ix1 k) = BitVec.ofNat 32 (k.val / 4) := by
  pointwise [val_main_v20, val_main_v19, val_main_c, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0]
  show Scalar.select
      (IntOp.andi
        (IntOp.cmpi CmpIPredicate.ne
          (if BitVec.ofNat 32 k.val = 0 then 0 else if (BitVec.ofNat 32 k.val).msb = true then -1 else 1)
          (if 4#32 = 0 then 0 else if BitVec.msb 4#32 = true then -1 else 1))
        (IntOp.cmpi CmpIPredicate.ne (IntOp.remsi ArithUnit.host (BitVec.ofNat 32 k.val) 4#32) 0#32))
      (IntOp.subi (IntOp.divsi ArithUnit.host (BitVec.ofNat 32 k.val) 4#32) 1#32)
      (IntOp.divsi ArithUnit.host (BitVec.ofNat 32 k.val) 4#32) = BitVec.ofNat 32 (k.val / 4)
  revert k
  decide +kernel

/-- The gather along the last axis, read at one of its entries. -/
theorem gather_at {α : Type} (x : S1x1x2048x512.Idx → α) (idx : S2048x1.Idx → BitVec 32) (R k : Fin 2048) (b : Fin 512)
    (hb : idx (ix2 k 0) = BitVec.ofNat 32 b.val) :
    Host.gather gather_S1x1x2048x512_S2048x1_S1x1x2048x2048_012_3_n_n_3_1_1120481 x idx (ix4 0 0 R k) = x (ix4 0 0 R b) := by
  unfold Host.gather
  congr 1
  funext a
  refine Fin.ext ?_
  have hb' := b.isLt
  match a with
  | ⟨0, _⟩ => rfl
  | ⟨1, _⟩ => rfl
  | ⟨2, _⟩ =>
    show GatherDims.start gather_S1x1x2048x512_S2048x1_S1x1x2048x2048_012_3_n_n_3_1_1120481 (ix4 0 0 R k) idx 2 + GatherDims.batchCoord gather_S1x1x2048x512_S2048x1_S1x1x2048x2048_012_3_n_n_3_1_1120481 (ix4 0 0 R k) 2 + GatherDims.offCoord gather_S1x1x2048x512_S2048x1_S1x1x2048x2048_012_3_n_n_3_1_1120481 (ix4 0 0 R k) 2 = R.val
    rw [GatherDims.batchCoord_eq_zero _ _ _ List.not_mem_nil]
    unfold GatherDims.start
    rw [dif_neg (show ¬ (2 : Fin 4) ∈ gather_S1x1x2048x512_S2048x1_S1x1x2048x2048_012_3_n_n_3_1_1120481.startIndexMap from by decide)]
    show 0 + 0 + R.val = R.val
    omega
  | ⟨3, _⟩ =>
    show GatherDims.start gather_S1x1x2048x512_S2048x1_S1x1x2048x2048_012_3_n_n_3_1_1120481 (ix4 0 0 R k) idx 3 + GatherDims.batchCoord gather_S1x1x2048x512_S2048x1_S1x1x2048x2048_012_3_n_n_3_1_1120481 (ix4 0 0 R k) 3 + GatherDims.offCoord gather_S1x1x2048x512_S2048x1_S1x1x2048x2048_012_3_n_n_3_1_1120481 (ix4 0 0 R k) 3 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (3 : Fin 4) ∈ gather_S1x1x2048x512_S2048x1_S1x1x2048x2048_012_3_n_n_3_1_1120481.startIndexMap from List.mem_singleton.mpr rfl)]
    have hsi : gather_S1x1x2048x512_S2048x1_S1x1x2048x2048_012_3_n_n_3_1_1120481.siIdx (ix4 0 0 R k) ⟨List.idxOf (3 : Fin 4) gather_S1x1x2048x512_S2048x1_S1x1x2048x2048_012_3_n_n_3_1_1120481.startIndexMap,
        List.idxOf_lt_length_iff.2 (List.mem_singleton.mpr rfl)⟩ = ix2 k 0 := by
      funext b
      refine Fin.ext ?_
      match b with
      | ⟨0, _⟩ => rfl
      | ⟨1, _⟩ => rfl
    rw [hsi, hb]
    show min (BitVec.ofNat 32 b.val).toInt.toNat 511 + 0 + 0 = b.val
    have : (BitVec.ofNat 32 b.val).toInt = b.val := by
      rw [BitVec.toInt_eq_toNat_of_lt (by rw [BitVec.toNat_ofNat]; omega), BitVec.toNat_ofNat]
      omega
    rw [this]
    omega

/-- The index the take reads at. -/
theorem take_idx (k : Fin 2048) : val_main_call2_v5 (F := Ideal) (ix2 k 0) = BitVec.ofNat 32 (k.val / 4) := by
  pointwise [val_main_call2_v5, val_main_call2_v4, val_main_call2_v3, val_main_call2_v2, val_main_call2_v1, val_main_call2_v0, val_main_call2_c, val_main_call2_c_0]
  rw [blk_at]
  revert k
  decide +kernel

/-- The take's index is in range. -/
theorem take_ok (k : Fin 2048) : val_main_call2_v12 (F := Ideal) (ix1 k) = 1#1 := by
  unfold val_main_call2_v12
  refine Host.reduce_andi_one _ _ _ _ _ rfl fun i => ?_
  obtain ⟨k, z, rfl⟩ : ∃ (k : Fin 2048) (z : Fin 1), i = ix2 k z := ⟨i 0, i 1, by funext a; match a with | ⟨0, _⟩ => rfl | ⟨1, _⟩ => rfl⟩
  obtain rfl : z = 0 := Subsingleton.elim _ _
  show IntOp.andi (IntOp.cmpi .sge (val_main_call2_v5 (F := Ideal) (ix2 k 0)) 0#32) (IntOp.cmpi .sle (val_main_call2_v5 (F := Ideal) (ix2 k 0)) 511#32) = 1#1
  rw [take_idx]
  revert k
  decide +kernel

/-- The second take reads at the same index. -/
theorem take_idx' (k : Fin 2048) : val_main_call3_v5 (F := Ideal) (ix2 k 0) = BitVec.ofNat 32 (k.val / 4) := by
  pointwise [val_main_call3_v5, val_main_call3_v4, val_main_call3_v3, val_main_call3_v2, val_main_call3_v1, val_main_call3_v0, val_main_call3_c, val_main_call3_c_0]
  rw [blk_at]
  revert k
  decide +kernel

/-- The second take's index is in range. -/
theorem take_ok' (k : Fin 2048) : val_main_call3_v12 (F := Ideal) (ix1 k) = 1#1 := by
  unfold val_main_call3_v12
  refine Host.reduce_andi_one _ _ _ _ _ rfl fun i => ?_
  obtain ⟨k, z, rfl⟩ : ∃ (k : Fin 2048) (z : Fin 1), i = ix2 k z := ⟨i 0, i 1, by funext a; match a with | ⟨0, _⟩ => rfl | ⟨1, _⟩ => rfl⟩
  obtain rfl : z = 0 := Subsingleton.elim _ _
  show IntOp.andi (IntOp.cmpi .sge (val_main_call3_v5 (F := Ideal) (ix2 k 0)) 0#32) (IntOp.cmpi .sle (val_main_call3_v5 (F := Ideal) (ix2 k 0)) 511#32) = 1#1
  rw [take_idx']
  revert k
  decide +kernel

section row
variable (hx : ∀ i, (0 : EReal) ≤ x0 i ∧ (x0 i : EReal) < ⊤) (R : Fin 2048) (σ : Fin 4 → Fin 512) (hσ : Rounds4 (fun k => x0 (ix2 R k)) σ)
include hx hσ

/-- Whether the block of key `k` is selected by row `R`. -/
theorem sel_at (k : Fin 2048) : val_main_v31 (F := Ideal) x0 (ix4 0 0 R k) = BitVec.ofBool (decide (∃ j, (σ j).val = k.val / 4)) := by
  pointwise [val_main_v31, val_main_call2_v14, val_main_call2_v15]
  rw [take_ok]
  show val_main_call2_v13 (F := Ideal) x0 (ix4 0 0 R k) = _
  unfold val_main_call2_v13
  rw [gather_at _ _ R k ⟨k.val / 4, by omega⟩ (take_idx k), isSel_at x0 hx R σ hσ]
  congr 1
  exact decide_eq_decide.mpr ⟨fun ⟨j, h⟩ => ⟨j, congrArg Fin.val h⟩, fun ⟨j, h⟩ => ⟨j, Fin.ext h⟩⟩

/-- The gate of the block of key `k`. -/
theorem gateTake_at (k : Fin 2048) : val_main_v32 (F := Ideal) x0 (ix4 0 0 R k) = (1 : EReal) := by
  pointwise [val_main_v32, val_main_call3_v14, val_main_call3_v15]
  rw [take_ok']
  show val_main_call3_v13 (F := Ideal) x0 (ix4 0 0 R k) = _
  unfold val_main_call3_v13
  rw [gather_at _ _ R k ⟨k.val / 4, by omega⟩ (take_idx' k), gate_at x0 hx R σ hσ]

end row

end Cert.FineRefIdeal.Hand
-- ==== Proof.FineRefEntry.lean ====
module

public import proofs.«01_k».proof.Proof.FineRefMask

@[expose] public section

set_option maxRecDepth 16384
set_option pp.maxSteps 3000

noncomputable section

namespace Cert.FineRefIdeal.Hand

open Cert.FineRefIdeal Cert.FineRefIdeal.Read Cert.FinePure
open Idealize.ShloMosaic Idealize.ShloMosaic.TcCoe
open Cert.FineIdeal.Hand (Rounds4 exists_rounds seen score att ofBits_negInf)

variable (x0 : (⟨S2048x512, .f32⟩ : BufTy).Contents (Elt Ideal)) (x1 x2 x3 : (⟨S12x2048x64, .f32⟩ : BufTy).Contents (Elt Ideal))

/-- The largest of a masked row of real scores with one score left in is a real. -/
theorem rowMax {n : ℕ} (x : Fin n → EReal) (P : Fin n → Prop) [DecidablePred P] (s : Fin n → ℝ) (hP : ∃ k, P k)
    (hx : ∀ k, x k = if P k then (s k : EReal) else ⊥) : ∃ m : ℝ, max ⊥ (Finset.univ.fold max ⊥ x) = (m : EReal) := by
  obtain ⟨k1, h1⟩ := hP
  obtain ⟨k0, -, h0⟩ := Finset.exists_max_image Finset.univ x ⟨k1, Finset.mem_univ _⟩
  have e : Finset.univ.fold max ⊥ x = x k0 :=
    le_antisymm (Finset.fold_max_le _ |>.mpr ⟨bot_le, fun k hk => h0 k hk⟩) (Finset.le_fold_max _ |>.mpr (Or.inr ⟨k0, Finset.mem_univ _, le_rfl⟩))
  have h2 := h0 k1 (Finset.mem_univ _)
  rw [hx k1, if_pos h1, hx k0] at h2
  by_cases h : P k0
  · exact ⟨s k0, by rw [max_eq_right bot_le, e, hx, if_pos h]⟩
  · rw [if_neg h] at h2
    exact absurd h2 (by simp)

/-- The scale is a real. -/
theorem scale_real : Ideal.ofBits FTy.f32 1039516303#32 = (((16106127 : ℝ) / 134217728 : ℝ) : EReal) := by
  simp [Ideal.ofBits, Ideal.ieee, -EReal.coe_mul]; norm_num

/-- A scaled score of real queries and keys is a real. -/
theorem score_real (hq : ∀ i, ∃ r : ℝ, (x1 i : EReal) = r) (hk : ∀ i, ∃ r : ℝ, (x2 i : EReal) = r) (h : Fin 12) (R j : Fin 2048) :
    ∃ r : ℝ, (score x1 x2 h R j * Ideal.ofBits FTy.f32 1039516303#32 : EReal) = r := by
  choose q hq using hq
  choose k hk using hk
  refine ⟨(∑ d : Fin 64, q (ix3 h R d) * k (ix3 h j d)) * (16106127 / 134217728), ?_⟩
  rw [scale_real, EReal.coe_mul, coe_sum]
  unfold score
  congr 1
  refine Finset.sum_congr rfl fun d _ => ?_
  rw [EReal.coe_mul, ← hq, ← hk]

/-- The scaled scores with every key the row does not see at −∞. -/
theorem masked_at (hx : ∀ i, (0 : EReal) ≤ x0 i ∧ (x0 i : EReal) < ⊤) (h : Fin 12) (R k : Fin 2048) (σ : Fin 4 → Fin 512) (hσ : Rounds4 (fun k => x0 (ix2 R k)) σ) :
    val_main_v40 (F := Ideal) x0 x1 x2 (ix4 0 h R k) = if seen σ R k then (score x1 x2 h R k * Ideal.ofBits FTy.f32 1039516303#32 : EReal) else ⊥ := by
  pointwise [val_main_v40, val_main_call4_v0, val_main_call4_v1, val_main_call4_v2, val_main_cst_6, val_main_v39, val_main_v38, val_main_cst_5, val_main_v37, val_main_v1, val_main_v2, val_main_v36, val_main_v35, val_main_v34, val_main_v33, val_main_v30, val_main_v29, val_main_v28, val_main_v27, val_main_v26, val_main_v25, val_main_v24, val_main_v23, val_main_v22, val_main_v21, val_main_v19]
  rw [blk_at, blk_at, sel_at x0 hx R σ hσ]
  have hR := R.isLt
  have hk := k.isLt
  rw [WordCmp.cmpi_eq_ofNat (by omega) (by omega), WordCmp.cmpi_sge_ofNat (by omega) (by omega)]
  have hc : IntOp.andi (BitVec.ofBool (decide (k.val ≤ R.val))) (IntOp.ori (BitVec.ofBool (decide (R.val / 4 = k.val / 4))) (BitVec.ofBool (decide (∃ j, (σ j).val = k.val / 4))))
      = BitVec.ofBool (decide (seen σ R k)) := by
    have : decide (seen σ R k) = (decide (k.val ≤ R.val) && (decide (R.val / 4 = k.val / 4) || decide (∃ j, (σ j).val = k.val / 4))) := by
      rw [← Bool.decide_or, ← Bool.decide_and]
      refine decide_eq_decide.mpr ?_
      unfold seen
      rw [eq_comm (a := R.val / 4), and_comm]
    rw [this]
    cases decide (k.val ≤ R.val) <;> cases decide (R.val / 4 = k.val / 4) <;> cases decide (∃ j, (σ j).val = k.val / 4) <;> rfl
  rw [hc]
  unfold score
  by_cases hs : seen σ R k
  · rw [if_pos hs, decide_eq_true hs]
    rfl
  · rw [if_neg hs, decide_eq_false hs]
    exact ofBits_negInf

/-- Row less key below 32, in machine words. -/
theorem near (R k : Fin 2048) : IntOp.cmpi .slt (IntOp.subi (BitVec.ofNat 32 R.val) (BitVec.ofNat 32 k.val)) 32#32 = BitVec.ofBool (decide (R.val < k.val + 32)) := by
  have hR := R.isLt
  have hk := k.isLt
  rw [WordCmp.cmpi_slt_eq]
  show BitVec.ofBool (decide ((BitVec.ofNat 32 R.val - BitVec.ofNat 32 k.val).toInt < 32)) = _
  rw [BitVec.toInt_sub, WordCmp.toInt_ofNat_of_lt (by omega), WordCmp.toInt_ofNat_of_lt (by omega)]
  congr 1
  refine decide_eq_decide.mpr ?_
  simp only [Int.bmod]
  omega

/-- The window's scaled scores with every key out of the window at −∞. -/
theorem winMasked_at (h : Fin 12) (R k : Fin 2048) :
    val_main_v68 (F := Ideal) x1 x2 (ix4 0 h R k) = if k.val ≤ R.val ∧ R.val < k.val + 32 then (score x1 x2 h R k * Ideal.ofBits FTy.f32 1039516303#32 : EReal) else ⊥ := by
  pointwise [val_main_v68, val_main_call6_v0, val_main_call6_v1, val_main_call6_v2, val_main_cst_13, val_main_v67, val_main_v66, val_main_v65, val_main_cst_12, val_main_v64, val_main_v63, val_main_v62, val_main_v61, val_main_c_11, val_main_v60, val_main_v59, val_main_v58, val_main_v57, val_main_v56, val_main_v25, val_main_v24, val_main_v23, val_main_v22, val_main_v21, val_main_v19, val_main_v1, val_main_v2]
  have hR := R.isLt
  have hk := k.isLt
  rw [WordCmp.cmpi_sge_ofNat (by omega) (by omega)]
  have hc : IntOp.andi (BitVec.ofBool (decide (k.val ≤ R.val))) (IntOp.cmpi .slt (IntOp.subi (BitVec.ofNat 32 R.val) (BitVec.ofNat 32 k.val)) 32#32)
      = BitVec.ofBool (decide (k.val ≤ R.val ∧ R.val < k.val + 32)) := by
    rw [near, WordCmp.andi_ofBool, Bool.decide_and]
  rw [hc]
  unfold score
  by_cases hs : k.val ≤ R.val ∧ R.val < k.val + 32
  · rw [if_pos hs, decide_eq_true hs]
    rfl
  · rw [if_neg hs, decide_eq_false hs]
    exact ofBits_negInf

/-- A row's maximum, read at an index. -/
theorem redMax (y : S1x12x2048x2048.Idx → EReal) (init : S_.Idx → EReal) (h : Fin 12) (R : Fin 2048) :
    Host.reduce (FloatOps.maximumf (F := Ideal) (φ := .f32)) y init Gen.reducesTo_S1x12x2048x2048_S1x12x2048_d3 Gen.h_S_ (ix3 0 h R)
      = Finset.univ.fold max (init (Shape.Idx.first Gen.h_S_)) (fun k : Fin 2048 => y (ix4 0 h R k)) := by
  pointwise []

/-- The row's largest masked score. -/
theorem max_at (h : Fin 12) (R : Fin 2048) : val_main_v43 (F := Ideal) x0 x1 x2 (ix3 0 h R) = max ⊥ (Finset.univ.fold max ⊥ fun k : Fin 2048 => (val_main_v40 (F := Ideal) x0 x1 x2 (ix4 0 h R k) : EReal)) := by
  rw [val_main_v43_apply, val_main_v42_apply]
  show max (Ideal.ofBits .f32 0xFF800000#32) (val_main_v41 (F := Ideal) x0 x1 x2 (ix3 0 h R) : EReal) = _
  unfold val_main_v41
  generalize val_main_v40 (F := Ideal) x0 x1 x2 = y
  rw [ofBits_negInf]
  refine congrArg _ ((redMax y _ h R).trans ?_)
  show Finset.fold max (Ideal.ofBits .f32 0xFF800000#32) _ _ = _
  rw [ofBits_negInf]

/-- The window's largest masked score. -/
theorem winMax_at (h : Fin 12) (R : Fin 2048) : val_main_v71 (F := Ideal) x1 x2 (ix3 0 h R) = max ⊥ (Finset.univ.fold max ⊥ fun k : Fin 2048 => (val_main_v68 (F := Ideal) x1 x2 (ix4 0 h R k) : EReal)) := by
  rw [val_main_v71_apply, val_main_v70_apply]
  show max (Ideal.ofBits .f32 0xFF800000#32) (val_main_v69 (F := Ideal) x1 x2 (ix3 0 h R) : EReal) = _
  unfold val_main_v69
  generalize val_main_v68 (F := Ideal) x1 x2 = y
  rw [ofBits_negInf]
  refine congrArg _ ((redMax y _ h R).trans ?_)
  show Finset.fold max (Ideal.ofBits .f32 0xFF800000#32) _ _ = _
  rw [ofBits_negInf]

/-- The unnormalised weight of a key. -/
theorem exp_at (h : Fin 12) (R k : Fin 2048) : val_main_v47 (F := Ideal) x0 x1 x2 (ix4 0 h R k) = Ideal.exp (@HSub.hSub EReal EReal EReal _ (val_main_v40 (F := Ideal) x0 x1 x2 (ix4 0 h R k)) (val_main_v43 (F := Ideal) x0 x1 x2 (ix3 0 h R))) := by
  rw [val_main_v47_apply, val_main_v46_apply, val_main_v45_apply, val_main_v44_apply]
  generalize val_main_v43 (F := Ideal) x0 x1 x2 = z
  exact congrArg (fun i => Ideal.exp (@HSub.hSub EReal EReal EReal _ (val_main_v40 (F := Ideal) x0 x1 x2 (ix4 0 h R k)) (z i)))
    (funext fun a => match a with | ⟨0, _⟩ => rfl | ⟨1, _⟩ => rfl | ⟨2, _⟩ => rfl)

/-- The window's unnormalised weight of a key. -/
theorem winExp_at (h : Fin 12) (R k : Fin 2048) : val_main_v75 (F := Ideal) x1 x2 (ix4 0 h R k) = Ideal.exp (@HSub.hSub EReal EReal EReal _ (val_main_v68 (F := Ideal) x1 x2 (ix4 0 h R k)) (val_main_v71 (F := Ideal) x1 x2 (ix3 0 h R))) := by
  rw [val_main_v75_apply, val_main_v74_apply, val_main_v73_apply, val_main_v72_apply]
  generalize val_main_v71 (F := Ideal) x1 x2 = z
  exact congrArg (fun i => Ideal.exp (@HSub.hSub EReal EReal EReal _ (val_main_v68 (F := Ideal) x1 x2 (ix4 0 h R k)) (z i)))
    (funext fun a => match a with | ⟨0, _⟩ => rfl | ⟨1, _⟩ => rfl | ⟨2, _⟩ => rfl)

/-- The sum a row's weights are divided by. -/
theorem den_at (h : Fin 12) (R k : Fin 2048) : val_main_v50 (F := Ideal) x0 x1 x2 (ix4 0 h R k) = ∑ j : Fin 2048, (val_main_v47 (F := Ideal) x0 x1 x2 (ix4 0 h R j) : EReal) := by
  rw [val_main_v50_apply, val_main_v49_apply, val_main_v48_apply]
  generalize val_main_v47 (F := Ideal) x0 x1 x2 = z
  have e : ∀ j : Fin 2048, idx_main_v48 (idx_main_v49 (idx_main_v50 (ix4 0 h R k))) j = ix4 0 h R j := fun j => funext fun a => match a with | ⟨0, _⟩ => rfl | ⟨1, _⟩ => rfl | ⟨2, _⟩ => rfl | ⟨3, _⟩ => rfl
  have z0 : (val_main_cst_9 (F := Ideal) (Shape.Idx.first Gen.h_S_) : EReal) = 0 := Ideal.ofBits_zero_f32
  exact (congrArg (fun w : EReal => w + _) z0).trans ((zero_add _).trans (Finset.sum_congr rfl fun j _ => congrArg z (e j)))

/-- The sum the window's weights are divided by. -/
theorem winDen_at (h : Fin 12) (R k : Fin 2048) : val_main_v78 (F := Ideal) x1 x2 (ix4 0 h R k) = ∑ j : Fin 2048, (val_main_v75 (F := Ideal) x1 x2 (ix4 0 h R j) : EReal) := by
  rw [val_main_v78_apply, val_main_v77_apply, val_main_v76_apply]
  generalize val_main_v75 (F := Ideal) x1 x2 = z
  have e : ∀ j : Fin 2048, idx_main_v76 (idx_main_v77 (idx_main_v78 (ix4 0 h R k))) j = ix4 0 h R j := fun j => funext fun a => match a with | ⟨0, _⟩ => rfl | ⟨1, _⟩ => rfl | ⟨2, _⟩ => rfl | ⟨3, _⟩ => rfl
  have z0 : (val_main_cst_16 (F := Ideal) (Shape.Idx.first Gen.h_S_) : EReal) = 0 := Ideal.ofBits_zero_f32
  exact (congrArg (fun w : EReal => w + _) z0).trans ((zero_add _).trans (Finset.sum_congr rfl fun j _ => congrArg z (e j)))

/-- A value of head `h`. -/
theorem v3_at (h : Fin 12) (k : Fin 2048) (l : Fin 64) : val_main_v3 (F := Ideal) x3 (ix4 0 h k l) = x3 (ix3 h k l) := by
  pointwise [val_main_v3]

/-- The gate a key's weight is multiplied by is 1. -/
theorem gateSel_at (hx : ∀ i, (0 : EReal) ≤ x0 i ∧ (x0 i : EReal) < ⊤) (h : Fin 12) (R k : Fin 2048) (σ : Fin 4 → Fin 512) (hσ : Rounds4 (fun k => x0 (ix2 R k)) σ) :
    val_main_v53 (F := Ideal) x0 (ix4 0 h R k) = (1 : EReal) := by
  rw [val_main_v53_apply, show idx_main_v53 (ix4 0 h R k) = ix4 0 0 R k from funext fun a => match a with | ⟨0, _⟩ => rfl | ⟨1, _⟩ => rfl | ⟨2, _⟩ => rfl | ⟨3, _⟩ => rfl,
    val_main_v52_apply, gateTake_at x0 hx R σ hσ, sel_at x0 hx R σ hσ]
  cases decide (∃ j, (σ j).val = k.val / 4)
  · show Ideal.ofBits .f32 0x3F800000#32 = 1
    simp [Ideal.ofBits, Ideal.ieee, -EReal.coe_mul]; norm_num
  · rfl

/-- A stable softmax over the keys left in is the unstabilised quotient of the kernel. -/
theorem soft (s : Fin 2048 → EReal) (hs : ∀ k, ∃ r : ℝ, s k * Ideal.ofBits FTy.f32 1039516303#32 = (r : EReal)) (P : Fin 2048 → Prop) [DecidablePred P] (hP : ∃ k, P k)
    (x v : Fin 2048 → EReal) (hx : ∀ k, x k = if P k then s k * Ideal.ofBits FTy.f32 1039516303#32 else ⊥) (M : EReal) (hM : M = max ⊥ (Finset.univ.fold max ⊥ x)) :
    ∑ k, Ideal.div (Ideal.exp (x k - M)) (∑ j, Ideal.exp (x j - M)) * v k = att s (fun k => if P k then 1 else 0) v := by
  choose r hr using hs
  have hx' : ∀ k, x k = if P k then (r k : EReal) else ⊥ := fun k => by rw [hx, hr]
  obtain ⟨m, hm⟩ := rowMax x P r hP hx'
  rw [hM, hm, ← softmax_eq r P hP v m _ x (fun k => rfl) hx']
  unfold att
  simp only [hr]

/-- Entry of the selected branch of the reference. -/
theorem fine_at (hx : ∀ i, (0 : EReal) ≤ x0 i ∧ (x0 i : EReal) < ⊤) (hq : ∀ i, ∃ r : ℝ, (x1 i : EReal) = r) (hk : ∀ i, ∃ r : ℝ, (x2 i : EReal) = r)
    (h : Fin 12) (R : Fin 2048) (l : Fin 64) (σ : Fin 4 → Fin 512) (hσ : Rounds4 (fun k => x0 (ix2 R k)) σ) :
    val_main_v81 (F := Ideal) x0 x1 x2 x3 (ix3 h R l) = att (score x1 x2 h R) (fun k => if seen σ R k then 1 else 0) (fun k => x3 (ix3 h k l)) := by
  have hh := h.isLt
  have hR := R.isLt
  have hl := l.isLt
  rw [val_main_v81_apply, show idx_main_v81 (ix3 h R l) = ix4 0 h R l from funext fun a => Fin.ext (match a with
    | ⟨0, _⟩ => rfl
    | ⟨1, _⟩ => by show ((h.val * 2048 + R.val) * 64 + l.val) / 131072 % 12 = h.val; omega
    | ⟨2, _⟩ => by show ((h.val * 2048 + R.val) * 64 + l.val) / 64 % 2048 = R.val; omega
    | ⟨3, _⟩ => by show ((h.val * 2048 + R.val) * 64 + l.val) % 64 = l.val; omega), val_main_v55_apply]
  refine Eq.trans ?_ (soft (score x1 x2 h R) (score_real x1 x2 hq hk h R) (seen σ R) ⟨R, Or.inl rfl, le_rfl⟩
    (fun k => val_main_v40 (F := Ideal) x0 x1 x2 (ix4 0 h R k)) (fun k => x3 (ix3 h k l)) (fun k => masked_at x0 x1 x2 hx h R k σ hσ) _ (max_at x0 x1 x2 h R))
  refine Finset.sum_congr rfl fun k _ => ?_
  rw [show lidx_main_v55 (ix4 0 h R l) k = ix4 0 h R k from funext fun a => match a with | ⟨0, _⟩ => rfl | ⟨1, _⟩ => rfl | ⟨2, _⟩ => rfl | ⟨3, _⟩ => rfl,
    show ridx_main_v55 (ix4 0 h R l) k = ix4 0 h k l from funext fun a => match a with | ⟨0, _⟩ => rfl | ⟨1, _⟩ => rfl | ⟨2, _⟩ => rfl | ⟨3, _⟩ => rfl,
    v3_at, val_main_v54_apply, val_main_v51_apply, gateSel_at x0 hx h R k σ hσ, den_at]
  simp only [exp_at]
  exact congrArg (· * _) (mul_one _)

/-- Entry of the window branch of the reference. -/
theorem win_at (hq : ∀ i, ∃ r : ℝ, (x1 i : EReal) = r) (hk : ∀ i, ∃ r : ℝ, (x2 i : EReal) = r) (h : Fin 12) (R : Fin 2048) (l : Fin 64) :
    val_main_v82 (F := Ideal) x1 x2 x3 (ix3 h R l) = att (score x1 x2 h R) (fun k => if k.val ≤ R.val ∧ R.val < k.val + 32 then 1 else 0) (fun k => x3 (ix3 h k l)) := by
  have hh := h.isLt
  have hR := R.isLt
  have hl := l.isLt
  rw [val_main_v82_apply, show idx_main_v82 (ix3 h R l) = ix4 0 h R l from funext fun a => Fin.ext (match a with
    | ⟨0, _⟩ => rfl
    | ⟨1, _⟩ => by show ((h.val * 2048 + R.val) * 64 + l.val) / 131072 % 12 = h.val; omega
    | ⟨2, _⟩ => by show ((h.val * 2048 + R.val) * 64 + l.val) / 64 % 2048 = R.val; omega
    | ⟨3, _⟩ => by show ((h.val * 2048 + R.val) * 64 + l.val) % 64 = l.val; omega), val_main_v80_apply]
  refine Eq.trans ?_ (soft (score x1 x2 h R) (score_real x1 x2 hq hk h R) (fun k => k.val ≤ R.val ∧ R.val < k.val + 32) ⟨R, le_rfl, by omega⟩
    (fun k => val_main_v68 (F := Ideal) x1 x2 (ix4 0 h R k)) (fun k => x3 (ix3 h k l)) (fun k => winMasked_at x1 x2 h R k) _ (winMax_at x1 x2 h R))
  refine Finset.sum_congr rfl fun k _ => ?_
  rw [show lidx_main_v80 (ix4 0 h R l) k = ix4 0 h R k from funext fun a => match a with | ⟨0, _⟩ => rfl | ⟨1, _⟩ => rfl | ⟨2, _⟩ => rfl | ⟨3, _⟩ => rfl,
    show ridx_main_v80 (ix4 0 h R l) k = ix4 0 h k l from funext fun a => match a with | ⟨0, _⟩ => rfl | ⟨1, _⟩ => rfl | ⟨2, _⟩ => rfl | ⟨3, _⟩ => rfl,
    v3_at, val_main_v79_apply, winDen_at]
  simp only [winExp_at]
  rfl

end Cert.FineRefIdeal.Hand
-- ==== Proof.CattnRefEntry.lean ====
module

public import proofs.«01_k».proof.Proof.CattnEntry
public import proofs.«01_k».proof.Proof.FineRefEntry
public import proofs.«01_k».proof.Proof.Gen.CattnRefIdeal.Read

@[expose] public section

set_option maxRecDepth 16384

noncomputable section

namespace Cert.CattnRefIdeal.Hand

open Cert.CattnRefIdeal Cert.CattnRefIdeal.Read Cert.FinePure
open Idealize.ShloMosaic Idealize.ShloMosaic.TcCoe
open Cert.FineIdeal.Hand (ofBits_negInf)
open Cert.FineRefIdeal.Hand (scale_real rowMax)
open Cert.CattnIdeal.Hand (blockScore memScore vis wt wm weights_eq)

variable (x0 : (⟨S12x2048x64, .f32⟩ : BufTy).Contents (Elt Ideal)) (x1 x2 : (⟨S12x512x64, .f32⟩ : BufTy).Contents (Elt Ideal)) (x3 : (⟨S2x12x1x64, .f32⟩ : BufTy).Contents (Elt Ideal))

/-- A scaled block score of real queries and keys is a real. -/
theorem blockScore_real (hq : ∀ i, ∃ r : ℝ, (x0 i : EReal) = r) (hk : ∀ i, ∃ r : ℝ, (x1 i : EReal) = r) (h : Fin 12) (R : Fin 2048) (k : Fin 512) :
    ∃ r : ℝ, blockScore x0 x1 h R k = (r : EReal) := by
  choose a ha using hq
  choose b hb using hk
  refine ⟨(∑ d : Fin 64, a (ix3 h R d) * b (ix3 h k d)) * (16106127 / 134217728), ?_⟩
  unfold blockScore
  rw [scale_real, EReal.coe_mul, coe_sum]
  congr 1
  refine Finset.sum_congr rfl fun d _ => ?_
  rw [EReal.coe_mul, ← ha, ← hb]

/-- A scaled memory score of real queries and memory keys is a real. -/
theorem memScore_real (hq : ∀ i, ∃ r : ℝ, (x0 i : EReal) = r) (hm : ∀ h d, ∃ r : ℝ, (x3 (ix4 0 h 0 d) : EReal) = r) (h : Fin 12) (R : Fin 2048) :
    ∃ r : ℝ, memScore x0 x3 h R = (r : EReal) := by
  choose a ha using hq
  choose b hb using hm
  refine ⟨(∑ d : Fin 64, a (ix3 h R d) * b h d) * (16106127 / 134217728), ?_⟩
  unfold memScore
  rw [scale_real, EReal.coe_mul, coe_sum]
  congr 1
  refine Finset.sum_congr rfl fun d _ => ?_
  rw [EReal.coe_mul, ← ha, ← hb]

/-- The first key is the memory's. -/
theorem keys_zero (h : Fin 12) (d : Fin 64) : val_main_v9 (F := Ideal) x1 x3 (ix4 0 h 0 d) = x3 (ix4 0 h 0 d) := by
  pointwise [val_main_v9, val_main_v5, val_main_v4, val_main_v3, val_main_v1]

/-- The other keys are the compressed blocks'. -/
theorem keys_succ (h : Fin 12) (k : Fin 512) (d : Fin 64) : val_main_v9 (F := Ideal) x1 x3 (ix4 0 h k.succ d) = x1 (ix3 h k d) := by
  pointwise [val_main_v9, val_main_v5, val_main_v4, val_main_v3, val_main_v1]
  rw [dif_neg (by rw [Fin.val_succ]; omega)]
  exact congrArg x1 (congrArg (fun k => ix3 h k d) (Fin.ext (by show k.succ.val - 1 = k.val; rw [Fin.val_succ]; omega)))

/-- The first value is the memory's. -/
theorem vals_zero (h : Fin 12) (d : Fin 64) : val_main_v10 (F := Ideal) x2 x3 (ix4 0 h 0 d) = x3 (ix4 1 h 0 d) := by
  pointwise [val_main_v10, val_main_v8, val_main_v7, val_main_v6, val_main_v2]

/-- The other values are the compressed blocks'. -/
theorem vals_succ (h : Fin 12) (k : Fin 512) (d : Fin 64) : val_main_v10 (F := Ideal) x2 x3 (ix4 0 h k.succ d) = x2 (ix3 h k d) := by
  pointwise [val_main_v10, val_main_v8, val_main_v7, val_main_v6, val_main_v2]
  rw [dif_neg (by rw [Fin.val_succ]; omega)]
  exact congrArg x2 (congrArg (fun k => ix3 h k d) (Fin.ext (by show k.succ.val - 1 = k.val; rw [Fin.val_succ]; omega)))

/-- The memory's end is before every row. -/
theorem end_zero : (val_main_v20 (F := Ideal) (ix1 0) : BitVec 32) = 4294967295#32 := by
  pointwise [val_main_v20, val_main_v19, val_main_v18, val_main_v17, val_main_v16, val_main_v15, val_main_v14, val_main_v13, val_main_v12, val_main_c, val_main_c_0, val_main_c_1, val_main_c_2]

/-- Block `k` ends at position `4 k + 3`. -/
theorem end_succ (k : Fin 512) : (val_main_v20 (F := Ideal) (ix1 k.succ) : BitVec 32) = BitVec.ofNat 32 (4 * k.val + 3) := by
  pointwise [val_main_v20, val_main_v19, val_main_v18, val_main_v17, val_main_v16, val_main_v15, val_main_v14, val_main_v13, val_main_v12, val_main_c, val_main_c_0, val_main_c_1, val_main_c_2]
  rw [dif_neg (by rw [Fin.val_succ]; omega)]
  have hk := k.isLt
  have e : k.succ.val - 1 = k.val := by rw [Fin.val_succ]; omega
  show (BitVec.ofNat 32 (k.succ.val - 1) + 1#32) * 4#32 - 1#32 = _
  rw [e]
  apply BitVec.eq_of_toNat_eq
  simp only [BitVec.toNat_sub, BitVec.toNat_add, BitVec.toNat_mul, BitVec.toNat_ofNat]
  omega

/-- A scaled score, or −∞ where the block does not end before the row. -/
theorem masked_at (h : Fin 12) (R : Fin 2048) (j : Fin 513) : val_main_v30 (F := Ideal) x0 x1 x3 (ix4 0 h R j)
    = Scalar.select (IntOp.cmpi .slt (val_main_v20 (F := Ideal) (ix1 j)) (BitVec.ofNat 32 R.val))
      (@HMul.hMul EReal EReal EReal _ (∑ d : Fin 64, @HMul.hMul EReal EReal EReal _ (x0 (ix3 h R d)) (val_main_v9 (F := Ideal) x1 x3 (ix4 0 h j d))) (Ideal.ofBits FTy.f32 1039516303#32))
      (Ideal.ofBits FTy.f32 0xFF800000#32) := by
  pointwise [val_main_v30, val_main_call0_v0, val_main_call0_v1, val_main_call0_v2, val_main_cst_3, val_main_v29, val_main_v28, val_main_v27, val_main_cst, val_main_v26, val_main_v25, val_main_v24, val_main_v23, val_main_v22, val_main_v21, val_main_v11, val_main_v0]
  rfl

/-- The memory's scaled score. -/
theorem masked_zero (h : Fin 12) (R : Fin 2048) : val_main_v30 (F := Ideal) x0 x1 x3 (ix4 0 h R 0) = memScore x0 x3 h R := by
  have hR := R.isLt
  rw [masked_at, end_zero, WordCmp.cmpi_slt_eq, WordCmp.toInt_ofNat_of_lt (a := R.val) (by omega), show (4294967295#32 : BitVec 32).toInt = -1 from rfl,
    decide_eq_true (show (-1 : ℤ) < (R.val : ℤ) by omega)]
  simp only [keys_zero]
  rfl

/-- A block's scaled score, or −∞ where the block does not end before the row. -/
theorem masked_succ (h : Fin 12) (R : Fin 2048) (k : Fin 512) : val_main_v30 (F := Ideal) x0 x1 x3 (ix4 0 h R k.succ) = if 4 * k.val + 3 < R.val then blockScore x0 x1 h R k else (⊥ : EReal) := by
  have hR := R.isLt
  have hk := k.isLt
  rw [masked_at, end_succ, WordCmp.cmpi_slt_ofNat (by omega) (by omega)]
  simp only [keys_succ]
  by_cases hs : 4 * k.val + 3 < R.val
  · rw [if_pos hs, decide_eq_true hs]
    rfl
  · rw [if_neg hs, decide_eq_false hs]
    exact ofBits_negInf

/-- A row's maximum, read at an index. -/
theorem redMax (y : S1x12x2048x513.Idx → EReal) (init : S_.Idx → EReal) (h : Fin 12) (R : Fin 2048) :
    Host.reduce (FloatOps.maximumf (F := Ideal) (φ := .f32)) y init Gen.reducesTo_S1x12x2048x513_S1x12x2048_d3 Gen.h_S_ (ix3 0 h R)
      = Finset.univ.fold max (init (Shape.Idx.first Gen.h_S_)) (fun k : Fin 513 => y (ix4 0 h R k)) := by
  pointwise []

/-- The row's largest masked score. -/
theorem max_at (h : Fin 12) (R : Fin 2048) : val_main_v33 (F := Ideal) x0 x1 x3 (ix3 0 h R) = max ⊥ (Finset.univ.fold max ⊥ fun k : Fin 513 => (val_main_v30 (F := Ideal) x0 x1 x3 (ix4 0 h R k) : EReal)) := by
  rw [val_main_v33_apply, val_main_v32_apply]
  show max (Ideal.ofBits .f32 0xFF800000#32) (val_main_v31 (F := Ideal) x0 x1 x3 (ix3 0 h R) : EReal) = _
  unfold val_main_v31
  generalize val_main_v30 (F := Ideal) x0 x1 x3 = y
  rw [ofBits_negInf]
  refine congrArg _ ((redMax y _ h R).trans ?_)
  show Finset.fold max (Ideal.ofBits .f32 0xFF800000#32) _ _ = _
  rw [ofBits_negInf]

/-- The unnormalised weight of a key. -/
theorem exp_at (h : Fin 12) (R : Fin 2048) (k : Fin 513) : val_main_v37 (F := Ideal) x0 x1 x3 (ix4 0 h R k) = Ideal.exp (@HSub.hSub EReal EReal EReal _ (val_main_v30 (F := Ideal) x0 x1 x3 (ix4 0 h R k)) (val_main_v33 (F := Ideal) x0 x1 x3 (ix3 0 h R))) := by
  rw [val_main_v37_apply, val_main_v36_apply, val_main_v35_apply, val_main_v34_apply]
  generalize val_main_v33 (F := Ideal) x0 x1 x3 = z
  exact congrArg (fun i => Ideal.exp (@HSub.hSub EReal EReal EReal _ (val_main_v30 (F := Ideal) x0 x1 x3 (ix4 0 h R k)) (z i)))
    (funext fun a => match a with | ⟨0, _⟩ => rfl | ⟨1, _⟩ => rfl | ⟨2, _⟩ => rfl)

/-- The attention weight of a key. -/
theorem attn_at (h : Fin 12) (R : Fin 2048) (k : Fin 513) : val_main_v41 (F := Ideal) x0 x1 x3 (ix4 0 h R k)
    = Ideal.div (val_main_v37 (F := Ideal) x0 x1 x3 (ix4 0 h R k)) (∑ j : Fin 513, (val_main_v37 (F := Ideal) x0 x1 x3 (ix4 0 h R j) : EReal)) := by
  pointwise [val_main_v41, val_main_v40, val_main_v39, val_main_v38, val_main_cst_6]

/-- The compressed attention: the weighted sum of the values. -/
theorem cout_at (h : Fin 12) (R : Fin 2048) (l : Fin 64) : val_main_v49 (F := Ideal) x0 x1 x2 x3 (ix3 h R l)
    = ∑ j : Fin 513, @HMul.hMul EReal EReal EReal _ (val_main_v41 (F := Ideal) x0 x1 x3 (ix4 0 h R j)) (val_main_v10 (F := Ideal) x2 x3 (ix4 0 h j l)) := by
  pointwise [val_main_v49, val_main_v42]

/-- Twelve as a real. -/
theorem twelve : Ideal.ofBits FTy.f32 0x41400000#32 = ((12 : ℝ) : EReal) := by
  simp [Ideal.ofBits, Ideal.ieee, -EReal.coe_mul]; norm_num

/-- A mean over twelve, times twelve, is the sum. -/
theorem mean_twelve (x : EReal) : Ideal.div x (Ideal.ofBits FTy.f32 0x41400000#32) * Ideal.ofBits FTy.f32 0x41400000#32 = x := by
  rw [twelve, div_real _ _ (by norm_num), mul_assoc, ← EReal.coe_mul, inv_mul_cancel₀ (by norm_num), EReal.coe_one, mul_one]

/-- The importance: the mean over the heads of the blocks' weights, times the number of heads, is their sum. -/
theorem imp_at (R : Fin 2048) (k : Fin 512) : val_main_v50 (F := Ideal) x0 x1 x3 (ix2 R k)
    = ∑ h : Fin 12, (val_main_v41 (F := Ideal) x0 x1 x3 (ix4 0 h R k.succ) : EReal) := by
  pointwise [val_main_v50, val_main_v48, val_main_v47, val_main_v46, val_main_v45, val_main_v44, val_main_v43, val_main_cst_7, val_main_cst_8, val_main_cst_9]
  refine (mean_twelve _).trans ?_
  exact Finset.sum_congr rfl fun h _ => congrArg (fun j => val_main_v41 (F := Ideal) x0 x1 x3 (ix4 0 h R j)) (Fin.ext (by show 1 + k.val = k.succ.val; rw [Fin.val_succ]; omega))

/-- For real queries, keys and memory keys the reference's weights of a row are the kernel's. -/
theorem row_weights (hq : ∀ i, ∃ r : ℝ, (x0 i : EReal) = r) (hk : ∀ i, ∃ r : ℝ, (x1 i : EReal) = r) (hm : ∀ h d, ∃ r : ℝ, (x3 (ix4 0 h 0 d) : EReal) = r) (h : Fin 12) (R : Fin 2048) :
    (∀ k : Fin 512, val_main_v41 (F := Ideal) x0 x1 x3 (ix4 0 h R k.succ) = wt (blockScore x0 x1 h R) (vis R) (memScore x0 x3 h R) k)
    ∧ val_main_v41 (F := Ideal) x0 x1 x3 (ix4 0 h R 0) = wm (blockScore x0 x1 h R) (vis R) (memScore x0 x3 h R) := by
  obtain ⟨g, hg⟩ := memScore_real x0 x3 hq hm h R
  choose s hs using fun k => blockScore_real x0 x1 hq hk h R k
  have hx : ∀ k : Fin 512, (val_main_v30 (F := Ideal) x0 x1 x3 (ix4 0 h R k.succ) : EReal) = if 4 * k.val + 3 < R.val then (s k : EReal) else ⊥ := fun k => by
    rw [masked_succ, hs]
  have h0 : (val_main_v30 (F := Ideal) x0 x1 x3 (ix4 0 h R 0) : EReal) = (g : EReal) := by rw [masked_zero, hg]
  obtain ⟨μ, hμ⟩ : ∃ μ : ℝ, (val_main_v33 (F := Ideal) x0 x1 x3 (ix3 0 h R) : EReal) = (μ : EReal) := by
    rw [max_at]
    refine rowMax _ (fun j => j.val = 0 ∨ 4 * (j.val - 1) + 3 < R.val) (Fin.cases (motive := fun _ => ℝ) g s) ⟨0, Or.inl rfl⟩ fun j => ?_
    refine Fin.cases ?_ (fun k => ?_) j
    · rw [h0]; exact (if_pos (Or.inl rfl)).symm
    · rw [hx]
      have e : (k.succ.val = 0 ∨ 4 * (k.succ.val - 1) + 3 < R.val) ↔ 4 * k.val + 3 < R.val := by rw [Fin.val_succ]; omega
      simp only [e]; rfl
  have hw := weights_eq s g (fun k : Fin 512 => 4 * k.val + 3 < R.val) μ (fun j => (val_main_v30 (F := Ideal) x0 x1 x3 (ix4 0 h R j) : EReal)) h0 hx
  have eS : blockScore x0 x1 h R = fun k => (s k : EReal) := funext hs
  have eV : vis R = fun k : Fin 512 => if 4 * k.val + 3 < R.val then (1 : EReal) else 0 := rfl
  rw [eS, eV, hg]
  refine ⟨fun k => ?_, ?_⟩
  · rw [attn_at]
    simp only [exp_at, hμ]
    exact hw.1 k
  · rw [attn_at]
    simp only [exp_at, hμ]
    exact hw.2

/-- For real queries, keys and memory keys the reference's compressed attention in the kernel's weights. -/
theorem cout_weights (hq : ∀ i, ∃ r : ℝ, (x0 i : EReal) = r) (hk : ∀ i, ∃ r : ℝ, (x1 i : EReal) = r) (hm : ∀ h d, ∃ r : ℝ, (x3 (ix4 0 h 0 d) : EReal) = r) (h : Fin 12) (R : Fin 2048) (l : Fin 64) :
    val_main_v49 (F := Ideal) x0 x1 x2 x3 (ix3 h R l)
      = @HAdd.hAdd EReal EReal EReal _ (∑ k : Fin 512, @HMul.hMul EReal EReal EReal _ (wt (blockScore x0 x1 h R) (vis R) (memScore x0 x3 h R) k) (x2 (ix3 h k l)))
        (@HMul.hMul EReal EReal EReal _ (wm (blockScore x0 x1 h R) (vis R) (memScore x0 x3 h R)) (x3 (ix4 1 h 0 l))) := by
  obtain ⟨h1, h2⟩ := row_weights x0 x1 x3 hq hk hm h R
  rw [cout_at, Fin.sum_univ_succ, h2, vals_zero, add_comm]
  simp only [h1, vals_succ]

/-- For real queries, keys and memory keys the reference's importance in the kernel's weights. -/
theorem imp_weights (hq : ∀ i, ∃ r : ℝ, (x0 i : EReal) = r) (hk : ∀ i, ∃ r : ℝ, (x1 i : EReal) = r) (hm : ∀ h d, ∃ r : ℝ, (x3 (ix4 0 h 0 d) : EReal) = r) (R : Fin 2048) (k : Fin 512) :
    val_main_v50 (F := Ideal) x0 x1 x3 (ix2 R k) = ∑ h : Fin 12, wt (blockScore x0 x1 h R) (vis R) (memScore x0 x3 h R) k := by
  rw [imp_at]
  exact Finset.sum_congr rfl fun h _ => (row_weights x0 x1 x3 hq hk hm h R).1 k

end Cert.CattnRefIdeal.Hand

end
-- ==== Proof.CattnValue.lean ====
module

public import proofs.«01_k».proof.Defs
public import proofs.«01_k».proof.Proof.CattnRefEntry
public import proofs.«01_k».proof.Proof.Gen.CattnRefIdeal.Run
public import proofs.«01_k».proof.Proof.Gen.Pre_finite_cattn
public import Idealize.ShloMosaic.Lib.Pipeline.Value

@[expose] public section

set_option maxRecDepth 16384

noncomputable section

namespace Cert.CattnIdeal.Hand

open Idealize.ShloMosaic Idealize.ShloMosaic.TcCoe Idealize.SL.Sem
open Cert.CattnIdeal Cert.CattnIdeal.Gen
open Cert.CattnRefIdeal.Read (val_main_v49 val_main_v50)

/-! ## What the precondition says -/

instance : Subsingleton Pre_finite_cattn.S_.Idx := ⟨fun a b => funext fun i => i.elim0⟩

/-- The precondition: queries, compressed keys and memory keys are real. -/
theorem pre_facts (a0 : Vec Ideal S12x2048x64 .f32) (a1 a2 : Vec Ideal S12x512x64 .f32) (a3 : Vec Ideal S2x12x1x64 .f32)
    (h : Cert.Pre_finite_cattn.fn (F := Ideal) a0 a1 a2 a3 = fun _ => 1#1) :
    (∀ i, ∃ r : ℝ, (a0 i : EReal) = r) ∧ (∀ i, ∃ r : ℝ, (a1 i : EReal) = r) ∧ (∀ h d, ∃ r : ℝ, (a3 (ix4 0 h 0 d) : EReal) = r) := by
  have hz := congrFun h (fun i => i.elim0)
  obtain ⟨h12, h3⟩ := IntOp.andi_eq_one.1 (show IntOp.andi _ _ = 1#1 from hz)
  obtain ⟨h1, h2⟩ := IntOp.andi_eq_one.1 (show IntOp.andi _ _ = 1#1 from h12)
  have e1 := fun i => Host.reduce_andi_all _ _ _ _ _ h1 i
  have e2 := fun i => Host.reduce_andi_all _ _ _ _ _ h2 i
  have e3 := fun i => Host.reduce_andi_all _ _ _ _ _ h3 i
  have inf : Ideal.ofBits .f32 0x7F800000#32 = ⊤ := by simp [Ideal.ofBits, Ideal.ieee]
  have real : ∀ x : EReal, Ideal.cmp .olt (max x (-x)) (Ideal.ofBits .f32 0x7F800000#32) = 1#1 → ∃ r : ℝ, x = r := by
    intro x hx
    have : max x (-x) < ⊤ := by
      rw [inf] at hx
      exact of_decide_eq_true (WordCmp.ofBool_eq_one_iff _ |>.1 hx)
    induction x with
    | bot => simp at this
    | coe r => exact ⟨r, rfl⟩
    | top => simp at this
  refine ⟨fun i => real _ (e1 i), fun i => real _ (e2 i), fun h d => ?_⟩
  have e : shapeCast S12x1x64 (extractStridedSlice S1x12x1x64 ![0, 0, 0, 0] a3 slices_S2x12x1x64_S1x12x1x64_0_0_0_0) shapeCasts_S1x12x1x64_S12x1x64 (ix3 h 0 d) = a3 (ix4 0 h 0 d) := by
    pointwise []
  rw [← e]
  exact real _ (e3 (ix3 h 0 d))

/-! ## The output arrays -/

variable (m : (ℓ : Loc nD τ sig) → Buf (Elt Ideal) ℓ) (ρ : Dev nD → PrngReg)

/-- An index of a block of one head and 256 rows. -/
theorem block_idx (j : S1x256x64.Idx) : ∃ (r : Fin 256) (l : Fin 64), j = ix3 0 r l :=
  ⟨j 1, j 2, funext fun a => match a with | ⟨0, _⟩ => Subsingleton.elim (α := Fin 1) _ _ | ⟨1, _⟩ => rfl | ⟨2, _⟩ => rfl⟩

/-- If every block written back is the block of `G`, the first output array ends as `G`. -/
theorem final_5 (c : Dev nD) (G : Buf (Elt Ideal) ((c : Thread nD τ).loc main_v4_0))
    (hG : ∀ (t : Fin cfg0.N) (r : Fin 256) (l : Fin 64) (h : Fin 12) (R : Fin 2048), h.val = t.val / 8 → R.val = 256 * (t.val % 8) + r.val →
      coutAt m c t (ix3 0 r l) = G (ix3 h R l)) : (dats m 0 c).arrAt 5 cfg0.N = G := by
  have hN : cfg0.N = 96 := N_0
  refine (dats m 0 c).arrAt_eq_of_cover 5 G (fun t _ => ?_) fun i => ?_
  · show (cfg0.win 5).cut (grid0.coords t) ((dats m 0 c).after 5 t) = _
    rw [after_5]
    funext j
    obtain ⟨r, l, rfl⟩ := block_idx j
    rw [View.read_apply]
    obtain ⟨-, -, -, -, -, ⟨h0, h1, h2⟩, -⟩ := idx_in t
    have ht : t.val < 96 := lt_of_lt_of_eq t.isLt N_0
    have hr := r.isLt
    refine (hG t r l ⟨t.val / 8, by omega⟩ ⟨256 * (t.val % 8) + r.val, by omega⟩ rfl rfl).trans (congrArg G ?_)
    funext b
    apply Fin.ext
    match b with
    | ⟨0, _⟩ => show t.val / 8 = win0_5.index t 0 * 1 + 1 * 0; rw [h0]; omega
    | ⟨1, _⟩ => show 256 * (t.val % 8) + r.val = win0_5.index t 1 * 256 + 1 * r.val; rw [h1]; omega
    | ⟨2, _⟩ => show l.val = win0_5.index t 2 * 64 + 1 * l.val; rw [h2]; omega
  · have i0 : (i 0 : Nat) < 12 := (i 0).isLt
    have i1 : (i 1 : Nat) < 2048 := (i 1).isLt
    have i2 : (i 2 : Nat) < 64 := (i 2).isLt
    obtain ⟨t, ht⟩ : ∃ t : Fin cfg0.N, t.val = 8 * (i 0 : Nat) + (i 1 : Nat) / 256 := ⟨⟨8 * (i 0 : Nat) + (i 1 : Nat) / 256, by omega⟩, rfl⟩
    obtain ⟨-, -, -, -, -, ⟨h0, h1, h2⟩, -⟩ := idx_in t
    refine ⟨t, flush0_5 t, ?_⟩
    show i ∈ ((View.whole main_v4_0).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [h0]; omega
    | ⟨1, _⟩ => show win0_5.index t 1 * 256 ≤ (i 1 : Nat) ∧ (i 1 : Nat) < win0_5.index t 1 * 256 + 256; rw [h1]; omega
    | ⟨2, _⟩ => show win0_5.index t 2 * 64 ≤ (i 2 : Nat) ∧ (i 2 : Nat) < win0_5.index t 2 * 64 + 64; rw [h2]; omega

/-- If the importance of the last point is `G`, the second output array ends as `G`. -/
theorem final_6 (c : Dev nD) (G : Buf (Elt Ideal) ((c : Thread nD τ).loc main_v4_1))
    (hG : ∀ (R : Fin 2048) (k : Fin 512), impAll m c (ix2 R k) = G (ix2 R k)) : (dats m 0 c).arrAt 6 cfg0.N = G := by
  have hN : cfg0.N = 96 := N_0
  refine (dats m 0 c).arrAt_eq_of_cover 6 G (fun t hf => ?_) fun i => ?_
  · show (cfg0.win 6).cut (grid0.coords t) ((dats m 0 c).after 6 t) = _
    rw [after_6 m c t]
    funext j
    obtain ⟨R, k, rfl⟩ : ∃ (R : Fin 2048) (k : Fin 512), j = ix2 R k := ⟨j 0, j 1, funext fun a => match a with | ⟨0, _⟩ => rfl | ⟨1, _⟩ => rfl⟩
    rw [View.read_apply]
    obtain ⟨-, -, -, -, -, -, h0, h1⟩ := idx_in t
    refine (hG R k).trans (congrArg G ?_)
    funext b
    apply Fin.ext
    match b with
    | ⟨0, _⟩ => show R.val = win0_6.index t 0 * 2048 + 1 * R.val; rw [h0]; omega
    | ⟨1, _⟩ => show k.val = win0_6.index t 1 * 512 + 1 * k.val; rw [h1]; omega
  · have i0 : (i 0 : Nat) < 2048 := (i 0).isLt
    have i1 : (i 1 : Nat) < 512 := (i 1).isLt
    obtain ⟨t, ht⟩ : ∃ t : Fin cfg0.N, t.val = 95 := ⟨⟨95, by omega⟩, rfl⟩
    obtain ⟨-, -, -, -, -, -, h0, h1⟩ := idx_in t
    refine ⟨t, (flush0_6 t).2 (by rw [ht]), ?_⟩
    show i ∈ ((View.whole main_v4_1).slice (win0_6.rect t)).set
    rw [View.set_slice_whole, Rect.mem_set_unit]
    intro a
    match a with
    | ⟨0, _⟩ => show win0_6.index t 0 * 2048 ≤ (i 0 : Nat) ∧ (i 0 : Nat) < win0_6.index t 0 * 2048 + 2048; rw [h0]; omega
    | ⟨1, _⟩ => show win0_6.index t 1 * 512 ≤ (i 1 : Nat) ∧ (i 1 : Nat) < win0_6.index t 1 * 512 + 512; rw [h1]; omega

/-- Under the precondition the first output array ends as the reference's first result. -/
theorem value_5 (c : Dev nD) (hpre : Pre_CattnIdeal_finite_cattn m) : (dats m 0 c).arrAt 5 cfg0.N
    = val_main_v49 (F := Ideal) (m ((c.tc : Thread nD τ).loc main_arg0)) (m ((c.tc : Thread nD τ).loc main_arg1)) (m ((c.tc : Thread nD τ).loc main_arg2)) (m ((c.tc : Thread nD τ).loc main_arg3)) := by
  obtain ⟨hq, hk, hm⟩ := pre_facts _ _ _ _ (hpre c)
  exact final_5 m c _ fun t r l h R hh hR => (coutAt_at m c t r l h R hh hR).trans (Cert.CattnRefIdeal.Hand.cout_weights _ _ _ _ hq hk hm h R l).symm

/-- Under the precondition the second output array ends as the reference's second result. -/
theorem value_6 (c : Dev nD) (hpre : Pre_CattnIdeal_finite_cattn m) : (dats m 0 c).arrAt 6 cfg0.N
    = val_main_v50 (F := Ideal) (m ((c.tc : Thread nD τ).loc main_arg0)) (m ((c.tc : Thread nD τ).loc main_arg1)) (m ((c.tc : Thread nD τ).loc main_arg3)) := by
  obtain ⟨hq, hk, hm⟩ := pre_facts _ _ _ _ (hpre c)
  exact final_6 m c _ fun R k => (impAll_at m c R k).trans (Cert.CattnRefIdeal.Hand.imp_weights _ _ _ hq hk hm R k).symm

/-- The kernel and the reference end with equal results. -/
theorem algebraic : algebraic_CattnIdeal_CattnRefIdeal_pre_finite_cattn := by
  intro m g m' g' hpre hm
  refine ⟨fun c => (dats m 0 c).arrAt 5 cfg0.N, fun c => (dats m 0 c).arrAt 6 cfg0.N, ?_, ?_⟩
  · exact (θ_run defs _ _).mono (fun r h c => ⟨(h.1 c).1 5, (h.1 c).1 6, h.2 c⟩)
      (θ_run_and (run_main m g) (frame_of m g (dats m) (A_eq m) (run_main m g)))
  · refine (θ_run Cert.CattnRefIdeal.defs _ _).mono (fun r h c => ?_) (Cert.CattnRefIdeal.Value.run m' g')
    obtain ⟨h1, h2, h3⟩ := h c
    obtain ⟨e0, e1, e2, e3⟩ := hm c
    refine ⟨h1.trans ?_, h2.trans ?_, h3⟩
    · rw [Cert.CattnRefIdeal.Read.val_main_v49_eq, e0, e1, e2, e3]
      exact (value_5 m c hpre).symm
    · rw [Cert.CattnRefIdeal.Read.val_main_v50_eq, e0, e1, e3]
      exact (value_6 m c hpre).symm

end Cert.CattnIdeal.Hand

end
-- ==== Proof.FineValue.lean ====
module

public import proofs.«01_k».proof.Defs
public import proofs.«01_k».proof.Proof.FineRefEntry
public import proofs.«01_k».proof.Proof.Gen.FineRefIdeal.Run
public import proofs.«01_k».proof.Proof.Gen.Pre_finite_fine
public import Idealize.ShloMosaic.Lib.Pipeline.Value

@[expose] public section

set_option maxRecDepth 16384

noncomputable section

namespace Cert.FineIdeal.Hand

open Idealize.ShloMosaic Idealize.ShloMosaic.TcCoe Idealize.SL.Sem
open Cert.FineIdeal Cert.FineIdeal.Gen
open Cert.FineRefIdeal.Read (val_main_v81 val_main_v82)

/-! ## What the precondition says -/

instance : Subsingleton Pre_finite_fine.S_.Idx := ⟨fun a b => funext fun i => i.elim0⟩

/-- The precondition: importances are at least 0 and below ∞, queries and keys are real. -/
theorem pre_facts (a0 : Vec Ideal S2048x512 .f32) (a1 a2 a3 : Vec Ideal S12x2048x64 .f32)
    (h : Cert.Pre_finite_fine.fn (F := Ideal) a0 a1 a2 a3 = fun _ => 1#1) :
    (∀ i, (0 : EReal) ≤ a0 i ∧ (a0 i : EReal) < ⊤) ∧ (∀ i, ∃ r : ℝ, (a1 i : EReal) = r) ∧ (∀ i, ∃ r : ℝ, (a2 i : EReal) = r) := by
  have hz := congrFun h (fun i => i.elim0)
  obtain ⟨h123, h4⟩ := IntOp.andi_eq_one.1 (show IntOp.andi _ _ = 1#1 from hz)
  obtain ⟨h12, h3⟩ := IntOp.andi_eq_one.1 (show IntOp.andi _ _ = 1#1 from h123)
  obtain ⟨h1, h2⟩ := IntOp.andi_eq_one.1 (show IntOp.andi _ _ = 1#1 from h12)
  have e1 := fun i => Host.reduce_andi_all _ _ _ _ _ h1 i
  have e2 := fun i => Host.reduce_andi_all _ _ _ _ _ h2 i
  have e3 := fun i => Host.reduce_andi_all _ _ _ _ _ h3 i
  have e4 := fun i => Host.reduce_andi_all _ _ _ _ _ h4 i
  have inf : Ideal.ofBits .f32 0x7F800000#32 = ⊤ := by simp [Ideal.ofBits, Ideal.ieee]
  have real : ∀ x : EReal, Ideal.cmp .olt (max x (-x)) (Ideal.ofBits .f32 0x7F800000#32) = 1#1 → ∃ r : ℝ, x = r := by
    intro x hx
    have : max x (-x) < ⊤ := by
      rw [inf] at hx
      exact of_decide_eq_true (WordCmp.ofBool_eq_one_iff _ |>.1 hx)
    induction x with
    | bot => simp at this
    | coe r => exact ⟨r, rfl⟩
    | top => simp at this
  refine ⟨fun i => ⟨?_, ?_⟩, fun i => real _ (e3 i), fun i => real _ (e4 i)⟩
  · have : Ideal.cmp .oge (a0 i) (Ideal.ofBits .f32 0x00000000#32) = 1#1 := e1 i
    rw [Ideal.ofBits_zero_f32] at this
    exact of_decide_eq_true (WordCmp.ofBool_eq_one_iff _ |>.1 this)
  · have : Ideal.cmp .olt (a0 i) (Ideal.ofBits .f32 0x7F800000#32) = 1#1 := e2 i
    rw [inf] at this
    exact of_decide_eq_true (WordCmp.ofBool_eq_one_iff _ |>.1 this)

/-! ## The output arrays -/

variable (m : (ℓ : Loc nD τ sig) → Buf (Elt Ideal) ℓ) (ρ : Dev nD → PrngReg)

theorem idx4 : ∀ t : Fin grid0.N, win0_4.index t 0 = t.val / 8 ∧ win0_4.index t 1 = t.val % 8 ∧ win0_4.index t 2 = 0 := by decide +kernel
theorem idx5 : ∀ t : Fin grid0.N, win0_5.index t 0 = t.val / 8 ∧ win0_5.index t 1 = t.val % 8 ∧ win0_5.index t 2 = 0 := by decide +kernel

/-- An index of a block of one head and 256 rows. -/
theorem block_idx (j : S1x256x64.Idx) : ∃ (r : Fin 256) (l : Fin 64), j = ix3 0 r l :=
  ⟨j 1, j 2, funext fun a => match a with | ⟨0, _⟩ => Subsingleton.elim (α := Fin 1) _ _ | ⟨1, _⟩ => rfl | ⟨2, _⟩ => rfl⟩

/-- If every block written back is the block of `G`, the first output array ends as `G`. -/
theorem final_4 (c : Dev nD) (G : Buf (Elt Ideal) ((c : Thread nD τ).loc main_v0_0))
    (hG : ∀ (t : Fin cfg0.N) (r : Fin 256) (l : Fin 64) (h : Fin 12) (R : Fin 2048), h.val = t.val / 8 → R.val = 256 * (t.val % 8) + r.val →
      fineAt m c t (ix3 0 r l) = G (ix3 h R l)) : (dats m 0 c).arrAt 4 cfg0.N = G := by
  have hN : cfg0.N = 96 := N_0
  refine (dats m 0 c).arrAt_eq_of_cover 4 G (fun t _ => ?_) fun i => ?_
  · show (cfg0.win 4).cut (grid0.coords t) ((dats m 0 c).after 4 t) = _
    rw [after_4]
    funext j
    obtain ⟨r, l, rfl⟩ := block_idx j
    rw [View.read_apply]
    obtain ⟨h0, h1, h2⟩ := idx4 t
    have ht : t.val < 96 := lt_of_lt_of_eq t.isLt N_0
    have hr := r.isLt
    refine (hG t r l ⟨t.val / 8, by omega⟩ ⟨256 * (t.val % 8) + r.val, by omega⟩ rfl rfl).trans (congrArg G ?_)
    funext b
    apply Fin.ext
    match b with
    | ⟨0, _⟩ => show t.val / 8 = win0_4.index t 0 * 1 + 1 * 0; rw [h0]; omega
    | ⟨1, _⟩ => show 256 * (t.val % 8) + r.val = win0_4.index t 1 * 256 + 1 * r.val; rw [h1]; omega
    | ⟨2, _⟩ => show l.val = win0_4.index t 2 * 64 + 1 * l.val; rw [h2]; omega
  · have i0 : (i 0 : Nat) < 12 := (i 0).isLt
    have i1 : (i 1 : Nat) < 2048 := (i 1).isLt
    have i2 : (i 2 : Nat) < 64 := (i 2).isLt
    obtain ⟨t, ht⟩ : ∃ t : Fin cfg0.N, t.val = 8 * (i 0 : Nat) + (i 1 : Nat) / 256 := ⟨⟨8 * (i 0 : Nat) + (i 1 : Nat) / 256, by omega⟩, rfl⟩
    obtain ⟨h0, h1, h2⟩ := idx4 t
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [h0]; omega
    | ⟨1, _⟩ => show win0_4.index t 1 * 256 ≤ (i 1 : Nat) ∧ (i 1 : Nat) < win0_4.index t 1 * 256 + 256; rw [h1]; omega
    | ⟨2, _⟩ => show win0_4.index t 2 * 64 ≤ (i 2 : Nat) ∧ (i 2 : Nat) < win0_4.index t 2 * 64 + 64; rw [h2]; omega

/-- If every block written back is the block of `G`, the second output array ends as `G`. -/
theorem final_5 (c : Dev nD) (G : Buf (Elt Ideal) ((c : Thread nD τ).loc main_v0_1))
    (hG : ∀ (t : Fin cfg0.N) (r : Fin 256) (l : Fin 64) (h : Fin 12) (R : Fin 2048), h.val = t.val / 8 → R.val = 256 * (t.val % 8) + r.val →
      winAt m c t (ix3 0 r l) = G (ix3 h R l)) : (dats m 0 c).arrAt 5 cfg0.N = G := by
  have hN : cfg0.N = 96 := N_0
  refine (dats m 0 c).arrAt_eq_of_cover 5 G (fun t _ => ?_) fun i => ?_
  · show (cfg0.win 5).cut (grid0.coords t) ((dats m 0 c).after 5 t) = _
    rw [after_5]
    funext j
    obtain ⟨r, l, rfl⟩ := block_idx j
    rw [View.read_apply]
    obtain ⟨h0, h1, h2⟩ := idx5 t
    have ht : t.val < 96 := lt_of_lt_of_eq t.isLt N_0
    have hr := r.isLt
    refine (hG t r l ⟨t.val / 8, by omega⟩ ⟨256 * (t.val % 8) + r.val, by omega⟩ rfl rfl).trans (congrArg G ?_)
    funext b
    apply Fin.ext
    match b with
    | ⟨0, _⟩ => show t.val / 8 = win0_5.index t 0 * 1 + 1 * 0; rw [h0]; omega
    | ⟨1, _⟩ => show 256 * (t.val % 8) + r.val = win0_5.index t 1 * 256 + 1 * r.val; rw [h1]; omega
    | ⟨2, _⟩ => show l.val = win0_5.index t 2 * 64 + 1 * l.val; rw [h2]; omega
  · have i0 : (i 0 : Nat) < 12 := (i 0).isLt
    have i1 : (i 1 : Nat) < 2048 := (i 1).isLt
    have i2 : (i 2 : Nat) < 64 := (i 2).isLt
    obtain ⟨t, ht⟩ : ∃ t : Fin cfg0.N, t.val = 8 * (i 0 : Nat) + (i 1 : Nat) / 256 := ⟨⟨8 * (i 0 : Nat) + (i 1 : Nat) / 256, by omega⟩, rfl⟩
    obtain ⟨h0, h1, h2⟩ := idx5 t
    refine ⟨t, flush0_5 t, ?_⟩
    show i ∈ ((View.whole main_v0_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1; rw [h0]; omega
    | ⟨1, _⟩ => show win0_5.index t 1 * 256 ≤ (i 1 : Nat) ∧ (i 1 : Nat) < win0_5.index t 1 * 256 + 256; rw [h1]; omega
    | ⟨2, _⟩ => show win0_5.index t 2 * 64 ≤ (i 2 : Nat) ∧ (i 2 : Nat) < win0_5.index t 2 * 64 + 64; rw [h2]; omega

/-- Under the precondition the first output array ends as the reference's first result. -/
theorem value_4 (c : Dev nD) (hpre : Pre_FineIdeal_finite_fine m) : (dats m 0 c).arrAt 4 cfg0.N
    = val_main_v81 (F := Ideal) (m ((c.tc : Thread nD τ).loc main_arg0)) (m ((c.tc : Thread nD τ).loc main_arg1)) (m ((c.tc : Thread nD τ).loc main_arg2)) (m ((c.tc : Thread nD τ).loc main_arg3)) := by
  obtain ⟨hx, hq, hk⟩ := pre_facts _ _ _ _ (hpre c)
  refine final_4 m c _ fun t r l h R hh hR => ?_
  obtain ⟨σ, hσ⟩ := exists_rounds (fun k : Fin 512 => m ((c.tc : Thread nD τ).loc main_arg0) (ix2 R k))
  exact (fineAt_at m c t r l h R hh hR σ hσ).trans (Cert.FineRefIdeal.Hand.fine_at _ _ _ _ hx hq hk h R l σ hσ).symm

/-- Under the precondition the second output array ends as the reference's second result. -/
theorem value_5 (c : Dev nD) (hpre : Pre_FineIdeal_finite_fine m) : (dats m 0 c).arrAt 5 cfg0.N
    = val_main_v82 (F := Ideal) (m ((c.tc : Thread nD τ).loc main_arg1)) (m ((c.tc : Thread nD τ).loc main_arg2)) (m ((c.tc : Thread nD τ).loc main_arg3)) := by
  obtain ⟨hx, hq, hk⟩ := pre_facts _ _ _ _ (hpre c)
  exact final_5 m c _ fun t r l h R hh hR => (winAt_at m c t r l h R hh hR).trans (Cert.FineRefIdeal.Hand.win_at _ _ _ hq hk h R l).symm

/-- The kernel and the reference end with equal results. -/
theorem algebraic : algebraic_FineIdeal_FineRefIdeal_pre_finite_fine := by
  intro m g m' g' hpre hm
  refine ⟨fun c => (dats m 0 c).arrAt 4 cfg0.N, fun c => (dats m 0 c).arrAt 5 cfg0.N, ?_, ?_⟩
  · exact (θ_run defs _ _).mono (fun r h c => ⟨(h.1 c).1 4, (h.1 c).1 5, h.2 c⟩)
      (θ_run_and (run_main m g) (frame_of m g (dats m) (A_eq m) (run_main m g)))
  · refine (θ_run Cert.FineRefIdeal.defs _ _).mono (fun r h c => ?_) (Cert.FineRefIdeal.Value.run m' g')
    obtain ⟨h1, h2, h3⟩ := h c
    obtain ⟨e0, e1, e2, e3⟩ := hm c
    refine ⟨h1.trans ?_, h2.trans ?_, h3⟩
    · rw [Cert.FineRefIdeal.Read.val_main_v81_eq, e0, e1, e2, e3]
      exact (value_4 m c hpre).symm
    · rw [Cert.FineRefIdeal.Read.val_main_v82_eq, e1, e2, e3]
      exact (value_5 m c hpre).symm

end Cert.FineIdeal.Hand

end
-- ==== Proof.CombineEntry.lean ====
module

public import proofs.«01_k».proof.Proof.Gen.CombineIdeal.Value
public import Idealize.ShloMosaic.Lib.Pointwise
public import Idealize.ShloMosaic.Lib.Pipeline.ValueKit
public import Idealize.ShloMosaic.Lib.Routing.OpsOne
public import Idealize.ShloMosaic.PureOps.Ideal.Laws

@[expose] public section

set_option maxRecDepth 16384

noncomputable section

namespace Cert.CombineIdeal.Hand

open Cert.CombineIdeal Cert.CombineIdeal.Gen
open Idealize.ShloMosaic Idealize.ShloMosaic.TcCoe Idealize.SL.Sem

/-- A gate: the sigmoid of a product of rows plus a bias. -/
def gate (x w : Fin 768 → EReal) (b : EReal) : EReal := Ideal.div 1 (1 + Ideal.exp (-(∑ k, x k * w k + b)))

/-- What one head adds to an output entry: the three gated results of the head, summed, times its columns of the last weights. -/
def headPart (g : Fin 36 → EReal) (c f s w : Fin 64 → EReal) (h : Fin 12) : EReal :=
  ∑ d, (g ⟨3 * h.val, by omega⟩ * c d + g ⟨3 * h.val + 1, by omega⟩ * f d + g ⟨3 * h.val + 2, by omega⟩ * s d) * w d

/-- A sum over the heads, head after head. -/
theorem sum_heads (S : Fin 12 → EReal) : 0 + S 0 + S 1 + S 2 + S 3 + S 4 + S 5 + S 6 + S 7 + S 8 + S 9 + S 10 + S 11 = ∑ h, S h := by
  simp only [Fin.sum_univ_castSucc, Fin.sum_univ_zero]
  rfl

/-- The gates of a block of rows: a sigmoid of a product with the gate weights plus the bias. -/
theorem pay2_at (x0 : Vec Ideal S256x768 .f32) (x4 : Vec Ideal S128x768 .f32) (x5 : Vec Ideal S1x128 .f32) (t : Fin 256) (j : Fin 128) :
    k0_pay2 (F := Ideal) x0 x4 x5 (ix2 t j) = gate (fun k => x0 (ix2 t k)) (fun k => x4 (ix2 j k)) (x5 (ix2 0 j)) := by
  pointwise [k0_pay2]
  unfold gate
  rw [zero_sub]

/-- What the body stores, entry by entry. -/
theorem stored_at (x0 : Vec Ideal S256x768 .f32) (x4 : Vec Ideal S128x768 .f32) (x5 : Vec Ideal S1x128 .f32) (c f s : Fin 12 → Vec Ideal S1x256x64 .f32)
    (w : Fin 12 → Vec Ideal S1x768x64 .f32) (t : Fin 256) (e : Fin 768) :
    (k0_pay1 (k0_pay2 x0 x4 x5) (k0_pay15 (k0_pay2 x0 x4 x5) (k0_pay13 (k0_pay2 x0 x4 x5) (k0_pay11 (k0_pay2 x0 x4 x5) (k0_pay9 (k0_pay2 x0 x4 x5) (k0_pay7 (k0_pay2 x0 x4 x5) (k0_pay5 (k0_pay2 x0 x4 x5) (k0_pay3 (F := Ideal)) (k0_pay4 x0 x4 x5 (c 0) (f 0) (s 0)) (w 0) (c 1) (f 1) (s 1) (w 1)) (k0_pay6 (k0_pay2 x0 x4 x5) (c 2) (f 2)) (s 2) (w 2) (c 3) (f 3) (s 3) (w 3)) (k0_pay8 (k0_pay2 x0 x4 x5)) (c 4) (f 4) (s 4) (w 4)) (k0_pay10 (k0_pay2 x0 x4 x5) (c 5) (f 5) (s 5)) (w 5) (c 6) (f 6) (s 6) (w 6)) (k0_pay12 (k0_pay2 x0 x4 x5) (c 7) (f 7)) (s 7) (w 7) (c 8) (f 8) (s 8) (w 8)) (k0_pay14 (k0_pay2 x0 x4 x5)) (c 9) (f 9) (s 9) (w 9)) (k0_pay16 (k0_pay2 x0 x4 x5) (c 10) (f 10) (s 10)) (w 10) (c 11) (f 11) (s 11) (w 11) : FVec Ideal S256x768 .f32) (ix2 t e)
      = ∑ h, headPart (fun j => k0_pay2 (F := Ideal) x0 x4 x5 (ix2 t ⟨j.val, by omega⟩)) (fun d => c h (ix3 0 t d)) (fun d => f h (ix3 0 t d)) (fun d => s h (ix3 0 t d)) (fun d => w h (ix3 0 e d)) h := by
  rw [← sum_heads]
  pointwise [k0_pay1, k0_pay15, k0_pay13, k0_pay11, k0_pay9, k0_pay7, k0_pay5, k0_pay3, k0_pay4, k0_pay6, k0_pay8, k0_pay10, k0_pay12, k0_pay14, k0_pay16]
  rfl

/-- Head `n` of a block of twelve heads of rows. -/
def headOf (x : Vec Ideal S12x256x64 .f32) (n : Nat) : Vec Ideal S1x256x64 .f32 := fun i => x (ix3 (Fin.ofNat 12 n) (i 1) (i 2))

/-- Head `n` of the last weights. -/
def headOfW (x : Vec Ideal S12x768x64 .f32) (n : Nat) : Vec Ideal S1x768x64 .f32 := fun i => x (ix3 (Fin.ofNat 12 n) (i 1) (i 2))

theorem ld_headOf (x : Vec Ideal S12x256x64 .f32) (n : Nat) (inb) :
    View.ld x (Rect.unit (s := S12x256x64) ![n, 0, 0] S1x256x64.size inb) = headOf x n := by
  have hn : n + 1 ≤ 12 := inb 0
  funext i
  rw [View.ld_apply]
  unfold headOf
  congr 1
  funext a
  apply Fin.ext
  have h0 : (i 0).val < 1 := (i 0).isLt
  match a with
  | ⟨0, _⟩ => show n + 1 * (i 0).val = n % 12; omega
  | ⟨1, _⟩ => show 0 + 1 * (i 1).val = (i 1).val; omega
  | ⟨2, _⟩ => show 0 + 1 * (i 2).val = (i 2).val; omega

theorem ld_headOfW (x : Vec Ideal S12x768x64 .f32) (n : Nat) (inb) :
    View.ld x (Rect.unit (s := S12x768x64) ![n, 0, 0] S1x768x64.size inb) = headOfW x n := by
  have hn : n + 1 ≤ 12 := inb 0
  funext i
  rw [View.ld_apply]
  unfold headOfW
  congr 1
  funext a
  apply Fin.ext
  have h0 : (i 0).val < 1 := (i 0).isLt
  match a with
  | ⟨0, _⟩ => show n + 1 * (i 0).val = n % 12; omega
  | ⟨1, _⟩ => show 0 + 1 * (i 1).val = (i 1).val; omega
  | ⟨2, _⟩ => show 0 + 1 * (i 2).val = (i 2).val; omega

/-- The block that the body leaves, entry by entry. -/
theorem out_at (x0 : Vec Ideal S256x768 .f32) (x1 x2 x3 : Vec Ideal S12x256x64 .f32) (x4 : Vec Ideal S128x768 .f32) (x5 : Vec Ideal S1x128 .f32)
    (x6 : Vec Ideal S12x768x64 .f32) (t : Fin 256) (e : Fin 768) :
    out0_7 x0 x1 x2 x3 x4 x5 x6 (ix2 t e)
      = ∑ h, headPart (fun j => k0_pay2 (F := Ideal) x0 x4 x5 (ix2 t ⟨j.val, by omega⟩)) (fun d => x1 (ix3 h t d)) (fun d => x2 (ix3 h t d)) (fun d => x3 (ix3 h t d)) (fun d => x6 (ix3 h e d)) h := by
  unfold out0_7 k0_pay17 r0_0 r0_1 r0_2
  rw [View.canon_cons_unit_lit _ _ _ (by decide), View.ld_unit_lit _ _ (by decide), View.ld_unit_lit _ _ (by decide), View.ld_unit_lit _ _ (by decide)]
  simp only [ld_headOf, ld_headOfW]
  refine (stored_at x0 x4 x5 (fun h => headOf x1 h.val) (fun h => headOf x2 h.val) (fun h => headOf x3 h.val) (fun h => headOfW x6 h.val) t e).trans ?_
  refine Finset.sum_congr rfl fun h _ => ?_
  have hh : Fin.ofNat 12 h.val = h := Fin.ext (Nat.mod_eq_of_lt h.isLt)
  unfold headOf headOfW
  rw [hh]
  rfl

/-! ## The padded gate weights -/

theorem win_rows (j : Fin 36) (k : Fin 768) : scatter_S128x768_S1_S36x768_01_n_0_0.window (ix2 j k) 0 = j.val ∧ scatter_S128x768_S1_S36x768_01_n_0_0.window (ix2 j k) 1 = k.val := ⟨rfl, rfl⟩
theorem win_row (j : Fin 36) : scatter_S1x128_S2_S36_0_0_01_0.window (ix1 j) 0 = 0 ∧ scatter_S1x128_S2_S36_0_0_01_0.window (ix1 j) 1 = j.val := ⟨rfl, rfl⟩
theorem start_rows (idx : IVec S1 32) (j : Fin 36) (k : Fin 768) : scatter_S128x768_S1_S36x768_01_n_0_0.start (ix2 j k) idx 0 = (idx (ix1 0)).toInt ∧ scatter_S128x768_S1_S36x768_01_n_0_0.start (ix2 j k) idx 1 = 0 :=
  ⟨congrArg (fun i => (idx i).toInt) (funext fun a => match a with | ⟨0, _⟩ => rfl), rfl⟩

/-- The 36 rows of the gate weights, set from row 0 on, are the first 36 rows of the padded weights. -/
theorem padded_rows (x : Vec Ideal S128x768 .f32) (idx : IVec S1 32) (h0 : (idx (ix1 0)).toInt = 0) (u : Vec Ideal S36x768 .f32) (j : Fin 36) (k : Fin 768) (J : Fin 128) (hJ : J.val = j.val) :
    Host.scatter scatter_S128x768_S1_S36x768_01_n_0_0 (fun _ b => b) x idx u (ix2 J k) = u (ix2 j k) := by
  have lands : ∀ (j' : Fin 36) (k' : Fin 768), scatter_S128x768_S1_S36x768_01_n_0_0.resultIdx? (ix2 j' k') idx = some (ix2 J k) ↔ j' = j ∧ k' = k := by
    intro j' k'
    refine (Routing.resultIdx?_ix2 (R := 128) (C := 768) scatter_S128x768_S1_S36x768_01_n_0_0 (ix2 j' k') idx J k).trans ?_
    rw [(start_rows idx j' k').1, (start_rows idx j' k').2, (win_rows j' k').1, (win_rows j' k').2, h0, Fin.ext_iff, Fin.ext_iff]
    omega
  refine Routing.scatter_set_hit _ x idx u _ _ (fun y hy => ?_) (ix2 j k) ((lands j k).2 ⟨rfl, rfl⟩)
  obtain ⟨j', k', rfl⟩ : ∃ (j' : Fin 36) (k' : Fin 768), y = ix2 j' k' := ⟨y 0, y 1, funext fun a => match a with | ⟨0, _⟩ => rfl | ⟨1, _⟩ => rfl⟩
  obtain ⟨rfl, rfl⟩ := (lands j' k').1 hy
  rfl

/-- The 36 biases, set from column 0 on, are the first 36 entries of the padded biases. -/
theorem padded_row (x : Vec Ideal S1x128 .f32) (idx : IVec S2 32) (h0 : (idx (ix1 0)).toInt = 0) (h1 : (idx (ix1 1)).toInt = 0) (u : Vec Ideal S36 .f32) (j : Fin 36) (J : Fin 128) (hJ : J.val = j.val) :
    Host.scatter scatter_S1x128_S2_S36_0_0_01_0 (fun _ b => b) x idx u (ix2 0 J) = u (ix1 j) := by
  have lands : ∀ j' : Fin 36, scatter_S1x128_S2_S36_0_0_01_0.resultIdx? (ix1 j') idx = some (ix2 0 J) ↔ j' = j := by
    intro j'
    refine (Routing.resultIdx?_ix2 (R := 1) (C := 128) scatter_S1x128_S2_S36_0_0_01_0 (ix1 j') idx 0 J).trans ?_
    rw [Routing.start_pair (R := 1) (C := 128) scatter_S1x128_S2_S36_0_0_01_0 rfl rfl, Routing.start_pair (R := 1) (C := 128) scatter_S1x128_S2_S36_0_0_01_0 rfl rfl, (win_row j').1, (win_row j').2, show (idx (ValueIdx.ix1 0)).toInt = 0 from h0, show (idx (ValueIdx.ix1 1)).toInt = 0 from h1, Fin.ext_iff]
    have hz : ((0 : Fin 1).val : Int) = 0 := rfl
    rw [hz]
    omega
  refine Routing.scatter_set_hit _ x idx u _ _ (fun y hy => ?_) (ix1 j) ((lands j).2 rfl)
  obtain ⟨j', rfl⟩ : ∃ j' : Fin 36, y = ix1 j' := ⟨y 0, funext fun a => match a with | ⟨0, _⟩ => rfl⟩
  obtain rfl := (lands j').1 hy
  rfl

/-! ## The blocks -/

variable (m : (ℓ : Loc nD τ sig) → Buf (Elt Ideal) ℓ)

theorem V_v0 (c : Dev nD) : V m c main_v0 = shapeCast S2048x768 (m ((c.tc : Thread nD τ).loc main_arg0)) shapeCasts_S1x2048x768_S2048x768 := by
  unfold V; after_results_simp <;> rfl

theorem V_v3 (c : Dev nD) : V m c main_v3 = Host.scatter scatter_S128x768_S1_S36x768_01_n_0_0 (fun _ b => b) (broadcastInDim S128x768 ![] bcast_S_S128x768 (constant (F := Ideal) S_ .f32 0x00000000#32))
    (broadcastInDim S1 ![] bcast_S_S1 (constantI S_ 32 0#32)) (m ((c.tc : Thread nD τ).loc main_arg4)) := by
  unfold V; after_results_simp <;> rfl

theorem V_v8 (c : Dev nD) : V m c main_v8 = Host.scatter scatter_S1x128_S2_S36_0_0_01_0 (fun _ b => b) (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c.tc : Thread nD τ).loc main_arg5)) := by
  unfold V; after_results_simp <;> rfl

theorem V_v10 (c : Dev nD) : V m c main_v10 = transpose S12x768x64 [1, 0, 2] (shapeCast S768x12x64 (m ((c.tc : Thread nD τ).loc main_arg6)) shapeCasts_S768x768_S768x12x64) transposes_S768x12x64_S12x768x64_1_0_2 := by
  unfold V; after_results_simp <;> rfl

theorem v3_at (c : Dev nD) (j : Fin 36) (k : Fin 768) : V m c main_v3 (ix2 (⟨j.val, by omega⟩ : Fin 128) k) = m ((c.tc : Thread nD τ).loc main_arg4) (ix2 j k) :=
  (congrFun (V_v3 m c) _).trans (padded_rows _ _ rfl _ j k _ rfl)

theorem v8_at (c : Dev nD) (j : Fin 36) : V m c main_v8 (ix2 0 (⟨j.val, by omega⟩ : Fin 128)) = m ((c.tc : Thread nD τ).loc main_arg5) (ix1 j) :=
  (congrFun (V_v8 m c) _).trans (padded_row _ _ rfl rfl _ j _ rfl)

theorem v10_at (c : Dev nD) (h : Fin 12) (e : Fin 768) (d : Fin 64) (q : Fin 768) (hq : q.val = 64 * h.val + d.val) : V m c main_v10 (ix3 h e d) = m ((c.tc : Thread nD τ).loc main_arg6) (ix2 e q) := by
  refine (congrFun (V_v10 m c) _).trans ?_
  refine (transpose_apply [1, 0, 2] _ transposes_S768x12x64_S12x768x64_1_0_2 (ix3 h e d) (ix3 e h d) (fun b => match b with | ⟨0, _⟩ => rfl | ⟨1, _⟩ => rfl | ⟨2, _⟩ => rfl)).trans ?_
  exact shapeCast_apply _ _ (ix3 e h d) (ix2 e q) (by
    rewrite [Shape.rowMajor_val_three, Shape.rowMajor_val_two]
    show e.val * 768 + q.val = (e.val * 12 + h.val) * 64 + d.val
    omega)

theorem idx_rows : ∀ t : Fin grid0.N,
    (win0_0.index t 0 = t.val ∧ win0_0.index t 1 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_7.index t 0 = t.val ∧ win0_7.index t 1 = 0) := by decide +kernel

theorem idx_whole : ∀ t : Fin grid0.N, (win0_4.index t 0 = 0 ∧ win0_4.index t 1 = 0) ∧ (win0_5.index t 0 = 0 ∧ win0_5.index t 1 = 0)
    ∧ (win0_6.index t 0 = 0 ∧ win0_6.index t 1 = 0 ∧ win0_6.index t 2 = 0) := by decide +kernel

/-- The rows of the input in a block. -/
theorem iblk0_at (c : Dev nD) (t : Fin cfg0.N) (r : Fin 256) (k : Fin 768) (T : Fin 2048) (hT : T.val = 256 * t.val + r.val) :
    (iblk m c 0 t : Vec Ideal S256x768 .f32) (ix2 r k) = m ((c.tc : Thread nD τ).loc main_arg0) (ix3 0 T k) := by
  obtain ⟨⟨h0, h1⟩, -⟩ := idx_rows t
  refine Eq.trans ?_ ((congrFun (V_v0 m c) (ix2 T k)).trans (shapeCast_apply _ _ (ix2 T k) (ix3 (0 : Fin 1) T k) (by
    rewrite [Shape.rowMajor_val_three, Shape.rowMajor_val_two]
    show (0 * 2048 + T.val) * 768 + k.val = T.val * 768 + k.val
    omega)))
  unfold iblk
  rw [View.read_apply]
  show V m c main_v0 _ = V m c main_v0 _
  congr 1
  funext a
  apply Fin.ext
  match a with
  | ⟨0, _⟩ => show win0_0.index t 0 * 256 + 1 * r.val = T.val; rw [h0, hT]; omega
  | ⟨1, _⟩ => show win0_0.index t 1 * 768 + 1 * k.val = k.val; rw [h1]; omega

/-- The compressed attention rows of a block, all heads. -/
theorem iblk1_at (c : Dev nD) (t : Fin cfg0.N) (h : Fin 12) (r : Fin 256) (d : Fin 64) (T : Fin 2048) (hT : T.val = 256 * t.val + r.val) :
    (iblk m c 1 t : Vec Ideal S12x256x64 .f32) (ix3 h r d) = m ((c.tc : Thread nD τ).loc main_arg1) (ix3 h T d) := by
  obtain ⟨h0, h1, h2⟩ := (idx_rows t).2.1
  refine Eq.trans ?_ (congrFun (V_main_arg1 m c) (ix3 h T d))
  unfold iblk
  rw [View.read_apply]
  show V m c main_arg1 _ = V m c main_arg1 _
  congr 1
  funext a
  apply Fin.ext
  match a with
  | ⟨0, _⟩ => show win0_1.index t 0 * 12 + 1 * h.val = h.val; rw [h0]; omega
  | ⟨1, _⟩ => show win0_1.index t 1 * 256 + 1 * r.val = T.val; rw [h1, hT]; omega
  | ⟨2, _⟩ => show win0_1.index t 2 * 64 + 1 * d.val = d.val; rw [h2]; omega

/-- The fine attention rows of a block, all heads. -/
theorem iblk2_at (c : Dev nD) (t : Fin cfg0.N) (h : Fin 12) (r : Fin 256) (d : Fin 64) (T : Fin 2048) (hT : T.val = 256 * t.val + r.val) :
    (iblk m c 2 t : Vec Ideal S12x256x64 .f32) (ix3 h r d) = m ((c.tc : Thread nD τ).loc main_arg2) (ix3 h T d) := by
  obtain ⟨h0, h1, h2⟩ := (idx_rows t).2.2.1
  refine Eq.trans ?_ (congrFun (V_main_arg2 m c) (ix3 h T d))
  unfold iblk
  rw [View.read_apply]
  show V m c main_arg2 _ = V m c main_arg2 _
  congr 1
  funext a
  apply Fin.ext
  match a with
  | ⟨0, _⟩ => show win0_2.index t 0 * 12 + 1 * h.val = h.val; rw [h0]; omega
  | ⟨1, _⟩ => show win0_2.index t 1 * 256 + 1 * r.val = T.val; rw [h1, hT]; omega
  | ⟨2, _⟩ => show win0_2.index t 2 * 64 + 1 * d.val = d.val; rw [h2]; omega

/-- The sliding attention rows of a block, all heads. -/
theorem iblk3_at (c : Dev nD) (t : Fin cfg0.N) (h : Fin 12) (r : Fin 256) (d : Fin 64) (T : Fin 2048) (hT : T.val = 256 * t.val + r.val) :
    (iblk m c 3 t : Vec Ideal S12x256x64 .f32) (ix3 h r d) = m ((c.tc : Thread nD τ).loc main_arg3) (ix3 h T d) := by
  obtain ⟨h0, h1, h2⟩ := (idx_rows t).2.2.2.1
  refine Eq.trans ?_ (congrFun (V_main_arg3 m c) (ix3 h T d))
  unfold iblk
  rw [View.read_apply]
  show V m c main_arg3 _ = V m c main_arg3 _
  congr 1
  funext a
  apply Fin.ext
  match a with
  | ⟨0, _⟩ => show win0_3.index t 0 * 12 + 1 * h.val = h.val; rw [h0]; omega
  | ⟨1, _⟩ => show win0_3.index t 1 * 256 + 1 * r.val = T.val; rw [h1, hT]; omega
  | ⟨2, _⟩ => show win0_3.index t 2 * 64 + 1 * d.val = d.val; rw [h2]; omega

/-- The gate weights, the biases and the last weights are staged whole. -/
theorem iblk4_at (c : Dev nD) (t : Fin cfg0.N) (j : Fin 36) (k : Fin 768) :
    (iblk m c 4 t : Vec Ideal S128x768 .f32) (ix2 (⟨j.val, by omega⟩ : Fin 128) k) = m ((c.tc : Thread nD τ).loc main_arg4) (ix2 j k) := by
  obtain ⟨⟨h0, h1⟩, -⟩ := idx_whole t
  refine Eq.trans ?_ (v3_at m c j k)
  unfold iblk
  rw [View.read_apply]
  show V m c main_v3 _ = V m c main_v3 _
  congr 1
  funext a
  apply Fin.ext
  match a with
  | ⟨0, _⟩ => show win0_4.index t 0 * 128 + 1 * j.val = j.val; rw [h0]; omega
  | ⟨1, _⟩ => show win0_4.index t 1 * 768 + 1 * k.val = k.val; rw [h1]; omega

theorem iblk5_at (c : Dev nD) (t : Fin cfg0.N) (j : Fin 36) :
    (iblk m c 5 t : Vec Ideal S1x128 .f32) (ix2 0 (⟨j.val, by omega⟩ : Fin 128)) = m ((c.tc : Thread nD τ).loc main_arg5) (ix1 j) := by
  obtain ⟨-, ⟨h0, h1⟩, -⟩ := idx_whole t
  refine Eq.trans ?_ (v8_at m c j)
  unfold iblk
  rw [View.read_apply]
  show V m c main_v8 _ = V m c main_v8 _
  congr 1
  funext a
  apply Fin.ext
  match a with
  | ⟨0, _⟩ => show win0_5.index t 0 * 1 + 1 * 0 = 0; rw [h0]
  | ⟨1, _⟩ => show win0_5.index t 1 * 128 + 1 * j.val = j.val; rw [h1]; omega

theorem iblk6_at (c : Dev nD) (t : Fin cfg0.N) (h : Fin 12) (e : Fin 768) (d : Fin 64) (q : Fin 768) (hq : q.val = 64 * h.val + d.val) :
    (iblk m c 6 t : Vec Ideal S12x768x64 .f32) (ix3 h e d) = m ((c.tc : Thread nD τ).loc main_arg6) (ix2 e q) := by
  obtain ⟨-, -, h0, h1, h2⟩ := idx_whole t
  refine Eq.trans ?_ (v10_at m c h e d q hq)
  unfold iblk
  rw [View.read_apply]
  show V m c main_v10 _ = V m c main_v10 _
  congr 1
  funext a
  apply Fin.ext
  match a with
  | ⟨0, _⟩ => show win0_6.index t 0 * 12 + 1 * h.val = h.val; rw [h0]; omega
  | ⟨1, _⟩ => show win0_6.index t 1 * 768 + 1 * e.val = e.val; rw [h1]; omega
  | ⟨2, _⟩ => show win0_6.index t 2 * 64 + 1 * d.val = d.val; rw [h2]; omega

/-- The output's entry at row `T` and column `e`: over the heads, the gated sum of the three attention results times the last weights. -/
def combined (x : Vec Ideal S1x2048x768 .f32) (c f s : Vec Ideal S12x2048x64 .f32) (sw : Vec Ideal S36x768 .f32) (sb : Vec Ideal S36 .f32) (cw : Vec Ideal S768x768 .f32)
    (T : Fin 2048) (e : Fin 768) : EReal :=
  ∑ h : Fin 12, headPart (fun j => gate (fun k => x (ix3 0 T k)) (fun k => sw (ix2 j k)) (sb (ix1 j))) (fun d => c (ix3 h T d)) (fun d => f (ix3 h T d)) (fun d => s (ix3 h T d))
    (fun d => cw (ix2 e ⟨64 * h.val + d.val, by omega⟩)) h

/-- If every entry is `G`'s, the output array ends as `G`. -/
theorem final_7 (c : Dev nD) (G : Buf (Elt Ideal) ((c : Thread nD τ).loc main_v11))
    (hG : ∀ (T : Fin 2048) (e : Fin 768), combined (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) T e = G (ix2 T e)) :
    (dats m 0 c).arrAt 7 cfg0.N = G := by
  have hN : cfg0.N = 8 := N_0
  refine (dats m 0 c).arrAt_eq_of_cover 7 G (fun t _ => ?_) fun i => ?_
  · have ht : t.val < 8 := lt_of_lt_of_eq t.isLt N_0
    obtain ⟨-, -, -, -, h0, h1⟩ := idx_rows t
    rw [Value.flushed7]
    funext j
    obtain ⟨r, e, rfl⟩ : ∃ (r : Fin 256) (e : Fin 768), j = ix2 r e := ⟨j 0, j 1, funext fun a => match a with | ⟨0, _⟩ => rfl | ⟨1, _⟩ => rfl⟩
    rw [View.read_apply]
    have hT : 256 * t.val + r.val < 2048 := by have := r.isLt; omega
    refine (out_at (iblk m c 0 t) (iblk m c 1 t) (iblk m c 2 t) (iblk m c 3 t) (iblk m c 4 t) (iblk m c 5 t) (iblk m c 6 t) r e).trans (Eq.trans ?_ ((hG ⟨256 * t.val + r.val, hT⟩ e).trans (congrArg G ?_)))
    · unfold combined
      refine Finset.sum_congr rfl fun h _ => ?_
      congr 1
      · funext j
        refine (pay2_at _ _ _ r _).trans ?_
        exact congr (congrArg₂ gate (funext fun k => iblk0_at m c t r k _ rfl) (funext fun k => iblk4_at m c t j k)) (iblk5_at m c t j)
      · funext d; exact iblk1_at m c t h r d _ rfl
      · funext d; exact iblk2_at m c t h r d _ rfl
      · funext d; exact iblk3_at m c t h r d _ rfl
      · funext d; exact iblk6_at m c t h e d _ rfl
    · funext b
      apply Fin.ext
      match b with
      | ⟨0, _⟩ => show 256 * t.val + r.val = win0_7.index t 0 * 256 + 1 * r.val; rw [h0]; omega
      | ⟨1, _⟩ => show e.val = win0_7.index t 1 * 768 + 1 * e.val; rw [h1]; omega
  · have i0 : (i 0 : Nat) < 2048 := (i 0).isLt
    have i1 : (i 1 : Nat) < 768 := (i 1).isLt
    obtain ⟨t, ht⟩ : ∃ t : Fin cfg0.N, t.val = (i 0 : Nat) / 256 := ⟨⟨(i 0 : Nat) / 256, by omega⟩, rfl⟩
    obtain ⟨-, -, -, -, h0, h1⟩ := idx_rows t
    refine ⟨t, flush0_7 t, ?_⟩
    show i ∈ ((View.whole main_v11).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256; rw [h0]; omega
    | ⟨1, _⟩ => show win0_7.index t 1 * 768 ≤ (i 1 : Nat) ∧ (i 1 : Nat) < win0_7.index t 1 * 768 + 768; rw [h1]; omega

end Cert.CombineIdeal.Hand

end
-- ==== Proof.CombineValue.lean ====
module

public import proofs.«01_k».proof.Defs
public import proofs.«01_k».proof.Proof.CombineEntry
public import proofs.«01_k».proof.Proof.Gen.CombineRefIdeal.Read
public import proofs.«01_k».proof.Proof.Gen.CombineRefIdeal.Run
public import Idealize.ShloMosaic.Lib.IdealHost

@[expose] public section

set_option maxRecDepth 16384

noncomputable section

namespace Cert.CombineIdeal.Hand

open Cert.CombineIdeal Cert.CombineIdeal.Gen Cert.CombineRefIdeal.Read
open Idealize.ShloMosaic Idealize.ShloMosaic.TcCoe Idealize.SL.Sem

variable (x : Vec Ideal S1x2048x768 .f32) (c f s : Vec Ideal S12x2048x64 .f32) (sw : Vec Ideal S36x768 .f32) (sb : Vec Ideal S36 .f32) (cw : Vec Ideal S768x768 .f32)

/-- The reference's gate of row `T`, column `j`. -/
theorem ref_gate (T : Fin 2048) (j : Fin 36) :
    val_main_v13 (F := Ideal) x sw sb (ix3 0 T j) = gate (fun k => x (ix3 0 T k)) (fun k => sw (ix2 j k)) (sb (ix1 j)) := by
  have hl : ∀ k, lidx_main_v4 (ix3 0 T j) k = ix3 0 T k := fun k => funext fun a => match a with | ⟨0, _⟩ => rfl | ⟨1, _⟩ => rfl | ⟨2, _⟩ => rfl
  have hr : ∀ k, idx_main_v3 (ridx_main_v4 (ix3 0 T j) k) = ix2 j k := fun k => funext fun a => match a with | ⟨0, _⟩ => rfl | ⟨1, _⟩ => rfl
  have hb : idx_main_v5 (idx_main_v6 (ix3 0 T j)) = ix1 j := funext fun a => match a with | ⟨0, _⟩ => rfl
  rw [val_main_v13_apply, val_main_v12_apply, val_main_cst_0_apply, val_main_v11_apply, val_main_v10_apply, val_main_cst_apply, val_main_v9_apply, val_main_v8_apply, val_main_v7_apply,
    val_main_v4_apply, val_main_v6_apply, val_main_v5_apply, hb]
  simp only [hl, val_main_v3_apply, hr]
  unfold gate
  show Ideal.div (Ideal.ofBits .f32 0x3F800000#32) (Ideal.ofBits .f32 0x3F800000#32 + Ideal.exp (-(_ + _))) = _
  rw [Ideal.ofBits_one_f32]

/-- The gates, head by head: gate `p` of head `h` is column `3 h + p`. -/
theorem ref_gates (h : Fin 12) (T : Fin 2048) (p : Fin 3) (j : Fin 36) (hj : j.val = 3 * h.val + p.val) :
    val_main_v15 (F := Ideal) x sw sb (ix4 0 h T p) = gate (fun k => x (ix3 0 T k)) (fun k => sw (ix2 j k)) (sb (ix1 j)) := by
  have hT := T.isLt
  have hh := h.isLt
  have hp := p.isLt
  rw [val_main_v15_apply, val_main_v14_apply]
  refine (congrArg (val_main_v13 (F := Ideal) x sw sb) (funext fun a => Fin.ext ?_)).trans (ref_gate x sw sb T j)
  match a with
  | ⟨0, _⟩ => rfl
  | ⟨1, _⟩ => show (((0 * 2048 + T.val) * 12 + h.val) * 3 + p.val) / 36 % 2048 = T.val; omega
  | ⟨2, _⟩ => show (((0 * 2048 + T.val) * 12 + h.val) * 3 + p.val) % 36 = j.val; omega

/-- The reference's gated sum at head `h`, row `T`, component `d`. -/
theorem ref_sum (h : Fin 12) (T : Fin 2048) (d : Fin 64) :
    val_main_v26 (F := Ideal) x c f s sw sb (ix4 0 h T d)
      = val_main_v15 (F := Ideal) x sw sb (ix4 0 h T 0) * c (ix3 h T d) + val_main_v15 (F := Ideal) x sw sb (ix4 0 h T 1) * f (ix3 h T d)
        + val_main_v15 (F := Ideal) x sw sb (ix4 0 h T 2) * s (ix3 h T d) := by
  rw [val_main_v26_apply, val_main_v22_apply, val_main_v18_apply, val_main_v21_apply, val_main_v25_apply, val_main_v17_apply, val_main_v16_apply, val_main_v20_apply, val_main_v19_apply,
    val_main_v24_apply, val_main_v23_apply, val_main_v0_apply, val_main_v1_apply, val_main_v2_apply]
  refine congrArg₂ (fun a b : EReal => a + b) (congrArg₂ (fun a b : EReal => a + b) (congrArg₂ (fun a b : EReal => a * b) (congrArg _ ?_) (congrArg _ ?_))
    (congrArg₂ (fun a b : EReal => a * b) (congrArg _ ?_) (congrArg _ ?_))) (congrArg₂ (fun a b : EReal => a * b) (congrArg _ ?_) (congrArg _ ?_))
  all_goals first
    | exact funext fun a => match a with | ⟨0, _⟩ => rfl | ⟨1, _⟩ => rfl | ⟨2, _⟩ => rfl | ⟨3, _⟩ => rfl
    | exact funext fun a => match a with | ⟨0, _⟩ => rfl | ⟨1, _⟩ => rfl | ⟨2, _⟩ => rfl

/-- A sum over 768 columns is a sum over 12 heads of 64 components. -/
theorem sum_columns (S : Fin 768 → EReal) : ∑ k, S k = ∑ h : Fin 12, ∑ d : Fin 64, S ⟨64 * h.val + d.val, by omega⟩ := by
  rw [← Fintype.sum_prod_type' (f := fun (h : Fin 12) (d : Fin 64) => S ⟨64 * h.val + d.val, by omega⟩)]
  refine (Fintype.sum_equiv (finProdFinEquiv (m := 12) (n := 64)) _ _ fun q => ?_).symm
  refine congrArg S (Fin.ext ?_)
  show 64 * q.1.val + q.2.val = q.2.val + 64 * q.1.val
  omega

/-- The reference's result, entry by entry. -/
theorem combined_at (T : Fin 2048) (e : Fin 768) : val_main_v31 (F := Ideal) x c f s sw sb cw (ix2 T e) = combined x c f s sw sb cw T e := by
  have hT := T.isLt
  have he := e.isLt
  have hi : idx_main_v31 (ix2 T e) = ix3 0 T e := by
    funext a
    apply Fin.ext
    match a with
    | ⟨0, _⟩ => rfl
    | ⟨1, _⟩ => show (T.val * 768 + e.val) / 768 % 2048 = T.val; omega
    | ⟨2, _⟩ => show (T.val * 768 + e.val) % 768 = e.val; omega
  rw [val_main_v31_apply, hi, val_main_v30_apply, sum_columns]
  unfold combined headPart
  refine Finset.sum_congr rfl fun h _ => Finset.sum_congr rfl fun d _ => ?_
  have hh := h.isLt
  have hd := d.isLt
  refine congrArg₂ (fun a b : EReal => a * b) ?_ ?_
  · rw [val_main_v28_apply, val_main_v27_apply]
    refine (congrArg (val_main_v26 (F := Ideal) x c f s sw sb) (funext fun a => Fin.ext ?_)).trans ((ref_sum x c f s sw sb h T d).trans ?_)
    · match a with
      | ⟨0, _⟩ => rfl
      | ⟨1, _⟩ => show ((0 * 2048 + T.val) * 768 + (64 * h.val + d.val)) / 64 % 12 = h.val; omega
      | ⟨2, _⟩ => show ((0 * 2048 + T.val) * 768 + (64 * h.val + d.val)) / 768 % 2048 = T.val; omega
      | ⟨3, _⟩ => show ((0 * 2048 + T.val) * 768 + (64 * h.val + d.val)) % 64 = d.val; omega
    · rw [ref_gates x sw sb h T 0 ⟨3 * h.val, by omega⟩ rfl, ref_gates x sw sb h T 1 ⟨3 * h.val + 1, by omega⟩ rfl, ref_gates x sw sb h T 2 ⟨3 * h.val + 2, by omega⟩ rfl]
  · rw [val_main_v29_apply]
    exact congrArg cw (funext fun a => match a with | ⟨0, _⟩ => rfl | ⟨1, _⟩ => rfl)

/-- The reference runs to its end, its arguments unchanged and every semaphore counter at zero. -/
theorem frame_ref : quiescent_CombineRefIdeal := fun m g _ =>
  (θ_run Cert.CombineRefIdeal.defs _ _).mono
    (fun r h => ⟨fun c => (h c).2, sem_eq_zero_of_no_sems (by decide) r.2⟩)
    (Cert.CombineRefIdeal.Value.run (F := Ideal) m g)

/-- The kernel and the reference end with equal outputs. -/
theorem algebraic : algebraic_CombineIdeal_CombineRefIdeal := by
  intro m g m' g' hpre hm
  refine ⟨fun c => (dats m 0 c).arrAt 7 cfg0.N, Value.run_blocks m g, ?_⟩
  refine (θ_run Cert.CombineRefIdeal.defs _ _).mono (fun r h c => ?_) (Cert.CombineRefIdeal.Value.run m' g')
  obtain ⟨h1, h3⟩ := h c
  obtain ⟨e0, e1, e2, e3, e4, e5, e6⟩ := hm c
  refine ⟨h1.trans ?_, h3⟩
  rw [Cert.CombineRefIdeal.Read.val_main_v31_eq, e0, e1, e2, e3, e4, e5, e6]
  exact (final_7 m c _ fun T e => (combined_at _ _ _ _ _ _ _ T e).symm).symm

end Cert.CombineIdeal.Hand

end
-- ==== Proof.lean ====
module

public import proofs.«01_k».proof.Defs
public import proofs.«01_k».proof.Proof.Gen.Qkv.Frame
public import proofs.«01_k».proof.Proof.QkvValue
public import proofs.«01_k».proof.Proof.Gen.Compress.Frame
public import proofs.«01_k».proof.Proof.CompressValue
public import proofs.«01_k».proof.Proof.Gen.Cattn
public import proofs.«01_k».proof.Proof.CattnWordFrame
public import proofs.«01_k».proof.Proof.CattnValue
public import proofs.«01_k».proof.Proof.Gen.Fine
public import proofs.«01_k».proof.Proof.FineWordFrame
public import proofs.«01_k».proof.Proof.FineValue
public import proofs.«01_k».proof.Proof.Gen.Combine.Frame
public import proofs.«01_k».proof.Proof.CombineValue

@[expose] public section

noncomputable section

namespace Cert.Proof

open Idealize.ShloMosaic Idealize.SL.Sem

/-- The reference of the compressed attention call runs to its end from every memory, its four arguments unchanged and every semaphore
    counter at zero (it declares none). -/
theorem frame_cattn_ref : quiescent_CattnRefIdeal := fun m g _ =>
  (θ_run Cert.CattnRefIdeal.defs _ _).mono
    (fun r h => ⟨fun c => (h c).2.2, sem_eq_zero_of_no_sems (by decide) r.2⟩)
    (Cert.CattnRefIdeal.Value.run (F := Ideal) m g)

/-- The reference of the fine attention call runs to its end from every memory, its four arguments unchanged and every semaphore
    counter at zero (it declares none). -/
theorem frame_fine_ref : quiescent_FineRefIdeal := fun m g _ =>
  (θ_run Cert.FineRefIdeal.defs _ _).mono
    (fun r h => ⟨fun c => (h c).2.2, sem_eq_zero_of_no_sems (by decide) r.2⟩)
    (Cert.FineRefIdeal.Value.run (F := Ideal) m g)

/-- Every claim of this directory. -/
theorem claim : Cert.Claim := ⟨Cert.Qkv.Gen.facts, Cert.QkvIdeal.Gen.facts, Cert.QkvRefIdeal.Gen.facts, Cert.Compress.Gen.facts, Cert.CompressIdeal.Gen.facts, Cert.CompressRefIdeal.Gen.facts, Cert.Cattn.Gen.facts, Cert.CattnIdeal.Gen.facts, Cert.CattnRefIdeal.Gen.facts, Cert.Fine.Gen.facts, Cert.FineIdeal.Gen.facts, Cert.FineRefIdeal.Gen.facts, Cert.Combine.Gen.facts, Cert.CombineIdeal.Gen.facts, Cert.CombineRefIdeal.Gen.facts, Cert.Pre_finite_cattn.Gen.facts, Cert.Pre_finite_fine.Gen.facts,
  fun m g _ => Cert.Qkv.Gen.frame m g,
  fun m g _ => Cert.QkvIdeal.Gen.frame m g,
  Cert.QkvIdeal.Hand.frame_ref,
  fun m g _ => Cert.Compress.Gen.frame m g,
  fun m g _ => Cert.CompressIdeal.Gen.frame m g,
  Cert.CompressIdeal.Hand.frame_ref,
  fun m g _ => Cert.Cattn.Hand.frame m g,
  fun m g _ => Cert.CattnIdeal.Hand.frame m g,
  fun m g _ => Cert.CattnIdeal.Hand.frame m g,
  frame_cattn_ref,
  fun m g _ => frame_cattn_ref m g trivial,
  fun m g _ => Cert.Fine.Hand.frame m g,
  fun m g _ => Cert.FineIdeal.Hand.frame m g,
  fun m g _ => Cert.FineIdeal.Hand.frame m g,
  frame_fine_ref,
  fun m g _ => frame_fine_ref m g trivial,
  fun m g _ => Cert.Combine.Gen.frame m g,
  fun m g _ => Cert.CombineIdeal.Gen.frame m g,
  Cert.CombineIdeal.Hand.frame_ref,
  trivial,
  Cert.QkvIdeal.Hand.algebraic,
  trivial,
  Cert.CompressIdeal.Hand.algebraic,
  trivial,
  Cert.CattnIdeal.Hand.algebraic,
  trivial,
  Cert.FineIdeal.Hand.algebraic,
  trivial,
  Cert.CombineIdeal.Hand.algebraic⟩

end Cert.Proof

end
